-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_fits_KernelIdeal [hPre_fits_KernelIdeal : Cert.Pre_fits_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_fits_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_fits_ReferenceIdeal [hPre_fits_ReferenceIdeal : Cert.Pre_fits_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_fits_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_fits_KernelIdeal [hKernelIdeal : Cert.KernelIdeal.Facts] [hPre_fits_KernelIdeal : Cert.Pre_fits_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_fits_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_fits_ReferenceIdeal [hReferenceIdeal : Cert.ReferenceIdeal.Facts] [hPre_fits_ReferenceIdeal : Cert.Pre_fits_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_fits_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_fits_KernelIdeal [hKernelIdeal : Cert.KernelIdeal.Facts] [hReferenceIdeal : Cert.ReferenceIdeal.Facts] [hPre_fits_KernelIdeal : Cert.Pre_fits_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_fits_KernelIdeal m →
    (∀ c : Dev Cert.KernelIdeal.nD,
      m ((c.tc : Thread Cert.KernelIdeal.nD Cert.KernelIdeal.τ).loc Cert.KernelIdeal.main_arg0) = Layout.block ⟨2, ![2048, 512]⟩ ⟨2, ![16384, 512]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨2, ![2048, 1]⟩ ⟨2, ![16384, 1]⟩ 0 8 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨3, ![8, 512, 1024]⟩ ⟨3, ![64, 512, 1024]⟩ 0 8 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![2048, 1024]⟩ ⟨2, ![16384, 1024]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v17) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_fits_KernelIdeal : Cert.Pre_fits_KernelIdeal.Facts) (hPre_fits_ReferenceIdeal : Cert.Pre_fits_ReferenceIdeal.Facts),
    quiescent_Kernel (hKernel := hKernel)
    ∧ quiescent_KernelIdeal (hKernelIdeal := hKernelIdeal)
    ∧ quiescent_KernelIdeal_pre_fits_KernelIdeal (hKernelIdeal := hKernelIdeal) (hPre_fits_KernelIdeal := hPre_fits_KernelIdeal)
    ∧ quiescent_ReferenceIdeal (hReferenceIdeal := hReferenceIdeal)
    ∧ quiescent_ReferenceIdeal_pre_fits_ReferenceIdeal (hReferenceIdeal := hReferenceIdeal) (hPre_fits_ReferenceIdeal := hPre_fits_ReferenceIdeal)
    ∧ preserves_Kernel_KernelIdeal
    ∧ algebraic_KernelIdeal_ReferenceIdeal_pre_fits_KernelIdeal (hKernelIdeal := hKernelIdeal) (hReferenceIdeal := hReferenceIdeal) (hPre_fits_KernelIdeal := hPre_fits_KernelIdeal)
-- ==== Pre_fits_KernelIdeal.lean ====
abbrev S2048x512 : Shape := ⟨2, ![2048, 512]⟩
abbrev S512x64 : Shape := ⟨2, ![512, 64]⟩
abbrev S2048x1 : Shape := ⟨2, ![2048, 1]⟩
abbrev S8x512x1024 : Shape := ⟨3, ![8, 512, 1024]⟩
abbrev S64 : Shape := ⟨1, ![64]⟩
abbrev S1x64 : Shape := ⟨2, ![1, 64]⟩
abbrev S2048x64 : Shape := ⟨2, ![2048, 64]⟩
abbrev S_ : Shape := ⟨0, ![]⟩
abbrev S8x8 : Shape := ⟨2, ![8, 8]⟩
abbrev S8 : Shape := ⟨1, ![8]⟩

class Facts : Prop where
  bcast_S64_S1x64_1 : S64.BroadcastsInDim S1x64 (![1] : Fin 1 → Fin S1x64.rank)
  bcast_S2048x1_S2048x64_0_1 : S2048x1.BroadcastsInDim S2048x64 (![0, 1] : Fin 2 → Fin S2048x64.rank)
  bcast_S1x64_S2048x64_0_1 : S1x64.BroadcastsInDim S2048x64 (![0, 1] : Fin 2 → Fin S2048x64.rank)
  natLt_1_32 : 1 < 32
  reducesTo_S2048x64_S64_d0 : S2048x64.ReducesTo [0] S64
  h_S_ : 0 < S_.numel
  bcast_S_S64 : S_.BroadcastsInDim S64 (![] : Fin 0 → Fin S64.rank)
  reducesTo_S64_S_d0 : S64.ReducesTo [0] S_
  shapeCasts_S64_S8x8 : S64.ShapeCasts S8x8
  reducesTo_S8x8_S8_d1 : S8x8.ReducesTo [1] S8
  bcast_S_S8 : S_.BroadcastsInDim S8 (![] : Fin 0 → Fin S8.rank)
  reducesTo_S8_S_d0 : S8.ReducesTo [0] S_

variable [Facts]

def fn {F : FTy → Type} [FloatOps F] (main_arg0 : FVec F S2048x512 .bf16) (main_arg1 : FVec F S512x64 .bf16) (main_arg2 : IVec S2048x1 32) (main_arg3 : FVec F S8x512x1024 .bf16) : IVec S_ 1 :=
  let main_v0 : IVec S64 32 := iotaInDim S64 32 0
  let main_v1 : IVec S1x64 32 := broadcastInDim S1x64 ![1] bcast_S64_S1x64_1 main_v0
  let main_v2 : IVec S2048x64 32 := broadcastInDim S2048x64 ![0, 1] bcast_S2048x1_S2048x64_0_1 main_arg2
  let main_v3 : IVec S2048x64 32 := broadcastInDim S2048x64 ![0, 1] bcast_S1x64_S2048x64_0_1 main_v1
  let main_v4 : IVec S2048x64 1 := cmpi .eq main_v2 main_v3
  let main_v5 : IVec S2048x64 32 := (extui 32 · natLt_1_32) main_v4
  let main_c : IVec S_ 32 := constantI S_ 32 0#32
  let main_v6 : IVec S64 32 := (fun x v => Host.reduce IntOp.addi x v reducesTo_S2048x64_S64_d0 h_S_) main_v5 main_c
  let main_c_0 : IVec S_ 32 := constantI S_ 32 80#32
  let main_v7 : IVec S64 32 := broadcastInDim S64 ![] bcast_S_S64 main_c_0
  let main_v8 : IVec S64 1 := cmpi .sle main_v6 main_v7
  let main_c_1 : IVec S_ 1 := constantI S_ 1 1#1
  let main_v9 : IVec S_ 1 := (fun x v => Host.reduce IntOp.andi x v reducesTo_S64_S_d0 h_S_) main_v8 main_c_1
  let main_v10 : IVec S8x8 32 := shapeCast S8x8 main_v6 shapeCasts_S64_S8x8
  let main_c_2 : IVec S_ 32 := constantI S_ 32 0#32
  let main_v11 : IVec S8 32 := (fun x v => Host.reduce IntOp.addi x v reducesTo_S8x8_S8_d1 h_S_) main_v10 main_c_2
  let main_c_3 : IVec S_ 32 := constantI S_ 32 384#32
  let main_v12 : IVec S8 32 := broadcastInDim S8 ![] bcast_S_S8 main_c_3
  let main_v13 : IVec S8 1 := cmpi .sle main_v11 main_v12
  let main_c_4 : IVec S_ 1 := constantI S_ 1 1#1
  let main_v14 : IVec S_ 1 := (fun x v => Host.reduce IntOp.andi x v reducesTo_S8_S_d0 h_S_) main_v13 main_c_4
  let main_v15 : IVec S_ 1 := andi main_v9 main_v14
  main_v15
-- ==== Pre_fits_ReferenceIdeal.lean ====
abbrev S16384x512 : Shape := ⟨2, ![16384, 512]⟩
abbrev S512x64 : Shape := ⟨2, ![512, 64]⟩
abbrev S16384x1 : Shape := ⟨2, ![16384, 1]⟩
abbrev S64x512x1024 : Shape := ⟨3, ![64, 512, 1024]⟩
abbrev S64 : Shape := ⟨1, ![64]⟩
abbrev S1x64 : Shape := ⟨2, ![1, 64]⟩
abbrev S16384x64 : Shape := ⟨2, ![16384, 64]⟩
abbrev S_ : Shape := ⟨0, ![]⟩
abbrev S8x8 : Shape := ⟨2, ![8, 8]⟩
abbrev S8 : Shape := ⟨1, ![8]⟩

class Facts : Prop where
  bcast_S64_S1x64_1 : S64.BroadcastsInDim S1x64 (![1] : Fin 1 → Fin S1x64.rank)
  bcast_S16384x1_S16384x64_0_1 : S16384x1.BroadcastsInDim S16384x64 (![0, 1] : Fin 2 → Fin S16384x64.rank)
  bcast_S1x64_S16384x64_0_1 : S1x64.BroadcastsInDim S16384x64 (![0, 1] : Fin 2 → Fin S16384x64.rank)
  natLt_1_32 : 1 < 32
  reducesTo_S16384x64_S64_d0 : S16384x64.ReducesTo [0] S64
  h_S_ : 0 < S_.numel
  bcast_S_S64 : S_.BroadcastsInDim S64 (![] : Fin 0 → Fin S64.rank)
  reducesTo_S64_S_d0 : S64.ReducesTo [0] S_
  shapeCasts_S64_S8x8 : S64.ShapeCasts S8x8
  reducesTo_S8x8_S8_d1 : S8x8.ReducesTo [1] S8
  bcast_S_S8 : S_.BroadcastsInDim S8 (![] : Fin 0 → Fin S8.rank)
  reducesTo_S8_S_d0 : S8.ReducesTo [0] S_

variable [Facts]

def fn {F : FTy → Type} [FloatOps F] (main_arg0 : FVec F S16384x512 .bf16) (main_arg1 : FVec F S512x64 .bf16) (main_arg2 : IVec S16384x1 32) (main_arg3 : FVec F S64x512x1024 .bf16) : IVec S_ 1 :=
  let main_v0 : IVec S64 32 := iotaInDim S64 32 0
  let main_v1 : IVec S1x64 32 := broadcastInDim S1x64 ![1] bcast_S64_S1x64_1 main_v0
  let main_v2 : IVec S16384x64 32 := broadcastInDim S16384x64 ![0, 1] bcast_S16384x1_S16384x64_0_1 main_arg2
  let main_v3 : IVec S16384x64 32 := broadcastInDim S16384x64 ![0, 1] bcast_S1x64_S16384x64_0_1 main_v1
  let main_v4 : IVec S16384x64 1 := cmpi .eq main_v2 main_v3
  let main_v5 : IVec S16384x64 32 := (extui 32 · natLt_1_32) main_v4
  let main_c : IVec S_ 32 := constantI S_ 32 0#32
  let main_v6 : IVec S64 32 := (fun x v => Host.reduce IntOp.addi x v reducesTo_S16384x64_S64_d0 h_S_) main_v5 main_c
  let main_c_0 : IVec S_ 32 := constantI S_ 32 80#32
  let main_v7 : IVec S64 32 := broadcastInDim S64 ![] bcast_S_S64 main_c_0
  let main_v8 : IVec S64 1 := cmpi .sle main_v6 main_v7
  let main_c_1 : IVec S_ 1 := constantI S_ 1 1#1
  let main_v9 : IVec S_ 1 := (fun x v => Host.reduce IntOp.andi x v reducesTo_S64_S_d0 h_S_) main_v8 main_c_1
  let main_v10 : IVec S8x8 32 := shapeCast S8x8 main_v6 shapeCasts_S64_S8x8
  let main_c_2 : IVec S_ 32 := constantI S_ 32 0#32
  let main_v11 : IVec S8 32 := (fun x v => Host.reduce IntOp.addi x v reducesTo_S8x8_S8_d1 h_S_) main_v10 main_c_2
  let main_c_3 : IVec S_ 32 := constantI S_ 32 384#32
  let main_v12 : IVec S8 32 := broadcastInDim S8 ![] bcast_S_S8 main_c_3
  let main_v13 : IVec S8 1 := cmpi .sle main_v11 main_v12
  let main_c_4 : IVec S_ 1 := constantI S_ 1 1#1
  let main_v14 : IVec S_ 1 := (fun x v => Host.reduce IntOp.andi x v reducesTo_S8_S_d0 h_S_) main_v13 main_c_4
  let main_v15 : IVec S_ 1 := andi main_v9 main_v14
  main_v15
-- ==== Kernel.lean ====
abbrev S2048x512 : Shape := ⟨2, ![2048, 512]⟩
abbrev S512x64 : Shape := ⟨2, ![512, 64]⟩
abbrev S2048x1 : Shape := ⟨2, ![2048, 1]⟩
abbrev S8x512x1024 : Shape := ⟨3, ![8, 512, 1024]⟩
abbrev S2048x1024 : Shape := ⟨2, ![2048, 1024]⟩
abbrev S2048x384 : Shape := ⟨2, ![2048, 384]⟩
abbrev S7x384x512 : Shape := ⟨3, ![7, 384, 512]⟩
abbrev S8x384x512 : Shape := ⟨3, ![8, 384, 512]⟩
abbrev S8x640x512 : Shape := ⟨3, ![8, 640, 512]⟩
abbrev S8x640x1024 : Shape := ⟨3, ![8, 640, 1024]⟩
abbrev S8x384x1024 : Shape := ⟨3, ![8, 384, 1024]⟩
abbrev S8x384x640 : Shape := ⟨3, ![8, 384, 640]⟩
abbrev S8x64 : Shape := ⟨2, ![8, 64]⟩
abbrev S7 : Shape := ⟨1, ![7]⟩
abbrev S_ : Shape := ⟨0, ![]⟩
abbrev S2048x64 : Shape := ⟨2, ![2048, 64]⟩
abbrev S64 : Shape := ⟨1, ![64]⟩
abbrev S1x64 : Shape := ⟨2, ![1, 64]⟩
abbrev S1 : Shape := ⟨1, ![1]⟩
abbrev S2047x64 : Shape := ⟨2, ![2047, 64]⟩
abbrev S2x64 : Shape := ⟨2, ![2, 64]⟩
abbrev S2046x64 : Shape := ⟨2, ![2046, 64]⟩
abbrev S4x64 : Shape := ⟨2, ![4, 64]⟩
abbrev S2044x64 : Shape := ⟨2, ![2044, 64]⟩
abbrev S2040x64 : Shape := ⟨2, ![2040, 64]⟩
abbrev S16x64 : Shape := ⟨2, ![16, 64]⟩
abbrev S2032x64 : Shape := ⟨2, ![2032, 64]⟩
abbrev S32x64 : Shape := ⟨2, ![32, 64]⟩
abbrev S2016x64 : Shape := ⟨2, ![2016, 64]⟩
abbrev S64x64 : Shape := ⟨2, ![64, 64]⟩
abbrev S1984x64 : Shape := ⟨2, ![1984, 64]⟩
abbrev S128x64 : Shape := ⟨2, ![128, 64]⟩
abbrev S1920x64 : Shape := ⟨2, ![1920, 64]⟩
abbrev S256x64 : Shape := ⟨2, ![256, 64]⟩
abbrev S1792x64 : Shape := ⟨2, ![1792, 64]⟩
abbrev S1536x64 : Shape := ⟨2, ![1536, 64]⟩
abbrev S1024x64 : Shape := ⟨2, ![1024, 64]⟩
abbrev S2048 : Shape := ⟨1, ![2048]⟩
abbrev S7x64 : Shape := ⟨2, ![7, 64]⟩
abbrev S6x64 : Shape := ⟨2, ![6, 64]⟩
abbrev S8x1 : Shape := ⟨2, ![8, 1]⟩
abbrev S8x63 : Shape := ⟨2, ![8, 63]⟩
abbrev S8x2 : Shape := ⟨2, ![8, 2]⟩
abbrev S8x62 : Shape := ⟨2, ![8, 62]⟩
abbrev S8x3 : Shape := ⟨2, ![8, 3]⟩
abbrev S8x61 : Shape := ⟨2, ![8, 61]⟩
abbrev S8x4 : Shape := ⟨2, ![8, 4]⟩
abbrev S8x60 : Shape := ⟨2, ![8, 60]⟩
abbrev S8x5 : Shape := ⟨2, ![8, 5]⟩
abbrev S8x59 : Shape := ⟨2, ![8, 59]⟩
abbrev S8x6 : Shape := ⟨2, ![8, 6]⟩
abbrev S8x58 : Shape := ⟨2, ![8, 58]⟩
abbrev S8x7 : Shape := ⟨2, ![8, 7]⟩
abbrev S8x57 : Shape := ⟨2, ![8, 57]⟩
abbrev S1x640 : Shape := ⟨2, ![1, 640]⟩
abbrev S384x1 : Shape := ⟨2, ![384, 1]⟩
abbrev S384x512 : Shape := ⟨2, ![384, 512]⟩
abbrev S1x384x512 : Shape := ⟨3, ![1, 384, 512]⟩
abbrev S1x1x64 : Shape := ⟨3, ![1, 1, 64]⟩
abbrev S1x1x1 : Shape := ⟨3, ![1, 1, 1]⟩
abbrev S384x640 : Shape := ⟨2, ![384, 640]⟩
abbrev S1x384x640 : Shape := ⟨3, ![1, 384, 640]⟩
abbrev S640x512 : Shape := ⟨2, ![640, 512]⟩
abbrev S1x640x512 : Shape := ⟨3, ![1, 640, 512]⟩
abbrev S8x80x512 : Shape := ⟨3, ![8, 80, 512]⟩
abbrev S1x512x1024 : Shape := ⟨3, ![1, 512, 1024]⟩
abbrev S512x1024 : Shape := ⟨2, ![512, 1024]⟩
abbrev S640x1024 : Shape := ⟨2, ![640, 1024]⟩
abbrev S8x80x1024 : Shape := ⟨3, ![8, 80, 1024]⟩
abbrev S1x640x1024 : Shape := ⟨3, ![1, 640, 1024]⟩
abbrev S384x1024 : Shape := ⟨2, ![384, 1024]⟩
abbrev S1x384x1024 : Shape := ⟨3, ![1, 384, 1024]⟩

abbrev nBuf : Space → Nat
  | .hbm => 5
  | .vmem => 13
  | .smem => 0
  | _ => 0

abbrev bufTy : (tb : Table) → Fin (tcTables nBuf tb) → BufTy
  | .hbm, ⟨0, _⟩ => ⟨S2048x512, .bf16⟩
  | .hbm, ⟨1, _⟩ => ⟨S512x64, .bf16⟩
  | .hbm, ⟨2, _⟩ => ⟨S2048x1, .i32⟩
  | .hbm, ⟨3, _⟩ => ⟨S8x512x1024, .bf16⟩
  | .hbm, ⟨4, _⟩ => ⟨S2048x1024, .bf16⟩
  | .local _ .vmem, ⟨0, _⟩ => ⟨S2048x512, .bf16⟩
  | .local _ .vmem, ⟨1, _⟩ => ⟨S2048x1, .i32⟩
  | .local _ .vmem, ⟨2, _⟩ => ⟨S8x512x1024, .bf16⟩
  | .local _ .vmem, ⟨3, _⟩ => ⟨S2048x1024, .bf16⟩
  | .local _ .vmem, ⟨4, _⟩ => ⟨S2048x384, .bf16⟩
  | .local _ .vmem, ⟨5, _⟩ => ⟨S7x384x512, .bf16⟩
  | .local _ .vmem, ⟨6, _⟩ => ⟨S8x384x512, .bf16⟩
  | .local _ .vmem, ⟨7, _⟩ => ⟨S8x640x512, .bf16⟩
  | .local _ .vmem, ⟨8, _⟩ => ⟨S8x640x1024, .bf16⟩
  | .local _ .vmem, ⟨9, _⟩ => ⟨S8x384x1024, .bf16⟩
  | .local _ .vmem, ⟨10, _⟩ => ⟨S8x384x1024, .bf16⟩
  | .local _ .vmem, ⟨11, _⟩ => ⟨S8x384x640, .bf16⟩
  | .local _ .vmem, ⟨12, _⟩ => ⟨S8x64, .i32⟩
  | _, _ => ⟨S2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 1 → Bool
  | ⟨0, _⟩ => false
  | _ => false

abbrev dmaSemScoped : Fin 46 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | _ => false

abbrev sig : RefSig :=
  (ofTc nBuf bufTy 1 46 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_scratch5 : Ref sig .tc := ⟨.vmem, 9, rfl⟩
abbrev cc0_scratch6 : Ref sig .tc := ⟨.vmem, 10, rfl⟩
abbrev cc0_scratch7 : Ref sig .tc := ⟨.vmem, 11, rfl⟩
abbrev cc0_scratch8 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.addi v2 c1_i32_0
  let c8_i32_1 : BitVec 32 := 8#32
  let v5 : BitVec 32 := Scalar.remsi v4 c8_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v8 : BitVec 32 := Scalar.addi v2 c2_i32
  let c8_i32_4 : BitVec 32 := 8#32
  let v9 : BitVec 32 := Scalar.remsi v8 c8_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v12 : BitVec 32 := Scalar.addi v2 c3_i32
  let c8_i32_8 : BitVec 32 := 8#32
  let v13 : BitVec 32 := Scalar.remsi v12 c8_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v16 : BitVec 32 := Scalar.addi v2 c4_i32
  let c8_i32_12 : BitVec 32 := 8#32
  let v17 : BitVec 32 := Scalar.remsi v16 c8_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v20 : BitVec 32 := Scalar.addi v2 c5_i32
  let c8_i32_16 : BitVec 32 := 8#32
  let v21 : BitVec 32 := Scalar.remsi v20 c8_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v24 : BitVec 32 := Scalar.addi v2 c6_i32
  let c8_i32_20 : BitVec 32 := 8#32
  let v25 : BitVec 32 := Scalar.remsi v24 c8_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v28 : BitVec 32 := Scalar.addi v2 c7_i32
  let c8_i32_24 : BitVec 32 := 8#32
  let v29 : BitVec 32 := Scalar.remsi v28 c8_i32_24
  let c1_i32_26 : BitVec 32 := 1#32
  let v30 : BitVec 32 := Scalar.muli v29 c1_i32_26
  let v31 : BitVec 32 := Scalar.addi c0_i32_27 v30
  v31.toNat
def k0_off1 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v40 : Index := Scalar.indexCast v2
  let c0_30 : Index := 0#32
  ![v40.toNat, 0]
def k0_off2 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_37 : BitVec 32 := 0#32
  ![v2.toNat, 0]
def k0_dev8 (d0 : Dev nD) : Nat :=
  let c0_i32_36 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_31 : BitVec 32 := 1#32
  let v44 : BitVec 32 := Scalar.addi v2 c1_i32_31
  let c8_i32_32 : BitVec 32 := 8#32
  let v45 : BitVec 32 := Scalar.remsi v44 c8_i32_32
  let c1_i32_35 : BitVec 32 := 1#32
  let v46 : BitVec 32 := Scalar.muli v45 c1_i32_35
  let v47 : BitVec 32 := Scalar.addi c0_i32_36 v46
  v47.toNat
def k0_dev9 (d0 : Dev nD) : Nat :=
  let c0_i32_44 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_39 : BitVec 32 := 2#32
  let v54 : BitVec 32 := Scalar.addi v2 c2_i32_39
  let c8_i32_40 : BitVec 32 := 8#32
  let v55 : BitVec 32 := Scalar.remsi v54 c8_i32_40
  let c1_i32_43 : BitVec 32 := 1#32
  let v56 : BitVec 32 := Scalar.muli v55 c1_i32_43
  let v57 : BitVec 32 := Scalar.addi c0_i32_44 v56
  v57.toNat
def k0_dev10 (d0 : Dev nD) : Nat :=
  let c0_i32_52 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_47 : BitVec 32 := 3#32
  let v64 : BitVec 32 := Scalar.addi v2 c3_i32_47
  let c8_i32_48 : BitVec 32 := 8#32
  let v65 : BitVec 32 := Scalar.remsi v64 c8_i32_48
  let c1_i32_51 : BitVec 32 := 1#32
  let v66 : BitVec 32 := Scalar.muli v65 c1_i32_51
  let v67 : BitVec 32 := Scalar.addi c0_i32_52 v66
  v67.toNat
def k0_dev11 (d0 : Dev nD) : Nat :=
  let c0_i32_60 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_55 : BitVec 32 := 4#32
  let v74 : BitVec 32 := Scalar.addi v2 c4_i32_55
  let c8_i32_56 : BitVec 32 := 8#32
  let v75 : BitVec 32 := Scalar.remsi v74 c8_i32_56
  let c1_i32_59 : BitVec 32 := 1#32
  let v76 : BitVec 32 := Scalar.muli v75 c1_i32_59
  let v77 : BitVec 32 := Scalar.addi c0_i32_60 v76
  v77.toNat
def k0_dev12 (d0 : Dev nD) : Nat :=
  let c0_i32_68 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_63 : BitVec 32 := 5#32
  let v84 : BitVec 32 := Scalar.addi v2 c5_i32_63
  let c8_i32_64 : BitVec 32 := 8#32
  let v85 : BitVec 32 := Scalar.remsi v84 c8_i32_64
  let c1_i32_67 : BitVec 32 := 1#32
  let v86 : BitVec 32 := Scalar.muli v85 c1_i32_67
  let v87 : BitVec 32 := Scalar.addi c0_i32_68 v86
  v87.toNat
def k0_dev13 (d0 : Dev nD) : Nat :=
  let c0_i32_76 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_71 : BitVec 32 := 6#32
  let v94 : BitVec 32 := Scalar.addi v2 c6_i32_71
  let c8_i32_72 : BitVec 32 := 8#32
  let v95 : BitVec 32 := Scalar.remsi v94 c8_i32_72
  let c1_i32_75 : BitVec 32 := 1#32
  let v96 : BitVec 32 := Scalar.muli v95 c1_i32_75
  let v97 : BitVec 32 := Scalar.addi c0_i32_76 v96
  v97.toNat
def k0_dev14 (d0 : Dev nD) : Nat :=
  let c0_i32_84 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_79 : BitVec 32 := 7#32
  let v104 : BitVec 32 := Scalar.addi v2 c7_i32_79
  let c8_i32_80 : BitVec 32 := 8#32
  let v105 : BitVec 32 := Scalar.remsi v104 c8_i32_80
  let c1_i32_83 : BitVec 32 := 1#32
  let v106 : BitVec 32 := Scalar.muli v105 c1_i32_83
  let v107 : BitVec 32 := Scalar.addi c0_i32_84 v106
  v107.toNat
def k0_off3 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_251 : BitVec 32 := 0#32
  let c0_i32_252 : BitVec 32 := 0#32
  ![v2.toNat, 0, 0]
def k0_dev15 (d0 : Dev nD) : Nat :=
  let c0_i32_250 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_235 : BitVec 32 := 1#32
  let v419 : BitVec 32 := Scalar.addi v2 c1_i32_235
  let c8_i32_236 : BitVec 32 := 8#32
  let v420 : BitVec 32 := Scalar.remsi v419 c8_i32_236
  let c1_i32_249 : BitVec 32 := 1#32
  let v437 : BitVec 32 := Scalar.muli v420 c1_i32_249
  let v438 : BitVec 32 := Scalar.addi c0_i32_250 v437
  v438.toNat
def k0_dev16 (d0 : Dev nD) : Nat :=
  let c0_i32_270 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_256 : BitVec 32 := 2#32
  let v445 : BitVec 32 := Scalar.addi v2 c2_i32_256
  let c8_i32_257 : BitVec 32 := 8#32
  let v446 : BitVec 32 := Scalar.remsi v445 c8_i32_257
  let c1_i32_269 : BitVec 32 := 1#32
  let v463 : BitVec 32 := Scalar.muli v446 c1_i32_269
  let v464 : BitVec 32 := Scalar.addi c0_i32_270 v463
  v464.toNat
def k0_dev17 (d0 : Dev nD) : Nat :=
  let c0_i32_290 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_276 : BitVec 32 := 3#32
  let v471 : BitVec 32 := Scalar.addi v2 c3_i32_276
  let c8_i32_277 : BitVec 32 := 8#32
  let v472 : BitVec 32 := Scalar.remsi v471 c8_i32_277
  let c1_i32_289 : BitVec 32 := 1#32
  let v489 : BitVec 32 := Scalar.muli v472 c1_i32_289
  let v490 : BitVec 32 := Scalar.addi c0_i32_290 v489
  v490.toNat
def k0_dev18 (d0 : Dev nD) : Nat :=
  let c0_i32_310 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_296 : BitVec 32 := 4#32
  let v497 : BitVec 32 := Scalar.addi v2 c4_i32_296
  let c8_i32_297 : BitVec 32 := 8#32
  let v498 : BitVec 32 := Scalar.remsi v497 c8_i32_297
  let c1_i32_309 : BitVec 32 := 1#32
  let v515 : BitVec 32 := Scalar.muli v498 c1_i32_309
  let v516 : BitVec 32 := Scalar.addi c0_i32_310 v515
  v516.toNat
def k0_dev19 (d0 : Dev nD) : Nat :=
  let c0_i32_330 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_316 : BitVec 32 := 5#32
  let v523 : BitVec 32 := Scalar.addi v2 c5_i32_316
  let c8_i32_317 : BitVec 32 := 8#32
  let v524 : BitVec 32 := Scalar.remsi v523 c8_i32_317
  let c1_i32_329 : BitVec 32 := 1#32
  let v541 : BitVec 32 := Scalar.muli v524 c1_i32_329
  let v542 : BitVec 32 := Scalar.addi c0_i32_330 v541
  v542.toNat
def k0_dev20 (d0 : Dev nD) : Nat :=
  let c0_i32_350 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_336 : BitVec 32 := 6#32
  let v549 : BitVec 32 := Scalar.addi v2 c6_i32_336
  let c8_i32_337 : BitVec 32 := 8#32
  let v550 : BitVec 32 := Scalar.remsi v549 c8_i32_337
  let c1_i32_349 : BitVec 32 := 1#32
  let v567 : BitVec 32 := Scalar.muli v550 c1_i32_349
  let v568 : BitVec 32 := Scalar.addi c0_i32_350 v567
  v568.toNat
def k0_dev21 (d0 : Dev nD) : Nat :=
  let c0_i32_370 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_356 : BitVec 32 := 7#32
  let v575 : BitVec 32 := Scalar.addi v2 c7_i32_356
  let c8_i32_357 : BitVec 32 := 8#32
  let v576 : BitVec 32 := Scalar.remsi v575 c8_i32_357
  let c1_i32_369 : BitVec 32 := 1#32
  let v593 : BitVec 32 := Scalar.muli v576 c1_i32_369
  let v594 : BitVec 32 := Scalar.addi c0_i32_370 v593
  v594.toNat
def k0_off4 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v615 : Index := Scalar.indexCast v2
  let c0_383 : Index := 0#32
  let c0_384 : Index := 0#32
  ![v615.toNat, 0, 0]
@[reducible] def k0_t1_loop : Scf.Loop 32 :=
  let c0_i32_504 : BitVec 32 := 0#32
  let c8_i32_505 : BitVec 32 := 8#32
  let v689 : BitVec 32 := Scalar.addi c0_i32_504 c8_i32_505
  let c1_i32_506 : BitVec 32 := 1#32
  ⟨c0_i32_504, v689, c1_i32_506⟩
def k0_off5 (k0_t1 : Fin k0_t1_loop.trips) : Fin 3 → Nat :=
  let c0_i32_504 : BitVec 32 := 0#32
  let c1_i32_506 : BitVec 32 := 1#32
  let arg19 : BitVec 32 := Scf.iv c0_i32_504 c1_i32_506 k0_t1
  let v1218 : Index := Scalar.indexCast arg19
  let c0_874 : Index := 0#32
  let c0_875 : Index := 0#32
  ![v1218.toNat, 0, 0]
def k0_off6 (k0_t1 : Fin k0_t1_loop.trips) : Fin 3 → Nat :=
  let c0_i32_504 : BitVec 32 := 0#32
  let c1_i32_506 : BitVec 32 := 1#32
  let arg19 : BitVec 32 := Scf.iv c0_i32_504 c1_i32_506 k0_t1
  let v1222 : Index := Scalar.indexCast arg19
  let c0_876 : Index := 0#32
  let c0_877 : Index := 0#32
  ![v1222.toNat, 0, 0]
def k0_off7 (k0_t1 : Fin k0_t1_loop.trips) : Fin 3 → Nat :=
  let c0_i32_504 : BitVec 32 := 0#32
  let c1_i32_506 : BitVec 32 := 1#32
  let arg19 : BitVec 32 := Scf.iv c0_i32_504 c1_i32_506 k0_t1
  let v1228 : Index := Scalar.indexCast arg19
  let c0_879 : Index := 0#32
  let c0_880 : Index := 0#32
  ![v1228.toNat, 0, 0]
@[reducible] def k0_t2_loop : Scf.Loop 32 :=
  let c0_i32_508 : BitVec 32 := 0#32
  let c8_i32_509 : BitVec 32 := 8#32
  let v690 : BitVec 32 := Scalar.addi c0_i32_508 c8_i32_509
  let c1_i32_510 : BitVec 32 := 1#32
  ⟨c0_i32_508, v690, c1_i32_510⟩
def k0_off8 (k0_t2 : Fin k0_t2_loop.trips) : Fin 3 → Nat :=
  let c0_803 : Index := 0#32
  let c0_i32_508 : BitVec 32 := 0#32
  let c1_i32_510 : BitVec 32 := 1#32
  let arg19 : BitVec 32 := Scf.iv c0_i32_508 c1_i32_510 k0_t2
  let c80_i32_802 : BitVec 32 := 80#32
  let v1000 : BitVec 32 := Scalar.muli arg19 c80_i32_802
  let v1001 : Index := Scalar.indexCast v1000
  let c0_804 : Index := 0#32
  ![0, v1001.toNat, 0]
def k0_off9 (k0_t2 : Fin k0_t2_loop.trips) : Fin 3 → Nat :=
  let c0_i32_508 : BitVec 32 := 0#32
  let c1_i32_510 : BitVec 32 := 1#32
  let arg19 : BitVec 32 := Scf.iv c0_i32_508 c1_i32_510 k0_t2
  let v1004 : Index := Scalar.indexCast arg19
  let c0_805 : Index := 0#32
  let c0_806 : Index := 0#32
  ![v1004.toNat, 0, 0]
def k0_off10 (k0_t2 : Fin k0_t2_loop.trips) : Fin 3 → Nat :=
  let c0_809 : Index := 0#32
  let c0_i32_508 : BitVec 32 := 0#32
  let c1_i32_510 : BitVec 32 := 1#32
  let arg19 : BitVec 32 := Scf.iv c0_i32_508 c1_i32_510 k0_t2
  let c80_i32_808 : BitVec 32 := 80#32
  let v1011 : BitVec 32 := Scalar.muli arg19 c80_i32_808
  let v1012 : Index := Scalar.indexCast v1011
  let c0_810 : Index := 0#32
  ![0, v1012.toNat, 0]
@[reducible] def k0_t3_loop : Scf.Loop 32 :=
  let c0_i32_512 : BitVec 32 := 0#32
  let c8_i32_513 : BitVec 32 := 8#32
  let v691 : BitVec 32 := Scalar.addi c0_i32_512 c8_i32_513
  let c1_i32_514 : BitVec 32 := 1#32
  ⟨c0_i32_512, v691, c1_i32_514⟩
def k0_off11 (k0_t3 : Fin k0_t3_loop.trips) : Fin 3 → Nat :=
  let c0_i32_512 : BitVec 32 := 0#32
  let c1_i32_514 : BitVec 32 := 1#32
  let arg19 : BitVec 32 := Scf.iv c0_i32_512 c1_i32_514 k0_t3
  let v1000 : Index := Scalar.indexCast arg19
  let c0_802 : Index := 0#32
  let c0_803 : Index := 0#32
  ![v1000.toNat, 0, 0]
def k0_off12 (k0_t3 : Fin k0_t3_loop.trips) : Fin 3 → Nat :=
  let c0_i32_512 : BitVec 32 := 0#32
  let c1_i32_514 : BitVec 32 := 1#32
  let arg19 : BitVec 32 := Scf.iv c0_i32_512 c1_i32_514 k0_t3
  let v1003 : Index := Scalar.indexCast arg19
  let c0_804 : Index := 0#32
  let c0_805 : Index := 0#32
  ![v1003.toNat, 0, 0]
def k0_off13 (k0_t3 : Fin k0_t3_loop.trips) : Fin 3 → Nat :=
  let c0_i32_512 : BitVec 32 := 0#32
  let c1_i32_514 : BitVec 32 := 1#32
  let arg19 : BitVec 32 := Scf.iv c0_i32_512 c1_i32_514 k0_t3
  let v1009 : Index := Scalar.indexCast arg19
  let c0_807 : Index := 0#32
  let c0_808 : Index := 0#32
  ![v1009.toNat, 0, 0]
def k0_off14 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_522 : BitVec 32 := 0#32
  let c0_i32_523 : BitVec 32 := 0#32
  ![v2.toNat, 0, 0]
def k0_off15 (d0 : Dev nD) (c1_i32_516 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v692 : BitVec 32 := Scalar.addi v2 c1_i32_516
  let c8_i32_517 : BitVec 32 := 8#32
  let v693 : BitVec 32 := Scalar.remsi v692 c8_i32_517
  let c0_i32_524 : BitVec 32 := 0#32
  let c0_i32_525 : BitVec 32 := 0#32
  ![v693.toNat, 0, 0]
def k0_dev22 (d0 : Dev nD) : Nat :=
  let c0_i32_521 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_516 : BitVec 32 := 1#32
  let v692 : BitVec 32 := Scalar.addi v2 c1_i32_516
  let c8_i32_517 : BitVec 32 := 8#32
  let v693 : BitVec 32 := Scalar.remsi v692 c8_i32_517
  let c1_i32_520 : BitVec 32 := 1#32
  let v694 : BitVec 32 := Scalar.muli v693 c1_i32_520
  let v695 : BitVec 32 := Scalar.addi c0_i32_521 v694
  v695.toNat
def k0_dev23 (d0 : Dev nD) : Nat :=
  let c0_i32_531 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_526 : BitVec 32 := 2#32
  let v702 : BitVec 32 := Scalar.addi v2 c2_i32_526
  let c8_i32_527 : BitVec 32 := 8#32
  let v703 : BitVec 32 := Scalar.remsi v702 c8_i32_527
  let c1_i32_530 : BitVec 32 := 1#32
  let v704 : BitVec 32 := Scalar.muli v703 c1_i32_530
  let v705 : BitVec 32 := Scalar.addi c0_i32_531 v704
  v705.toNat
def k0_dev24 (d0 : Dev nD) : Nat :=
  let c0_i32_541 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_536 : BitVec 32 := 3#32
  let v712 : BitVec 32 := Scalar.addi v2 c3_i32_536
  let c8_i32_537 : BitVec 32 := 8#32
  let v713 : BitVec 32 := Scalar.remsi v712 c8_i32_537
  let c1_i32_540 : BitVec 32 := 1#32
  let v714 : BitVec 32 := Scalar.muli v713 c1_i32_540
  let v715 : BitVec 32 := Scalar.addi c0_i32_541 v714
  v715.toNat
def k0_dev25 (d0 : Dev nD) : Nat :=
  let c0_i32_551 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_546 : BitVec 32 := 4#32
  let v722 : BitVec 32 := Scalar.addi v2 c4_i32_546
  let c8_i32_547 : BitVec 32 := 8#32
  let v723 : BitVec 32 := Scalar.remsi v722 c8_i32_547
  let c1_i32_550 : BitVec 32 := 1#32
  let v724 : BitVec 32 := Scalar.muli v723 c1_i32_550
  let v725 : BitVec 32 := Scalar.addi c0_i32_551 v724
  v725.toNat
def k0_dev26 (d0 : Dev nD) : Nat :=
  let c0_i32_561 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_556 : BitVec 32 := 5#32
  let v732 : BitVec 32 := Scalar.addi v2 c5_i32_556
  let c8_i32_557 : BitVec 32 := 8#32
  let v733 : BitVec 32 := Scalar.remsi v732 c8_i32_557
  let c1_i32_560 : BitVec 32 := 1#32
  let v734 : BitVec 32 := Scalar.muli v733 c1_i32_560
  let v735 : BitVec 32 := Scalar.addi c0_i32_561 v734
  v735.toNat
def k0_dev27 (d0 : Dev nD) : Nat :=
  let c0_i32_571 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_566 : BitVec 32 := 6#32
  let v742 : BitVec 32 := Scalar.addi v2 c6_i32_566
  let c8_i32_567 : BitVec 32 := 8#32
  let v743 : BitVec 32 := Scalar.remsi v742 c8_i32_567
  let c1_i32_570 : BitVec 32 := 1#32
  let v744 : BitVec 32 := Scalar.muli v743 c1_i32_570
  let v745 : BitVec 32 := Scalar.addi c0_i32_571 v744
  v745.toNat
def k0_dev28 (d0 : Dev nD) : Nat :=
  let c0_i32_581 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_576 : BitVec 32 := 7#32
  let v752 : BitVec 32 := Scalar.addi v2 c7_i32_576
  let c8_i32_577 : BitVec 32 := 8#32
  let v753 : BitVec 32 := Scalar.remsi v752 c8_i32_577
  let c1_i32_580 : BitVec 32 := 1#32
  let v754 : BitVec 32 := Scalar.muli v753 c1_i32_580
  let v755 : BitVec 32 := Scalar.addi c0_i32_581 v754
  v755.toNat
def k0_off16 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v762 : Index := Scalar.indexCast v2
  let c0_586 : Index := 0#32
  let c0_587 : Index := 0#32
  ![v762.toNat, 0, 0]
def k0_off17 (d0 : Dev nD) (c1_i32_614 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v793 : BitVec 32 := Scalar.subi v2 c1_i32_614
  let c8_i32_615 : BitVec 32 := 8#32
  let v794 : BitVec 32 := Scalar.addi v793 c8_i32_615
  let c8_i32_616 : BitVec 32 := 8#32
  let v795 : BitVec 32 := Scalar.remsi v794 c8_i32_616
  let v796 : Index := Scalar.indexCast v795
  let c0_617 : Index := 0#32
  let c0_618 : Index := 0#32
  ![v796.toNat, 0, 0]
abbrev stage0_0 : Fin 1 → Memref sig .tc .vmem S2048x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2048x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S16384x512 : Shape := ⟨2, ![16384, 512]⟩
abbrev S512x64 : Shape := ⟨2, ![512, 64]⟩
abbrev S16384x1 : Shape := ⟨2, ![16384, 1]⟩
abbrev S64x512x1024 : Shape := ⟨3, ![64, 512, 1024]⟩
abbrev S64 : Shape := ⟨1, ![64]⟩
abbrev S1x64 : Shape := ⟨2, ![1, 64]⟩
abbrev S16384x64 : Shape := ⟨2, ![16384, 64]⟩
abbrev S_ : Shape := ⟨0, ![]⟩
abbrev S16384x64x1024 : Shape := ⟨3, ![16384, 64, 1024]⟩
abbrev S16384x64x1 : Shape := ⟨3, ![16384, 64, 1]⟩
abbrev S16384x1024 : Shape := ⟨2, ![16384, 1024]⟩

abbrev nBuf : Space → Nat
  | .hbm => 30
  | .vmem => 0
  | .smem => 0
  | _ => 0

abbrev bufTy : (tb : Table) → Fin (tcTables nBuf tb) → BufTy
  | .hbm, ⟨0, _⟩ => ⟨S16384x512, .bf16⟩
  | .hbm, ⟨1, _⟩ => ⟨S512x64, .bf16⟩
  | .hbm, ⟨2, _⟩ => ⟨S16384x1, .i32⟩
  | .hbm, ⟨3, _⟩ => ⟨S64x512x1024, .bf16⟩
  | .hbm, ⟨4, _⟩ => ⟨S64, .i32⟩
  | .hbm, ⟨5, _⟩ => ⟨S1x64, .i32⟩
  | .hbm, ⟨6, _⟩ => ⟨S16384x64, .i32⟩
  | .hbm, ⟨7, _⟩ => ⟨S16384x64, .i32⟩
  | .hbm, ⟨8, _⟩ => ⟨S16384x64, .i1⟩
  | .hbm, ⟨9, _⟩ => ⟨S16384x64, .i32⟩
  | .hbm, ⟨10, _⟩ => ⟨S_, .i32⟩
  | .hbm, ⟨11, _⟩ => ⟨S_, .i32⟩
  | .hbm, ⟨12, _⟩ => ⟨S16384x64, .i32⟩
  | .hbm, ⟨13, _⟩ => ⟨S16384x64, .i32⟩
  | .hbm, ⟨14, _⟩ => ⟨S_, .i32⟩
  | .hbm, ⟨15, _⟩ => ⟨S16384x64, .i32⟩
  | .hbm, ⟨16, _⟩ => ⟨S16384x64, .i1⟩
  | .hbm, ⟨17, _⟩ => ⟨S16384x64, .i1⟩
  | .hbm, ⟨18, _⟩ => ⟨S16384x512, .f32⟩
  | .hbm, ⟨19, _⟩ => ⟨S64x512x1024, .f32⟩
  | .hbm, ⟨20, _⟩ => ⟨S16384x64x1024, .f32⟩
  | .hbm, ⟨21, _⟩ => ⟨S16384x64x1, .i1⟩
  | .hbm, ⟨22, _⟩ => ⟨S_, .f32⟩
  | .hbm, ⟨23, _⟩ => ⟨S_, .f32⟩
  | .hbm, ⟨24, _⟩ => ⟨S16384x64x1024, .i1⟩
  | .hbm, ⟨25, _⟩ => ⟨S16384x64x1024, .f32⟩
  | .hbm, ⟨26, _⟩ => ⟨S16384x64x1024, .f32⟩
  | .hbm, ⟨27, _⟩ => ⟨S_, .f32⟩
  | .hbm, ⟨28, _⟩ => ⟨S16384x1024, .f32⟩
  | .hbm, ⟨29, _⟩ => ⟨S16384x1024, .bf16⟩
  | _, _ => ⟨S16384x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_call0_call0_c : Ref sig .tc := ⟨.hbm, 10, rfl⟩
abbrev main_call0_call0_v0 : Ref sig .tc := ⟨.hbm, 11, rfl⟩
abbrev main_v6 : Ref sig .tc := ⟨.hbm, 12, rfl⟩
abbrev main_v7 : Ref sig .tc := ⟨.hbm, 13, rfl⟩
abbrev main_c : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst : Ref sig .tc := ⟨.hbm, 22, rfl⟩
abbrev main_call1_v0 : Ref sig .tc := ⟨.hbm, 23, rfl⟩
abbrev main_call1_v1 : Ref sig .tc := ⟨.hbm, 24, rfl⟩
abbrev main_call1_v2 : Ref sig .tc := ⟨.hbm, 25, rfl⟩
abbrev main_v15 : Ref sig .tc := ⟨.hbm, 26, rfl⟩
abbrev main_cst_0 : Ref sig .tc := ⟨.hbm, 27, rfl⟩
abbrev main_v16 : Ref sig .tc := ⟨.hbm, 28, rfl⟩
abbrev main_v17 : Ref sig .tc := ⟨.hbm, 29, rfl⟩

abbrev nD : Nat := 1
abbrev τ : Topo := Topo.v7x

variable {F : FTy → Type} [FloatOps F]
-- ==== Proof.Vals.lean ====
/-
# The kernel's values, device by device

What each device of the mesh computes, as functions of the memory at launch: the counts every device publishes, the
dispatch mask, the packed tokens it sends, the experts' stripes and results, what it returns, and the output after
each partial sum. Every function is a chain of the generated payloads, over any float values.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.MoE

open Cert.KernelIdeal Cert.KernelIdeal.Gen
open Idealize.ShloMosaic
open Idealize.ShloMosaic.TcCoe

variable {F : FTy → Type} [FloatOps F]

/-! ## The mesh as a ring -/

/-- The device `k + 1` places after `c`. -/
def rot (k : Fin 7) (c : Dev nD) : Dev nD := ⟨(c.val + k.val + 1) % 8, Nat.mod_lt _ (by decide)⟩
/-- The device `k + 1` places before `c`. -/
abbrev back (k : Fin 7) (c : Dev nD) : Dev nD := rot k.rev c

theorem rot_back : ∀ (k : Fin 7) (c : Dev nD), rot k (back k c) = c := by decide
theorem back_rot : ∀ (k : Fin 7) (c : Dev nD), back k (rot k c) = c := by decide
theorem rot_ne : ∀ (k : Fin 7) (c : Dev nD), rot k c ≠ c := by decide
theorem rot_val : ∀ (k : Fin 7) (c : Dev nD), (rot k c).val = (c.val + (k.val + 1)) % 8 := fun k c => by simp only [rot, Nat.add_assoc]

/-- Which of a device `b`'s seven transfers goes to `c` (none when `b` is `c`). -/
def who (b c : Dev nD) : Option (Fin 7) :=
  if h : b = c then none else some ⟨(c.val + 7 - b.val) % 8, by
    have hc : c.val < 8 := c.isLt; have hb : b.val < 8 := b.isLt; have hn : b.val ≠ c.val := fun e => h (Fin.ext e); omega⟩

/-- The block of a stacked array that the transfer number `o` of device `b` addresses. -/
def tgt (b : Dev nD) : Option (Fin 7) → Dev nD
  | none => b
  | some k => rot k b

/-! ## Rows of a stacked array -/

/-- The offset of row `b` of a stacked matrix, and of a stacked table. -/
abbrev ro3 (b : ℕ) : Fin 3 → ℕ := ![b, 0, 0]
abbrev ro2 (b : ℕ) : Fin 2 → ℕ := ![b, 0]

/-- The array whose row `b` is `v b`. -/
def stack3 {α : Type} {n A B : ℕ} (v : Fin n → (⟨3, ![1, A, B]⟩ : Shape).Idx → α) : (⟨3, ![n, A, B]⟩ : Shape).Idx → α :=
  fun i => v (i 0) fun a => match a with | 0 => (⟨0, Nat.one_pos⟩ : Fin 1) | 1 => i 1 | 2 => i 2
def stack2 {α : Type} {n A : ℕ} (v : Fin n → (⟨2, ![1, A]⟩ : Shape).Idx → α) : (⟨2, ![n, A]⟩ : Shape).Idx → α :=
  fun i => v (i 0) fun a => match a with | 0 => (⟨0, Nat.one_pos⟩ : Fin 1) | 1 => i 1

/-! ## The inputs -/

variable (m : (ℓ : Loc nD τ sig) → Buf (Elt F) ℓ)

def xstg (c : Dev nD) : (cc0_stg0_0 : Ref sig .tc).ty.Contents (Elt F) :=
  (win0_0.blk (0 : Fin 1)).view.read (Elt F) (m ((c : Thread nD τ).loc main_arg0))
def rstg (c : Dev nD) : (cc0_stg1_0 : Ref sig .tc).ty.Contents (Elt F) :=
  (win0_1.blk (0 : Fin 1)).view.read (Elt F) (m ((c : Thread nD τ).loc main_arg2))
def wstg (c : Dev nD) : (cc0_stg2_0 : Ref sig .tc).ty.Contents (Elt F) :=
  (win0_2.blk (0 : Fin 1)).view.read (Elt F) (m ((c : Thread nD τ).loc main_arg3))

/-! ## Routing -/

def v2 (c : Dev nD) : BitVec 32 := Scalar.remsi (Scalar.divsi (Dev.word c) 1#32) 8#32
def v33 (c : Dev nD) : IVec S2048x1 32 := k0_pay24 (F := F) (rstg m c)
/-- Which expert each token chose, one-hot. -/
def v37 (c : Dev nD) : IVec S2048x64 32 := k0_pay25 (F := F) (rstg m c)
/-- How many of device `b`'s tokens chose each expert. -/
def cntv (b : Dev nD) : S1x64.Idx → Elt F .i32 := k0_pay26 (F := F) (rstg m b)
def cntF : S8x64.Idx → Elt F .i32 := stack2 (n := 8) (A := 64) (cntv m)
def v121 (c : Dev nD) : IVec S2048x64 32 := k0_pay27 (v37 m c)
/-- Each token's rank among its device's tokens of the same expert. -/
def v161 (c : Dev nD) : IVec S2048x1 32 := k0_pay28 (v37 m c) (v121 m c)
def v233 : IVec S8x64 32 := iota .tc S8x64 32 [0] iota_S8x64_d0_w32
def v235 (c : Dev nD) : IVec S2048x1 32 := k0_pay29 (v33 m c)
def v252 : IVec S8x64 32 := k0_pay30 (F := F) (cntF m)
/-- How many tokens of device `b` each expert serves. -/
def v255 : IVec S8x64 32 := k0_pay31 (F := F) (cntF m) (v252 m)
def v256 : IVec S1x64 32 := iota .tc S1x64 32 [1] iota_S1x64_d1_w32
def v293 : IVec S8x64 32 := k0_pay32 (F := F) (cntF m) (v252 m)
def v296 : IVec S8x64 32 := k0_pay33 (F := F) (cntF m) (v252 m)
/-- Where each expert's tokens begin among a device's packed rows. -/
def v341 : IVec S8x64 32 := k0_pay34 (v255 m) v256 (v293 m) (v296 m) 8#32
def v342 (c : Dev nD) : IVec S8x64 32 := k0_pay35 (v2 c)
/-- The packing mask: row `r` of a group takes token `i`. -/
def base (c : Dev nD) : FVec F S2048x384 .bf16 := k0_pay36 (F := F) (v2 c) (v37 m c) (v161 m c) v233 (v255 m) (v341 m) (v342 c)
def v376 : IVec S1x640 32 := iota .tc S1x640 32 [1] iota_S1x640_d1_w32
def v387 : BitVec 32 := Scalar.extui (Scalar.cmpi .sgt 80#32 0#32)
def v400 : IVec S1x640 32 := k0_pay39 v376 80#32 k0_pay37 k0_pay38 v387
def v417 : IVec S1x640 32 := k0_pay40
def v418 : IVec S384x1 32 := iota .tc S384x1 32 [0] iota_S384x1_d0_w32

def pm (c : Dev nD) (k : BitVec 32) : BitVec 32 := Scalar.remsi (Scalar.addi (v2 c) k) 8#32

/-- The packed tokens device `c` sends with its transfer number `o` (to itself: none). -/
def xdv (c : Dev nD) : Option (Fin 7) → S1x384x512.Idx → Elt F .bf16
  | none => k0_pay51 (v2 c) (v235 m c) (base m c) (xstg m c)
  | some 0 => k0_pay42 (k0_pay41 (v2 c) (v235 m c) (base m c)) (xstg m c)
  | some 1 => k0_pay43 (v2 c) (v235 m c) (base m c) (xstg m c)
  | some 2 => k0_pay44 (v2 c) (v235 m c) (base m c) (xstg m c)
  | some 3 => k0_pay45 (v2 c) (v235 m c) (base m c) (xstg m c)
  | some 4 => k0_pay46 (v235 m c) (pm c 5#32) (base m c) (xstg m c)
  | some 5 => k0_pay48 (k0_pay47 (v2 c) (v235 m c)) (base m c) (xstg m c)
  | some 6 => k0_pay50 (k0_pay49 (v2 c) (v235 m c) (base m c) (xstg m c))

def xdF (c : Dev nD) : S7x384x512.Idx → Elt F .bf16 := stack3 (n := 7) (A := 384) (B := 512) fun k => xdv m c (some k)
/-- What device `b` packed for device `c`. -/
def inv (c b : Dev nD) : S1x384x512.Idx → Elt F .bf16 := xdv m b (who b c)
def inF (c : Dev nD) : S8x384x512.Idx → Elt F .bf16 := stack3 (n := 8) (A := 384) (B := 512) (inv m c)

/-! ## The experts -/

theorem trips1 : k0_t1_loop.trips = 8 := by decide
theorem trips2 : k0_t2_loop.trips = 8 := by decide
theorem trips3 : k0_t3_loop.trips = 8 := by decide

section Unpack
variable (c : Dev nD) (t : Fin k0_t1_loop.trips)
def v1005 : IVec S1x64 32 := k0_pay2 v233 (v255 m) 0#32 1#32 t
def v1011 : IVec S1x64 32 := k0_pay3 v233 (v341 m) 0#32 1#32 t
def v1033 : IVec S1x640 32 := k0_pay5 (v2 c) v233 (v255 m) v256 v400 0#32 1#32 t
def v1037 : IVec S1x640 32 := k0_pay6 (v2 c) v233 v256 (v341 m) v400 0#32 1#32 t
def v1041 : IVec S1x64 1 := k0_pay7 (v2 c) v256
def v1081 : IVec S1x640 32 := k0_pay9 (v2 c) v256 v400 (v1005 m t) (v1033 m c t) (v1041 c) 0#32
def v1085 : IVec S1x640 32 := k0_pay10 (v2 c) v256 v400 (v1011 m t) (v1037 m c t) (v1041 c)
def v1086 : BitVec 32 := Scalar.muli (v2 c) 8#32
def v1109 : IVec S1x640 32 := k0_pay12 v256 v400 (v1011 m t) (v1085 m c t) (v1086 c) 3#32
def v1129 : IVec S1x640 32 := k0_pay14 (v2 c) v256 v400 (v1005 m t) (v1081 m c t) (v1086 c) 3#32
def v1131 : IVec S1x640 1 := k0_pay15 v400
def v1132 : IVec S1x640 32 := k0_pay16 (v2 c) v256 (v1011 m t)
def v1157 : IVec S1x640 32 := k0_pay18 (v2 c) v256 v400 (v1011 m t) (v1109 m c t) v1131 (v1132 m c t)
def v1173 : BitVec 32 := extractAt ![0, 0, 0] (k0_pay20 (v2 c) v256 (v1011 m t)) inpos_S1x1x1_p0_0_0
def v1177 : IVec S1x640 32 := k0_pay21 (v2 c) v256 v400 (v1005 m t) (v1129 m c t)
/-- The mask spreading the rows device `t` sent over `c`'s experts' stripes. -/
def csq : FVec F S384x640 .bf16 :=
  k0_pay22 (F := F) (v2 c) v256 v400 v417 v418 (v1005 m t) (v1011 m t) (v1157 m c t) (v1173 m c t) (v1177 m c t)
def cst : FVec F S1x384x640 .bf16 :=
  k0_pay23 (F := F) (v2 c) v256 v400 v417 v418 (v1005 m t) (v1011 m t) (v1157 m c t) (v1173 m c t) (v1177 m c t)
end Unpack

def csv (c s : Dev nD) : S1x384x640.Idx → Elt F .bf16 := cst m c (Fin.cast trips1.symm s)
def csF (c : Dev nD) : S8x384x640.Idx → Elt F .bf16 := stack3 (n := 8) (A := 384) (B := 640) (csv m c)
def strv (c s : Dev nD) : S1x640x512.Idx → Elt F .bf16 := k0_pay52 (csq m c (Fin.cast trips1.symm s)) (inv m c s)
def strF (c : Dev nD) : S8x640x512.Idx → Elt F .bf16 := stack3 (n := 8) (A := 640) (B := 512) (strv m c)

/-- Columns `80 k …` of a stack of stripes. -/
def slab {α : Type} {B : ℕ} (f : (⟨3, ![8, 640, B]⟩ : Shape).Idx → α) (k : Fin 8) : (⟨3, ![8, 80, B]⟩ : Shape).Idx → α :=
  fun i => f fun a => match a with | 0 => i 0 | 1 => (⟨80 * k.val + (i 1).val, by have h : (i 1).val < 80 := (i 1).isLt; have := k.isLt; show _ < 640; omega⟩ : Fin 640) | 2 => i 2
/-- The stack of stripes whose columns `80 k …` are `v k`. -/
def unslab {α : Type} {B : ℕ} (v : Fin 8 → (⟨3, ![8, 80, B]⟩ : Shape).Idx → α) : (⟨3, ![8, 640, B]⟩ : Shape).Idx → α :=
  fun i => v ⟨(i 1).val / 80, by have h : (i 1).val < 640 := (i 1).isLt; omega⟩
    fun a => match a with | 0 => i 0 | 1 => (⟨(i 1).val % 80, Nat.mod_lt _ (by decide)⟩ : Fin 80) | 2 => i 2

/-- Row `b` of a stacked matrix. -/
def rowOf {α : Type} {n A B : ℕ} (f : (⟨3, ![n, A, B]⟩ : Shape).Idx → α) (b : Fin n) : (⟨3, ![1, A, B]⟩ : Shape).Idx → α :=
  fun i => f fun a => match a with | 0 => b | 1 => i 1 | 2 => i 2

theorem rowOf_stack3 {α : Type} {n A B : ℕ} (v : Fin n → (⟨3, ![1, A, B]⟩ : Shape).Idx → α) (b : Fin n) : rowOf (stack3 v) b = v b := by
  funext i
  refine congrArg (v b) (funext fun a => ?_)
  match a with
  | 0 => exact Fin.ext (by have h : (i 0).val < 1 := (i 0).isLt; show 0 = (i 0).val; omega)
  | 1 => rfl
  | 2 => rfl

theorem slab_unslab {α : Type} {B : ℕ} (v : Fin 8 → (⟨3, ![8, 80, B]⟩ : Shape).Idx → α) (k : Fin 8) : slab (unslab v) k = v k := by
  funext i
  have h1 : (i 1).val < 80 := (i 1).isLt
  have hk : (80 * k.val + (i 1).val) / 80 = k.val := by omega
  have hm : (80 * k.val + (i 1).val) % 80 = (i 1).val := by omega
  unfold slab unslab
  refine (congrArg (v · _) (Fin.ext hk)).trans (congrArg (v k) (funext fun a => ?_))
  match a with
  | 0 => rfl
  | 1 => exact Fin.ext hm
  | 2 => rfl

/-- Expert `k` of device `c` on every device's stripe. -/
def outv (c : Dev nD) (k : Fin 8) : S8x80x1024.Idx → Elt F .bf16 := k0_pay53 (slab (B := 512) (strF m c) k) (rowOf (n := 8) (A := 512) (B := 1024) (wstg m c) k)
def outF (c : Dev nD) : S8x640x1024.Idx → Elt F .bf16 := unslab (B := 1024) (outv m c)
/-- What device `c` returns to device `s`. -/
def yv (c s : Dev nD) : S1x384x1024.Idx → Elt F .bf16 := k0_pay54 (csv m c s) (rowOf (n := 8) (A := 640) (B := 1024) (outF m c) s)
def yF (c : Dev nD) : S8x384x1024.Idx → Elt F .bf16 := stack3 (n := 8) (A := 384) (B := 1024) (yv m c)
/-- What device `c` got back from device `b`. -/
def retv (c b : Dev nD) : S1x384x1024.Idx → Elt F .bf16 := if b = c then k0_pay55 (yv m c c) else yv m b c
def retF (c : Dev nD) : S8x384x1024.Idx → Elt F .bf16 := stack3 (n := 8) (A := 384) (B := 1024) (retv m c)

/-! ## The output, sum by sum -/

def o0 (c : Dev nD) : FVec F S2048x1024 .bf16 := k0_pay56 (v2 c) (v235 m c) (retv m c c) (base m c)
def o1 (c : Dev nD) : FVec F S2048x1024 .bf16 := k0_pay57 (v2 c) (v235 m c) (retv m c (back 0 c)) (o0 m c) (base m c)
def o2 (c : Dev nD) : FVec F S2048x1024 .bf16 := k0_pay58 (v2 c) (v235 m c) (retv m c (back 1 c)) (o1 m c) (base m c)
def o3 (c : Dev nD) : FVec F S2048x1024 .bf16 := k0_pay59 (v2 c) (v235 m c) (retv m c (back 2 c)) (o2 m c) (base m c)
def o4 (c : Dev nD) : FVec F S2048x1024 .bf16 := k0_pay60 (v2 c) (v235 m c) (retv m c (back 3 c)) (o3 m c) (base m c)
def o5 (c : Dev nD) : FVec F S2048x1024 .bf16 := k0_pay61 (v2 c) (v235 m c) (retv m c (back 4 c)) (o4 m c) (base m c)
def o6 (c : Dev nD) : FVec F S2048x1024 .bf16 := k0_pay62 (v2 c) (v235 m c) (retv m c (back 5 c)) (o5 m c) (base m c)
def outAt (c : Dev nD) : (cc0_stg3_0 : Ref sig .tc).ty.Contents (Elt F) :=
  k0_pay1 (v235 m c) (Scalar.remsi (Scalar.addi (Scalar.subi (v2 c) 7#32) 8#32) 8#32) (retv m c (back 6 c)) (o6 m c) (base m c)

end Cert.MoE

end
-- ==== Proof.Sched.lean ====
/-
# The protocol of the seven-peer exchange

The cells of the kernel (the barrier, and one send and one receive semaphore for each of the three exchanges and each of
the seven peers), their one-round schedule with the contents every payment hands over, what each device owes, the levels
its waits are ordered by, and one rule for each communicating operation.
-/
module

public import proofs.«01_k».proof.Proof.Vals

@[expose] public section

noncomputable section

namespace Cert.MoE

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UB : Type := URounds (GSem nD τ sig) (Fin 7)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## Cells -/

/-- The barrier (none), or exchange `f` (0: tokens, 1: results, 2: counts), its send or receive semaphore, peer `k`. -/
abbrev CI : Type := Option (Fin 3 × Bool × Fin 7)

abbrev barS : Sem sig := (SemArray.scalar (sig.barrier 0 rfl) : Sems sig S_).sem

def csem : CI → SemLoc sig
  | none => .reg barS
  | some (f, s, k) => .dma ⟨4 + 14 * f.val + (if s then 7 else 0) + k.val, by
      have := f.isLt; have := k.isLt; show _ < 46; split <;> omega⟩

def dec (g : SemLoc sig) : Option CI := match g with
  | .reg s => if s = barS then some none else none
  | .dma q => if h : 4 ≤ q.val ∧ q.val < 46 then
      some (some (⟨(q.val - 4) / 14, by omega⟩, decide (7 ≤ (q.val - 4) % 14), ⟨(q.val - 4) % 14 % 7, by omega⟩)) else none

theorem dec_csem : ∀ i, dec (csem i) = some i := by decide

abbrev gc (c : Dev nD) (i : CI) : GSem nD τ sig := ((c : Thread nD τ), csem i)

theorem csem_inj : Function.Injective csem := fun i j h => Option.some.inj ((dec_csem i).symm.trans ((congrArg dec h).trans (dec_csem j)))

/-! ## Memrefs of rows -/

theorem inb3 {n A B : ℕ} (b : Fin n) : ∀ a, ro3 b.val a + (⟨3, ![1, A, B]⟩ : Shape).size a ≤ (⟨3, ![n, A, B]⟩ : Shape).size a := fun a =>
  match a with
  | 0 => b.isLt
  | 1 => (Nat.zero_add A).le
  | 2 => (Nat.zero_add B).le
theorem inb2 {n A : ℕ} (b : Fin n) : ∀ a, ro2 b.val a + (⟨2, ![1, A]⟩ : Shape).size a ≤ (⟨2, ![n, A]⟩ : Shape).size a := fun a =>
  match a with
  | 0 => b.isLt
  | 1 => (Nat.zero_add A).le

abbrev xdR (k : Fin 7) : Memref sig .tc .vmem S1x384x512 .bf16 :=
  (Memref.whole cc0_scratch1 : Memref sig .tc .vmem S7x384x512 .bf16).slice (Rect.unit (s := S7x384x512) (ro3 k.val) S1x384x512.size (inb3 (A := 384) (B := 512) k)) (fun _ => rfl)
abbrev inR (b : Dev nD) : Memref sig .tc .vmem S1x384x512 .bf16 :=
  (Memref.whole cc0_scratch2 : Memref sig .tc .vmem S8x384x512 .bf16).slice (Rect.unit (s := S8x384x512) (ro3 b.val) S1x384x512.size (inb3 (n := 8) (A := 384) (B := 512) b)) (fun _ => rfl)
abbrev yR (b : Dev nD) : Memref sig .tc .vmem S1x384x1024 .bf16 :=
  (Memref.whole cc0_scratch5 : Memref sig .tc .vmem S8x384x1024 .bf16).slice (Rect.unit (s := S8x384x1024) (ro3 b.val) S1x384x1024.size (inb3 (n := 8) (A := 384) (B := 1024) b)) (fun _ => rfl)
abbrev retR (b : Dev nD) : Memref sig .tc .vmem S1x384x1024 .bf16 :=
  (Memref.whole cc0_scratch6 : Memref sig .tc .vmem S8x384x1024 .bf16).slice (Rect.unit (s := S8x384x1024) (ro3 b.val) S1x384x1024.size (inb3 (n := 8) (A := 384) (B := 1024) b)) (fun _ => rfl)
abbrev cntR (b : Dev nD) : Memref sig .tc .vmem S1x64 .i32 :=
  (Memref.whole cc0_scratch8 : Memref sig .tc .vmem S8x64 .i32).slice (Rect.unit (s := S8x64) (ro2 b.val) S1x64.size (inb2 (n := 8) (A := 64) b)) (fun _ => rfl)

/-- Slices at equal offsets are equal. -/
theorem slice_off {s : Shape} {e : EltTy} (M : Memref sig .tc .vmem s e) {off off' size : Fin s.rank → ℕ} (h : off = off')
    (inb : ∀ a, off a + size a ≤ s.size a) (inb' : ∀ a, off' a + size a ≤ s.size a) :
    M.slice (Rect.unit off size inb) (fun _ => rfl) = M.slice (Rect.unit off' size inb') (fun _ => rfl) := by
  subst h; rfl

abbrev ow' (c : Dev nD) {s : Shape} {e : EltTy} (M : Memref sig .tc .vmem s e) (q : PosShare TreeShare) (X : s.Idx → Elt F e) : sProp 𝕄 :=
  owns (c : Thread nD τ) M q X
/-- Some contents. -/
def anyAt (c : Dev nD) {s : Shape} {e : EltTy} (M : Memref sig .tc .vmem s e) : sProp 𝕄 :=
  iprop(∃ X : s.Idx → Elt F e, owns (c : Thread nD τ) M fullShare X)

instance owns_st (c : Dev nD) {s : Shape} {e : EltTy} (M : Memref sig .tc .vmem s e) (q : PosShare TreeShare) (X : s.Idx → Elt F e) :
    BI.Storable (upEmb : UEmb _ 𝕄) (owns (c : Thread nD τ) M q X) := by unfold owns; infer_instance
instance anyAt_st (c : Dev nD) {s : Shape} {e : EltTy} (M : Memref sig .tc .vmem s e) :
    BI.Storable (upEmb : UEmb _ 𝕄) (anyAt (F := F) c M) := by unfold anyAt; infer_instance

theorem any_intro (c : Dev nD) {s : Shape} {e : EltTy} (M : Memref sig .tc .vmem s e) (X : s.Idx → Elt F e) :
    (owns (c : Thread nD τ) M fullShare X : sProp 𝕄) ⊢ anyAt c M := by
  unfold anyAt; iintro H; iexists X; iexact H

/-! ## The schedule -/

def amt : Fin 3 → ℕ
  | 0 => (inR 0).view.dmaCredit
  | 1 => (retR 0).view.dmaCredit
  | 2 => (cntR 0).view.dmaCredit
theorem amt_pos (f : Fin 3) : 0 < amt f := by
  match f with
  | 0 => exact View.dmaCredit_pos _ (by decide)
  | 1 => exact View.dmaCredit_pos _ (by decide)
  | 2 => exact View.dmaCredit_pos _ (by decide)

/-- What one wait takes from a cell. -/
def amtI : CI → ℕ
  | none => 7
  | some (f, _, _) => amt f

/-- What the peer `rot j c` hands device `c` at the barrier: its rows number `c`. -/
def barPay (c : Dev nD) (j : Fin 7) : sProp 𝕄 :=
  iprop(anyAt (rot j c) (cntR c) ∗ anyAt (rot j c) (inR c) ∗ anyAt (rot j c) (retR c))
def sendPay (f : Fin 3) (k : Fin 7) (c : Dev nD) : sProp 𝕄 := match f with
  | 0 => ow' c (xdR k) fullShare (xdv m c (some k))
  | 1 => ow' c (yR (rot k c)) fullShare (yv m c (rot k c))
  | 2 => ow' c (cntR c) (Transfers.shareTok fullShare 7 k) (cntv m c)
def recvPay (f : Fin 3) (k : Fin 7) (c : Dev nD) : sProp 𝕄 := match f with
  | 0 => ow' c (inR (back k c)) fullShare (inv m c (back k c))
  | 1 => ow' c (retR (back k c)) fullShare (yv m (back k c) c)
  | 2 => ow' c (cntR (back k c)) fullShare (cntv m (back k c))

def payI (i : CI) (c : Dev nD) (j : Fin 7) : sProp 𝕄 := match i with
  | none => barPay c j
  | some (f, false, k) => sendPay m f k c
  | some (f, true, k) => recvPay m f k c

instance barPay_st (c : Dev nD) (j : Fin 7) : BI.Storable (upEmb : UEmb _ 𝕄) (barPay (F := F) c j) := by unfold barPay; infer_instance
instance sendPay_st (f : Fin 3) (k : Fin 7) (c : Dev nD) : BI.Storable (upEmb : UEmb _ 𝕄) (sendPay m f k c) := by
  unfold sendPay; split <;> exact owns_st _ _ _ _
instance recvPay_st (f : Fin 3) (k : Fin 7) (c : Dev nD) : BI.Storable (upEmb : UEmb _ 𝕄) (recvPay m f k c) := by
  unfold recvPay; split <;> exact owns_st _ _ _ _
instance payI_st (i : CI) (c : Dev nD) (j : Fin 7) : BI.Storable (upEmb : UEmb _ 𝕄) (payI m i c j) := by
  unfold payI; split <;> infer_instance

def dutiesOf : Option CI → Finset (Fin 7)
  | none => ∅
  | some none => Finset.univ
  | some (some _) => {0}
def amtOf : Option CI → ℕ
  | none => 1
  | some none => 1
  | some (some (f, _, _)) => amt f
def payOf (o : Option CI) (c : Dev nD) (j : Fin 7) : sProp 𝕄 := match o with
  | none => iprop(emp)
  | some i => payI m i c j

instance payOf_st (o : Option CI) (c : Dev nD) (j : Fin 7) : BI.Storable (upEmb : UEmb _ 𝕄) (payOf m o c j) := by
  unfold payOf; split <;> infer_instance

theorem amtOf_pos (o : Option CI) : 0 < amtOf o := by
  match o with
  | none => exact Nat.one_pos
  | some none => exact Nat.one_pos
  | some (some (f, _, _)) => exact amt_pos f

/-- One round on every cell of the protocol. -/
def Rd : Rounds.Schedule (GSem nD τ sig) (Fin 7) 𝕄 where
  duties g r := if r = 0 ∧ g.1.2 = .tc then dutiesOf (dec g.2) else ∅
  unitless _ := False
  amount g _ _ := amtOf (dec g.2)
  payload g _ j := payOf m (dec g.2) g.1.1 j
  amount_pos g _ _ _ := amtOf_pos _

instance Rd_payload_storable (g : GSem nD τ sig) (r : ℕ) (d : Fin 7) : BI.Storable (upEmb : UEmb _ 𝕄) ((Rd m).payload g r d) :=
  payOf_st m _ _ _

theorem duties_gc (c : Dev nD) (i : CI) : (Rd m).duties (gc c i) 0 = dutiesOf (some i) := by
  dsimp only [Rd]; rw [dec_csem]; exact if_pos ⟨rfl, rfl⟩
theorem duties_later (g : GSem nD τ sig) : ∀ r, 1 ≤ r → (Rd m).duties g r = ∅ :=
  fun r hr => by dsimp only [Rd]; exact if_neg fun h => by omega
theorem amount_gc (c : Dev nD) (i : CI) (j : Fin 7) : (Rd m).amount (gc c i) 0 j = amtOf (some i) := by
  dsimp only [Rd]; rw [dec_csem]
theorem payload_gc (c : Dev nD) (i : CI) (j : Fin 7) : (Rd m).payload (gc c i) 0 j = payI m i c j := by
  dsimp only [Rd]; rw [dec_csem]; rfl
theorem expect_gc (c : Dev nD) (i : CI) : (Rd m).expect (gc c i) 0 = amtI i := by
  unfold Schedule.expect Schedule.amountOf
  rw [duties_gc, Finset.sum_congr rfl fun d _ => amount_gc m c i d]
  match i with
  | none => rw [Finset.sum_const]; rfl
  | some (f, s, k) => exact Finset.sum_singleton _ _
theorem rest_bar (c : Dev nD) : bigSep ((Rd m).duties (gc c none) 0 \ ∅) (fun d => (Rd m).payload (gc c none) 0 d) = bigSep Finset.univ fun j => barPay (F := F) c j := by
  rw [Finset.sdiff_empty, duties_gc]
  exact congrArg (bigSep Finset.univ) (funext fun j => payload_gc m c none j)
theorem rest_x (c : Dev nD) (x : Fin 3 × Bool × Fin 7) :
    bigSep ((Rd m).duties (gc c (some x)) 0 \ ∅) (fun d => (Rd m).payload (gc c (some x)) 0 d) = payI m (some x) c 0 := by
  rw [Finset.sdiff_empty, duties_gc]
  exact (bigSep_singleton (i := (0 : Fin 7))).trans (payload_gc m c (some x) 0)

/-! ## Dues and levels -/

/-- A payment: a barrier signal (none) or an arrival of exchange `f`, to the peer `k`. -/
abbrev Due : Type := Option (Fin 3) × Fin 7

def dueCell (c : Dev nD) (x : Due) : GSem nD τ sig := match x.1 with
  | none => gc (rot x.2 c) none
  | some f => gc (rot x.2 c) (some (f, true, x.2))
def dueAmt (x : Due) : ℕ := match x.1 with
  | none => 1
  | some f => amt f
def Ofrom (c : Dev nD) : List Due → CellTallies nD τ sig Unit
  | [] => 0
  | x :: l => Ofrom c l + tallyAt (dueCell c x) () (dueAmt x)

/-- All payments in program order. -/
def allDues : List Due := ([none, some 2, some 0, some 1] : List (Option (Fin 3))).flatMap fun f => (List.finRange 7).map fun k => (f, k)
/-- Those left after the first `n`. -/
def dl (n : ℕ) : List Due := allDues.drop n

def lvI : Option CI → ℕ
  | some none => 1
  | some (some (f, true, _)) => match f with | 0 => 3 | 1 => 4 | 2 => 2
  | _ => 0
def lvD (x : Due) : ℕ := match x.1 with
  | none => 1
  | some f => match f with | 0 => 3 | 1 => 4 | 2 => 2

def L (g : GSem nD τ sig) : Finset Unit := if g.1.2 = .tc then {()} else ∅
def lv (g : GSem nD τ sig) (_ : Unit) : ℕ := lvI (dec g.2)

theorem L_of_ne (g : GSem nD τ sig) (h : g.1.2 ≠ .tc) : L g = ∅ := if_neg h
theorem L_tc (c : Dev nD) (sm : SemLoc sig) : L ((c : Thread nD τ), sm) = {()} := if_pos rfl

theorem Ofrom_pos {c : Dev nD} {g : GSem nD τ sig} {u : Unit} : ∀ {l : List Due}, 0 < Ofrom c l g u → ∃ x ∈ l, g = dueCell c x
  | [], h => absurd h (Nat.lt_irrefl 0)
  | x :: l, h => by
    by_cases hx : g = dueCell c x
    · exact ⟨x, List.mem_cons_self, hx⟩
    · have h' : 0 < Ofrom c l g u := by
        unfold Ofrom at h
        rw [Pi.add_apply, Finsupp.add_apply, tallyAt_apply, if_neg (fun h' => hx h'.1)] at h
        exact h
      obtain ⟨y, hy, hg⟩ := Ofrom_pos h'
      exact ⟨y, List.mem_cons_of_mem _ hy, hg⟩

theorem dueCell_L (c : Dev nD) (x : Due) (u : Unit) : u ∈ L (dueCell c x) := by
  unfold dueCell; split <;> (rw [L_tc]; exact Finset.mem_singleton_self _)
theorem dueCell_lv (c : Dev nD) (x : Due) (u : Unit) : lv (dueCell c x) u = lvD x := by
  obtain ⟨o, k⟩ := x
  match o with
  | none => show lvI (dec (csem none)) = _; rw [dec_csem]; rfl
  | some f => show lvI (dec (csem (some (f, true, k)))) = _; rw [dec_csem]; rfl

theorem mayWait (c : Dev nD) (sm : SemLoc sig) (l : List Due) (h : ∀ x ∈ l, lvI (dec sm) < lvD x) :
    (levAts L lv : sProp 𝕄) ⊢ MayWait (c : Thread nD τ) sm () (Ofrom c l) :=
  MayOwe.of_cut (L := L) (lev := lv) (lvI (dec sm)) (fun p hp => by rw [Finset.mem_singleton.mp hp, L_tc]; exact Finset.mem_singleton_self _)
    (fun g u hg => by obtain ⟨x, _, rfl⟩ := Ofrom_pos hg; exact dueCell_L c x u)
    (fun p hp => by rw [Finset.mem_singleton.mp hp]; exact le_refl _)
    (fun g u hg => by obtain ⟨x, hx, rfl⟩ := Ofrom_pos hg; rw [dueCell_lv]; exact h x hx)

/-! ## The persistent context and the tokens -/

def cellRec (K : Dev nD × CI → ℕ) (p : Dev nD × CI) : sProp 𝕄 :=
  iprop(cellInv ER (Rd m) (K p) (gc p.1 p.2) ∗ reached ER (gc p.1 p.2) 0)
instance cellRec_persistent (K : Dev nD × CI → ℕ) (p : Dev nD × CI) : BI.Persistent (cellRec m K p) := by unfold cellRec; infer_instance

/-- Every cell's invariant and first round, and the levels. -/
def ctx (K : Dev nD × CI → ℕ) : sProp 𝕄 := iprop((bigSep Finset.univ fun p => cellRec m K p) ∗ levAts L lv)
instance ctx_persistent (K : Dev nD × CI → ℕ) : BI.Persistent (ctx m K) := by
  unfold ctx
  infer_instance

theorem ctx_cell (K : Dev nD × CI → ℕ) (c : Dev nD) (i : CI) : ctx m K ⊢ iprop(cellInv ER (Rd m) (K (c, i)) (gc c i) ∗ reached ER (gc c i) 0) := by
  have h : (bigSep Finset.univ fun p => cellRec m K p) ⊢ cellRec m K (c, i) := BI.bigSep_elim (Finset.mem_univ (c, i))
  unfold ctx
  iintro ⟨H, -⟩
  ihave H' := h $$ H
  unfold cellRec
  iexact H'
theorem ctx_lev (K : Dev nD × CI → ℕ) : ctx m K ⊢ (levAts L lv : sProp 𝕄) := by
  unfold ctx; iintro ⟨-, H⟩; iexact H

/-- What device `c` owes after its first `n` payments. -/
def owe (c : Dev nD) (n : ℕ) : sProp 𝕄 := iprop(∃ W, owes (c : Thread nD τ) (Ofrom c (dl n)) W)
/-- A cell ready to be waited on. -/
def pend (c : Dev nD) (i : CI) : sProp 𝕄 := iprop(atPos ER (gc c i) 0 ∅ 0 ∗ cred (tallyAt (gc c i) () (amtI i)))
/-- What a transfer of exchange `f` to peer `k` uses up. -/
def tok (f : Fin 3) (k : Fin 7) (c : Dev nD) : sProp 𝕄 :=
  iprop(dutyTok ER (gc c (some (f, false, k))) 0 0 ∗ atPos ER (gc c (some (f, false, k))) 0 ∅ 0 ∗ dutyTok ER (gc (rot k c) (some (f, true, k))) 0 0)
/-- What the signal to peer `k` uses up. -/
def stok (k : Fin 7) (c : Dev nD) : sProp 𝕄 := dutyTok ER (gc (rot k c) none) 0 k.rev
/-- A cell done with. -/
abbrev closed (c : Dev nD) (i : CI) : sProp 𝕄 := semVal (gc c i) 0

abbrev 𝒱₀ : Variants := Variants.none

/-- The weakest precondition on device `c`'s core. -/
abbrev WP (c : Dev nD) {α : Type} (Q : α → sProp 𝕄) (p : Prog (TpuEff nD τ sig (Elt F) Λ₀ .tc) α) : sProp 𝕄 :=
  wp frame (wpE (defs₀ (F := F)) 𝒱₀ (c : Thread nD τ) none) Set.univ p Q

section Steps
variable (K : Dev nD × CI → ℕ) (c : Dev nD)
variable {α : Type} {Q : α → sProp (MT nD τ sig Unit (Elt F) ℕ UU ℕ)} {k : PUnit → Prog (TpuEff nD τ sig (Elt F) Λ₀ .tc) α}

/-- A barrier signal to peer `j`. -/
theorem wp_sig (j : Fin 7) (n : Dev nD) (hn : n = rot j c) (a : ℤ) (ha : a = ((1 : ℕ) : ℤ)) (no : ℕ) (hl : dl no = (none, j) :: dl (no + 1)) :
    iprop(ctx m K ∗ owe c no ∗ stok j c ∗ barPay (F := F) (rot j c) j.rev)
      ⊢ iprop((owe c (no + 1) -∗ WP c Q (k ⟨⟩)) -∗ WP c Q (.op (.semSignal (n : Thread nD τ) barS a) k)) := by
  subst hn; subst ha
  unfold owe stok
  rw [hl]
  iintro ⟨#Hc, ⟨%W, Ho⟩, Ht, Hp⟩ Hk
  ihave Hcell := (ctx_cell m K (rot j c) none) $$ Hc
  icases Hcell with ⟨#HI, #Hr⟩
  have hd : j.rev ∈ (Rd m).duties ((rot j c : Thread nD τ), .reg barS) 0 := by
    show _ ∈ (Rd m).duties (gc (rot j c) none) 0; rw [duties_gc]; exact Finset.mem_univ _
  have ha : (Rd m).amount ((rot j c : Thread nD τ), .reg barS) 0 j.rev = 1 := amount_gc m (rot j c) none j.rev
  have hO : Ofrom c ((none, j) :: dl (no + 1)) = Ofrom c (dl (no + 1)) + tallyAt ((rot j c : Thread nD τ), .reg barS) () 1 := rfl
  iapply (Rounds.wp_signal 𝒱₀ ER (Rd m) (c : Thread nD τ) none (dst := (rot j c : Thread nD τ)) (κ := K (rot j c, none))
      (d := j.rev) hd ha () (Ofrom c (dl (no + 1))) hO) $$ [Ho Ht Hp]
  · isplitr; · iexact HI
    isplitl [Ho]; · iexact Ho
    isplitl [Ht]; · iexact Ht
    isplitl [Hp]
    · ihave Hp' := (Entails.of_eq (show barPay (F := F) (rot j c) j.rev = (Rd m).payload ((rot j c : Thread nD τ), .reg barS) 0 j.rev from
        (payload_gc m (rot j c) none j.rev).symm)) $$ Hp
      iexact Hp'
    iexact Hr
  iintro Ho
  iapply Hk
  iexists W; iexact Ho

/-- The wait for all seven peers. -/
theorem wp_barwait (a : ℤ) (ha : a = ((7 : ℕ) : ℤ)) (no : ℕ) (hl : ∀ x ∈ dl no, 1 < lvD x) :
    iprop(ctx m K ∗ owe c no ∗ pend c none)
      ⊢ iprop(((owe c no ∗ closed c none ∗ bigSep Finset.univ fun j => barPay (F := F) c j) -∗ WP c Q (k ⟨⟩)) -∗ WP c Q (.op (.semWait barS a) k)) := by
  subst ha
  unfold owe pend
  iintro ⟨#Hc, ⟨%W, Ho⟩, Hat, Hcr⟩ Hk
  ihave Hcell := (ctx_cell m K c none) $$ Hc
  icases Hcell with ⟨#HI, -⟩
  have hex : 0 + 7 = (Rd m).expect ((c : Thread nD τ), .reg barS) 0 := (expect_gc m c none).symm
  have hl' : ∀ x ∈ dl no, lvI (dec (.reg barS)) < lvD x := hl
  iapply (Rounds.wp_wait_rest_token 𝒱₀ ER (Rd m) (c : Thread nD τ) none (κ := K (c, none)) (sm := .reg barS)
      (wpE_semWait_eq 𝒱₀ (c : Thread nD τ) none Set.univ) (Set.mem_univ _) () (O := Ofrom c (dl no)) (W := W) (R := 0) (m := 0) (T := ∅)
      hex) $$ [Ho Hat Hcr]
  · isplitr; · iexact HI
    isplitl [Hcr]; · iexact Hcr
    isplitl [Ho]; · iexact Ho
    isplitr
    · iapply (mayWait c (.reg barS) (dl no) hl')
      iapply (ctx_lev m K); iexact Hc
    iexact Hat
  iintro ⟨Ho, Hat, -, Hpay⟩
  ihave Hp := (Entails.of_eq (show bigSep ((Rd m).duties ((c : Thread nD τ), .reg barS) 0 \ ∅) (fun d => (Rd m).payload ((c : Thread nD τ), .reg barS) 0 d) = _
    from rest_bar m c)) $$ Hpay
  imod (Rounds.cell_close ER (Rd m) (g := gc c none) (Set.mem_univ (K (c, none))) (fun h => h) (R := 0 + 1) (duties_later m (gc c none))) $$ [Hat] with Hz
  · isplitr; · iexact HI
    iexact Hat
  iapply Hk
  isplitl [Ho]; · iexists _; iexact Ho
  isplitl [Hz]; · iexact Hz
  iexact Hp

/-- The wait on the cell `x` of a transfer. -/
theorem wp_xwait (x : Fin 3 × Bool × Fin 7) {sem : DmaSem sig} (hs : (.dma sem : SemLoc sig) = csem (some x))
    {sp sp' : Space} {s s' : Shape} {e e' : EltTy} {src : Memref sig .tc sp' s' e'} {dst : Memref sig .tc sp s e}
    {hsrc : src.view.WordExact} {hdst : dst.view.WordExact} (hN : dst.view.dmaCredit = amt x.1)
    (no : ℕ) (hl : ∀ y ∈ dl no, lvI (some (some x)) < lvD y) :
    iprop(ctx m K ∗ owe c no ∗ pend c (some x))
      ⊢ iprop(((owe c no ∗ closed c (some x) ∗ payI m (some x) c 0) -∗ WP c Q (k ⟨⟩)) -∗ WP c Q (.op (.waitDma2 sem src dst hsrc hdst) k)) := by
  unfold owe pend
  iintro ⟨#Hc, ⟨%W, Ho⟩, Hat, Hcr⟩ Hk
  ihave Hcell := (ctx_cell m K c (some x)) $$ Hc
  icases Hcell with ⟨#HI, -⟩
  unfold closed gc
  rw [← rest_x m c x]
  unfold gc
  rw [← hs]
  have hlv : lvI (dec (.dma sem)) = lvI (some (some x)) := by rw [hs, dec_csem]
  have hex : 0 + dst.view.dmaCredit = (Rd m).expect ((c : Thread nD τ), .dma sem) 0 := by
    rw [hs, hN, Nat.zero_add]; exact (expect_gc m c (some x)).symm
  have hl' : ∀ y ∈ dl no, lvI (dec (.dma sem)) < lvD y := by rw [hlv]; exact hl
  iapply (Rounds.wp_wait_rest_token 𝒱₀ ER (Rd m) (c : Thread nD τ) none (κ := K (c, some x)) (sm := .dma sem)
      (wpE_waitDma2_eq 𝒱₀ (c : Thread nD τ) none Set.univ) (Set.mem_univ _) () (O := Ofrom c (dl no)) (W := W) (R := 0) (m := 0) (T := ∅)
      hex) $$ [Ho Hat Hcr]
  · isplitr; · iexact HI
    isplitl [Hcr]; · rw [hN]; iexact Hcr
    isplitl [Ho]; · iexact Ho
    isplitr
    · iapply (mayWait c (.dma sem) (dl no) hl')
      iapply (ctx_lev m K); iexact Hc
    iexact Hat
  iintro ⟨Ho, Hat, -, Hpay⟩
  imod (Rounds.cell_close ER (Rd m) (g := ((c : Thread nD τ), .dma sem)) (Set.mem_univ (K (c, some x))) (fun h => h) (R := 0 + 1) (duties_later m _)) $$ [Hat] with Hz
  · isplitr; · iexact HI
    iexact Hat
  iapply Hk
  isplitl [Ho]; · iexists _; iexact Ho
  isplitl [Hz]; · iexact Hz
  iexact Hpay

/-- A transfer of exchange `f` to peer `j`. -/
theorem wp_xfer (f : Fin 3) (j : Fin 7) (n : Dev nD) (hn : n = rot j c) {s : Shape} {e : EltTy}
    {src : Memref sig .tc .vmem s e} {dst : Memref sig (Dev.tc n : Thread nD τ).2.kind .vmem s e}
    (src' dst' : Memref sig .tc .vmem s e) (hs : src = src') (hd : dst = dst')
    {sS sR : DmaSem sig} (hS : (.dma sS : SemLoc sig) = csem (some (f, false, j))) (hR : (.dma sR : SemLoc sig) = csem (some (f, true, j)))
    {hsc : dst.view.ref.isScScratch = false} {hsrc : src.view.WordExact} {hdst : dst.view.WordExact}
    {hsem : DmaTarget.Typed .vmem (.dma sR) (.remote (Dev.tc n : Thread nD τ) dst (.dma sS) hsc)}
    (hN : dst'.view.dmaCredit = amt f) (q : PosShare TreeShare) (X : s.Idx → Elt F e)
    (h1 : (owns (c : Thread nD τ) src' q X : sProp 𝕄) ⊢ sendPay m f j c)
    (h2 : (owns (rot j c : Thread nD τ) dst' fullShare X : sProp 𝕄) ⊢ recvPay m f j (rot j c))
    (no : ℕ) (hl : dl no = (some f, j) :: dl (no + 1)) :
    iprop(ctx m K ∗ owe c no ∗ tok f j c ∗ owns (c : Thread nD τ) src' q X ∗ anyAt (rot j c) dst')
      ⊢ iprop(((owe c (no + 1) ∗ pend c (some (f, false, j))) -∗ WP c Q (k ⟨⟩))
        -∗ WP c Q (.op (.enqueueDma src (.remote (Dev.tc n : Thread nD τ) dst (.dma sS) hsc) (.dma sR) hsrc hdst hsem) k)) := by
  subst hn; subst hs
  change dst = dst' at hd
  subst hd
  unfold owe tok pend anyAt
  rw [hl]
  iintro ⟨#Hc, ⟨%W, Ho⟩, ⟨Ht1, Hat, Ht2⟩, Hsrc, ⟨%Y, Hdst⟩⟩ Hk
  ihave Hcell := (ctx_cell m K c (some (f, false, j))) $$ Hc
  icases Hcell with ⟨#HI1, #Hr1⟩
  ihave Hcell := (ctx_cell m K (rot j c) (some (f, true, j))) $$ Hc
  icases Hcell with ⟨#HI2, #Hr2⟩
  have d1 : (0 : Fin 7) ∈ (Rd m).duties ((c : Thread nD τ), .dma sS) 0 := by
    rw [hS]; show _ ∈ (Rd m).duties (gc c (some (f, false, j))) 0; rw [duties_gc]; exact Finset.mem_singleton_self _
  have d2 : (0 : Fin 7) ∈ (Rd m).duties ((rot j c : Thread nD τ), .dma sR) 0 := by
    rw [hR]; show _ ∈ (Rd m).duties (gc (rot j c) (some (f, true, j))) 0; rw [duties_gc]; exact Finset.mem_singleton_self _
  have a1 : (Rd m).amount ((c : Thread nD τ), .dma sS) 0 0 = amt f := by rw [hS]; exact amount_gc m c (some (f, false, j)) 0
  have a2 : (Rd m).amount ((rot j c : Thread nD τ), .dma sR) 0 0 = amt f := by rw [hR]; exact amount_gc m (rot j c) (some (f, true, j)) 0
  have p1 : (Rd m).payload ((c : Thread nD τ), .dma sS) 0 0 = sendPay m f j c := by rw [hS]; exact payload_gc m c (some (f, false, j)) 0
  have p2 : (Rd m).payload ((rot j c : Thread nD τ), .dma sR) 0 0 = recvPay m f j (rot j c) := by
    rw [hR]; exact payload_gc m (rot j c) (some (f, true, j)) 0
  have hO : Ofrom c ((some f, j) :: dl (no + 1)) = Ofrom c (dl (no + 1)) + tallyAt ((rot j c : Thread nD τ), .dma sR) () (amt f) := by rw [hR]; rfl
  unfold gc
  rw [← hS, ← hR, hO]
  unfold owns at *
  icases Hsrc with ⟨%fs, %hfs, Hsrc⟩
  icases Hdst with ⟨%fd, %hfd, Hdst⟩
  have e1 : (src.view.loc (c : Thread nD τ) ↦[src.view.set]{q} fs : sProp 𝕄) ⊢ (Rd m).payload ((c : Thread nD τ), .dma sS) 0 0 := by
    rw [p1]
    iintro H
    iapply h1
    iexists fs; isplitr; · (ipureintro; exact hfs)
    iexact H
  have e2 : (dst.view.loc (rot j c : Thread nD τ) ↦[dst.view.set]{fullShare} (dst.view.write (Elt F) fd (src.view.read (Elt F) fs) Finset.univ) : sProp 𝕄)
      ⊢ (Rd m).payload ((rot j c : Thread nD τ), .dma sR) 0 0 := by
    rw [p2]
    iintro H
    iapply h2
    iexists _; isplitr
    · ipureintro; exact (funext fun i => View.read_write_of_mem (v := dst.view) fd _ (Finset.mem_univ i)).trans hfs
    iexact H
  rw [show amtI (some (f, false, j)) = amt f from rfl]
  have hr : τ.routes (c : Thread nD τ) (rot j c : Thread nD τ) = true := by routes
  have hN' : dst.view.amount (.dma sR) = amt f := hN
  have H := Rounds.wp_send_pointsTo (Q := Q) (k := k) (hsc := hsc) (hsrc := hsrc) (hdst := hdst) (hsem := hsem) 𝒱₀ ER (Rd m) (c : Thread nD τ) none (κ₁ := K (c, some (f, false, j))) (κ₂ := K (rot j c, some (f, true, j)))
    (r₁ := 0) (r₂ := 0) (d₁ := 0) (d₂ := 0) (fd := fd) (fs := fs) (q := q) d1 d2 () () (amt f) hN' a1 a2 (Ofrom c (dl (no + 1))) rfl (W := W) e1 e2 (hr := hr) (Es := Set.univ) (defs := defs₀ (F := F)) (Γ := [])
  iapply H $$ [Ho Ht1 Ht2 Hsrc Hdst]
  · isplitr; · iexact HI1
    isplitr; · iexact HI2
    isplitl [Hsrc]; · iexact Hsrc
    isplitl [Hdst]; · iexact Hdst
    isplitl [Ho]; · iexact Ho
    isplitl [Ht1]; · iexact Ht1
    isplitr; · iexact Hr1
    isplitl [Ht2]; · iexact Ht2
    iexact Hr2
  iintro ⟨Hcr, Ho⟩
  iapply Hk
  isplitl [Ho]; · iexists W; iexact Ho
  isplitl [Hat]; · iexact Hat
  iexact Hcr

end Steps

end Cert.MoE

end
-- ==== Proof.Rows.lean ====
/-
# Owning buffers by rows

Splitting a buffer into disjoint slices and joining them again, advancing a family of slices one at a time, dealing a row
out in shares, and the load and store rules at a slice or at a whole buffer.
-/
module

public import proofs.«01_k».proof.Proof.Sched

@[expose] public section

noncomputable section

namespace Cert.MoE

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## Loads and stores -/

section Steps
variable (c : Dev nD) {α : Type} {Q : α → sProp (MT nD τ sig Unit (Elt F) ℕ UU ℕ)}

/-- A load of a slice that is owned. -/
theorem wp_ldr {s : Shape} {e : EltTy} {M : Memref sig .tc .vmem s e} {off off' size : Fin s.rank → ℕ}
    {inb : ∀ a, off a + size a ≤ s.size a} {inb' : ∀ a, off' a + size a ≤ s.size a} (h : off = off')
    {hl : M.view.LoadsAt (Rect.unit off size inb).toLoadRect} {q : PosShare TreeShare} {X : (Rect.unit off' size inb').shape.Idx → Elt F e}
    {k : ((Rect.unit off size inb).toLoadRect.shape.Idx → Elt F e) → Prog (TpuEff nD τ sig (Elt F) Λ₀ .tc) α} :
    (owns (c : Thread nD τ) (M.slice (Rect.unit off' size inb') (fun _ => rfl)) q X : sProp 𝕄)
      ⊢ iprop((owns (c : Thread nD τ) (M.slice (Rect.unit off' size inb') (fun _ => rfl)) q X -∗ WP c Q (k X))
        -∗ WP c Q (.op (.load M (Rect.unit off size inb).toLoadRect hl) k)) := by
  subst h
  iintro H Hk
  unfold owns
  icases H with ⟨%f, %hf, H⟩
  have hS : (M.access (Rect.unit off size inb)).set ⊆ (M.slice (Rect.unit off size inb) (fun _ => rfl)).view.set := Finset.Subset.refl _
  have e : (M.access (Rect.unit off size inb)).read (Elt F) f = X := hf
  iapply (wp_load_rect 𝒱₀ (c : Thread nD τ) none Set.univ (m := M) (r := Rect.unit off size inb) hS) $$ H
  iintro H
  rw [e]
  iapply Hk
  iexists f; isplitr; · (ipureintro; exact hf)
  iexact H

/-- A store over a slice that is owned. -/
theorem wp_str {s : Shape} {e : EltTy} {M : Memref sig .tc .vmem s e} {off off' size : Fin s.rank → ℕ}
    {inb : ∀ a, off a + size a ≤ s.size a} {inb' : ∀ a, off' a + size a ≤ s.size a} (h : off = off')
    {w : (Rect.unit off size inb).shape.Idx → Elt F e} {hx : (M.access (Rect.unit off size inb)).Stores Finset.univ}
    {hm : (Finset.univ : Finset (Rect.unit off size inb).shape.Idx) = Finset.univ ∨ ∀ a, (Rect.unit off size inb).stride a = 1}
    {k : PUnit → Prog (TpuEff nD τ sig (Elt F) Λ₀ .tc) α} :
    (anyAt (F := F) c (M.slice (Rect.unit off' size inb') (fun _ => rfl)))
      ⊢ iprop((owns (c : Thread nD τ) (M.slice (Rect.unit off' size inb') (fun _ => rfl)) fullShare w -∗ WP c Q (k ⟨⟩))
        -∗ WP c Q (.op (.store M (Rect.unit off size inb) w Finset.univ hx hm) k)) := by
  subst h
  unfold anyAt owns
  iintro ⟨%X, %f, %hf, H⟩ Hk
  have hS : (M.access (Rect.unit off size inb)).setOn Finset.univ ⊆ (M.slice (Rect.unit off size inb) (fun _ => rfl)).view.set := Finset.Subset.refl _
  iapply (wp_store 𝒱₀ (c : Thread nD τ) none Set.univ (m := M) (r := Rect.unit off size inb) (Mk := Finset.univ) hS) $$ H
  iintro H
  iapply Hk
  iexists _; isplitr
  · ipureintro; exact funext fun i => View.read_write_of_mem (v := M.access (Rect.unit off size inb)) f w (Finset.mem_univ i)
  iexact H

theorem whole_emb {s : Shape} {off : Fin s.rank → ℕ} (h : off = fun _ => 0) {inb : ∀ a, off a + s.size a ≤ s.size a} (p : s.Idx) :
    (Rect.unit off s.size inb).emb p = p := by
  subst h
  exact funext fun a => Fin.ext (by show 0 + 1 * (p a).val = (p a).val; omega)

/-- A load of all of a memref. -/
theorem wp_ldw {s : Shape} {e : EltTy} {M : Memref sig .tc .vmem s e} {off : Fin s.rank → ℕ} (h : off = fun _ => 0)
    {inb : ∀ a, off a + s.size a ≤ s.size a} {hl : M.view.LoadsAt (Rect.unit off s.size inb).toLoadRect} {q : PosShare TreeShare} {X : s.Idx → Elt F e}
    {k : ((Rect.unit off s.size inb).toLoadRect.shape.Idx → Elt F e) → Prog (TpuEff nD τ sig (Elt F) Λ₀ .tc) α} :
    (owns (c : Thread nD τ) M q X : sProp 𝕄)
      ⊢ iprop((owns (c : Thread nD τ) M q X -∗ WP c Q (k X)) -∗ WP c Q (.op (.load M (Rect.unit off s.size inb).toLoadRect hl) k)) := by
  iintro H Hk
  unfold owns
  icases H with ⟨%f, %hf, H⟩
  have hS : (M.access (Rect.unit off s.size inb)).set ⊆ M.view.set := View.set_slice_subset _ _
  have e : (M.access (Rect.unit off s.size inb)).read (Elt F) f = X := by
    rw [← hf]; funext p
    exact congrArg (M.view.read (Elt F) f) (whole_emb h p)
  iapply (wp_load_rect 𝒱₀ (c : Thread nD τ) none Set.univ (m := M) (r := Rect.unit off s.size inb) hS) $$ H
  iintro H
  rw [e]
  iapply Hk
  iexists f; isplitr; · (ipureintro; exact hf)
  iexact H

/-- A store over all of a memref. -/
theorem wp_stw {s : Shape} {e : EltTy} {M : Memref sig .tc .vmem s e} {off : Fin s.rank → ℕ} (h : off = fun _ => 0)
    {inb : ∀ a, off a + s.size a ≤ s.size a}
    {w : (Rect.unit off s.size inb).shape.Idx → Elt F e} {hx : (M.access (Rect.unit off s.size inb)).Stores Finset.univ}
    {hm : (Finset.univ : Finset (Rect.unit off s.size inb).shape.Idx) = Finset.univ ∨ ∀ a, (Rect.unit off s.size inb).stride a = 1}
    {k : PUnit → Prog (TpuEff nD τ sig (Elt F) Λ₀ .tc) α} :
    (anyAt (F := F) c M)
      ⊢ iprop((owns (c : Thread nD τ) M fullShare (fun p => w p) -∗ WP c Q (k ⟨⟩))
        -∗ WP c Q (.op (.store M (Rect.unit off s.size inb) w Finset.univ hx hm) k)) := by
  unfold anyAt owns
  iintro ⟨%X, %f, %hf, H⟩ Hk
  have hS : (M.access (Rect.unit off s.size inb)).setOn Finset.univ ⊆ M.view.set := View.set_slice_subset _ _
  iapply (wp_store 𝒱₀ (c : Thread nD τ) none Set.univ (m := M) (r := Rect.unit off s.size inb) (Mk := Finset.univ) hS) $$ H
  iintro H
  iapply Hk
  iexists _; isplitr
  · ipureintro; funext p
    have h1 := View.read_write_of_mem (v := M.access (Rect.unit off s.size inb)) (Val := Elt F) f w (Finset.mem_univ p)
    have h2 : ∀ g, (M.access (Rect.unit off s.size inb)).read (Elt F) g p = M.view.read (Elt F) g p :=
      fun g => congrArg (M.view.read (Elt F) g) (whole_emb h p)
    exact (h2 _).symm.trans h1
  iexact H

end Steps

/-! ## Splitting and joining -/

section Blocks
variable (c : Dev nD) {s : Shape} {e : EltTy} (M : Memref sig .tc .vmem s e) {NB : ℕ} (r : Fin NB → Rect s) (hr : ∀ j a, (r j).stride a = 1)
  (hd : ∀ j j', j ≠ j' → Disjoint (r j).set (r j').set) (hc : Finset.univ.biUnion (fun j => (r j).set) = Finset.univ)

include hc in
theorem blocks_cover : Finset.univ.biUnion (fun j => (M.slice (r j) (hr j)).view.set) = M.view.set := by
  ext i
  constructor
  · intro h
    obtain ⟨j, -, hj⟩ := Finset.mem_biUnion.mp h
    exact View.set_slice_subset _ (r j) hj
  · intro h
    obtain ⟨x, -, rfl⟩ := Finset.mem_map.mp h
    have hx : x ∈ Finset.univ.biUnion (fun j => (r j).set) := by rw [hc]; exact Finset.mem_univ x
    obtain ⟨j, -, hj⟩ := Finset.mem_biUnion.mp hx
    refine Finset.mem_biUnion.mpr ⟨j, Finset.mem_univ _, ?_⟩
    show M.view.emb x ∈ (M.view.slice (r j)).set
    rw [View.set_slice]
    exact Finset.mem_map_of_mem _ hj
include hd in
theorem blocks_disj (j j' : Fin NB) (h : j ≠ j') : Disjoint (M.slice (r j) (hr j)).view.set (M.slice (r j') (hr j')).view.set := by
  show Disjoint (M.view.slice (r j)).set (M.view.slice (r j')).set
  rw [View.set_slice, View.set_slice]
  exact (Finset.disjoint_map _).mpr (hd j j' h)

include hd hc in
theorem owns_split {q : PosShare TreeShare} (X : s.Idx → Elt F e) :
    (owns (c : Thread nD τ) M q X : sProp 𝕄) ⊢ bigSep Finset.univ fun j => owns (c : Thread nD τ) (M.slice (r j) (hr j)) q (fun p => X ((r j).emb p)) := by
  have h1 : ∀ f : Buf (Elt F) (M.view.loc (c : Thread nD τ)), M.view.read (Elt F) f = X → ∀ j,
      (M.view.loc (c : Thread nD τ) ↦[(M.slice (r j) (hr j)).view.set]{q} f : sProp 𝕄)
        ⊢ owns (c : Thread nD τ) (M.slice (r j) (hr j)) q (fun p => X ((r j).emb p)) := by
    intro f hf j
    unfold owns
    iintro H; iexists f; isplitr
    · ipureintro; funext p; exact congrFun hf ((r j).emb p)
    iexact H
  have h2 : ∀ f : Buf (Elt F) (M.view.loc (c : Thread nD τ)), (M.view.loc (c : Thread nD τ) ↦[M.view.set]{q} f : sProp 𝕄)
      = bigSep Finset.univ fun j => (M.view.loc (c : Thread nD τ) ↦[(M.slice (r j) (hr j)).view.set]{q} f) := by
    intro f
    rw [← blocks_cover M r hr hc]
    have := pointsTo_biUnion (Ix := Unit) (Name := ℕ) (U := UU) (Lvl := ℕ) (ℓ := M.view.loc (c : Thread nD τ)) (q := q) (f := f) Finset.univ (fun j => (M.slice (r j) (hr j)).view.set) (fun j _ j' _ h => blocks_disj M r hr hd j j' h)
    exact this
  conv_lhs => unfold owns
  iintro ⟨%f, %hf, H⟩
  have h3 : (M.view.loc (c : Thread nD τ) ↦[M.view.set]{q} f : sProp 𝕄)
      ⊢ bigSep Finset.univ fun j => owns (c : Thread nD τ) (M.slice (r j) (hr j)) q (fun p => X ((r j).emb p)) := by
    rw [h2 f]; exact BI.bigSep_mono fun j _ => h1 f hf j
  iapply h3; iexact H

include hd hc in
theorem owns_joins [NeZero NB] {q : PosShare TreeShare} (v : (j : Fin NB) → (r j).shape.Idx → Elt F e) (X : s.Idx → Elt F e)
    (hv : ∀ j p, X ((r j).emb p) = v j p) :
    (bigSep Finset.univ fun j => owns (c : Thread nD τ) (M.slice (r j) (hr j)) q (v j)) ⊢ (owns (c : Thread nD τ) M q X : sProp 𝕄) := by
  unfold owns
  iintro H
  ihave H := (Idealize.SL.BI.bigSep_exists_pi (Y := fun j => Buf (Elt F) ((M.slice (r j) (hr j)).view.loc (c : Thread nD τ))) Finset.univ
    (fun j f => iprop(⌜(M.slice (r j) (hr j)).view.read (Elt F) f = v j⌝ ∗ ((M.slice (r j) (hr j)).view.loc (c : Thread nD τ) ↦[(M.slice (r j) (hr j)).view.set]{q} f)))) $$ H
  icases H with ⟨%fs, H⟩
  ihave H := (bigSep_pure_sep Finset.univ _ _) $$ H
  icases H with ⟨%hf, H⟩
  have hj : (bigSep Finset.univ fun j => (M.view.loc (c : Thread nD τ) ↦[(M.slice (r j) (hr j)).view.set]{q} fs j : sProp 𝕄))
      ⊢ iprop(∃ g, ⌜∀ j ∈ (Finset.univ : Finset (Fin NB)), ∀ i ∈ (M.slice (r j) (hr j)).view.set, g i = fs j i⌝ ∗ M.view.loc (c : Thread nD τ) ↦[M.view.set]{q} g) := by
    have := pointsTo_biUnion_join (Ix := Unit) (Name := ℕ) (U := UU) (Lvl := ℕ) (q := q) Finset.univ (fun j => (M.slice (r j) (hr j)).view.set) fs (fs 0) (fun j _ j' _ h => blocks_disj M r hr hd j j' h)
    rw [blocks_cover M r hr hc] at this
    exact this
  ihave H := hj $$ H
  icases H with ⟨%g, %hg, H⟩
  iexists g; isplitr
  · ipureintro
    funext x
    have hx : x ∈ Finset.univ.biUnion (fun j => (r j).set) := by rw [hc]; exact Finset.mem_univ x
    obtain ⟨j, -, hj⟩ := Finset.mem_biUnion.mp hx
    rw [← Rect.map_emb_univ] at hj
    obtain ⟨p, -, rfl⟩ := Finset.mem_map.mp hj
    rw [hv]
    have hrd : (M.view.slice (r j)).read (Elt F) g = (M.view.slice (r j)).read (Elt F) (fs j) := View.read_congr (hg j (Finset.mem_univ _))
    exact congrFun (hrd.trans (hf j (Finset.mem_univ _))) p
  iexact H

end Blocks

/-! ## Families advanced one at a time -/

section Family
variable {n : ℕ} (P D : Fin n → sProp (MT nD τ sig Unit (Elt F) ℕ UU ℕ))

theorem fam_erase (Φ : Fin n → sProp 𝕄) (t : Fin n) : bigSep Finset.univ Φ = iprop(Φ t ∗ bigSep (Finset.univ.erase t) Φ) :=
  BI.bigSep_erase (Finset.mem_univ t)

/-- The first `t` done, the rest to do. -/
def famAt (t : ℕ) : sProp 𝕄 := bigSep Finset.univ fun j : Fin n => if j.val < t then D j else P j

theorem fam_zero : famAt P D 0 = bigSep Finset.univ P := congrArg (bigSep (Finset.univ : Finset (Fin n))) (funext fun j => if_neg (Nat.not_lt_zero _))
theorem fam_all : famAt P D n = bigSep Finset.univ D := congrArg (bigSep (Finset.univ : Finset (Fin n))) (funext fun j => if_pos (Fin.isLt j))
theorem fam_step (t : Fin n) : famAt P D t.val ⊢ iprop(P t ∗ (D t -∗ famAt P D (t.val + 1))) := by
  unfold famAt
  rw [fam_erase _ t, if_neg (Nat.lt_irrefl _)]
  iintro ⟨Hp, Hr⟩
  isplitl [Hp]; · iexact Hp
  iintro Hd
  rw [fam_erase _ t, if_pos (Nat.lt_succ_self _)]
  isplitl [Hd]; · iexact Hd
  have h : (bigSep (Finset.univ.erase t) fun j : Fin n => if j.val < t.val then D j else P j)
      = bigSep (Finset.univ.erase t) fun j : Fin n => if j.val < t.val + 1 then D j else P j :=
    BI.bigSep_congr fun j hj => by
      have hne : j.val ≠ t.val := fun h => (Finset.mem_erase.mp hj).1 (Fin.ext h)
      by_cases h : j.val < t.val
      · rw [if_pos h, if_pos (by omega)]
      · rw [if_neg h, if_neg (by omega)]
  ihave H := (Entails.of_eq h) $$ Hr
  iexact H
theorem fam_get (t : Fin n) : bigSep Finset.univ D ⊢ iprop(D t ∗ (D t -∗ bigSep Finset.univ D)) := by
  rw [fam_erase _ t]
  iintro ⟨H, Hr⟩
  isplitl [H]; · iexact H
  iintro H
  isplitl [H]; · iexact H
  iexact Hr

theorem seven (Φ : Fin 7 → sProp 𝕄) : bigSep Finset.univ Φ = iprop(Φ 0 ∗ Φ 1 ∗ Φ 2 ∗ Φ 3 ∗ Φ 4 ∗ Φ 5 ∗ Φ 6) := by
  rw [bigSep_univ_eq_bigSepL [0, 1, 2, 3, 4, 5, 6] (by decide) (by decide)]; rfl
theorem around (c : Dev nD) (Φ : Dev nD → sProp 𝕄) : bigSep Finset.univ Φ
    = iprop(Φ c ∗ Φ (rot 0 c) ∗ Φ (rot 1 c) ∗ Φ (rot 2 c) ∗ Φ (rot 3 c) ∗ Φ (rot 4 c) ∗ Φ (rot 5 c) ∗ Φ (rot 6 c)) := by
  rw [bigSep_univ_eq_bigSepL [c, rot 0 c, rot 1 c, rot 2 c, rot 3 c, rot 4 c, rot 5 c, rot 6 c] (by revert c; decide) (by revert c; decide)]; rfl
theorem aroundB (c : Dev nD) (Φ : Dev nD → sProp 𝕄) : bigSep Finset.univ Φ
    = iprop(Φ c ∗ Φ (back 0 c) ∗ Φ (back 1 c) ∗ Φ (back 2 c) ∗ Φ (back 3 c) ∗ Φ (back 4 c) ∗ Φ (back 5 c) ∗ Φ (back 6 c)) := by
  rw [bigSep_univ_eq_bigSepL [c, back 0 c, back 1 c, back 2 c, back 3 c, back 4 c, back 5 c, back 6 c] (by revert c; decide) (by revert c; decide)]; rfl

end Family

/-! ## Shares -/

section Shares
variable (c : Dev nD) {s : Shape} {e : EltTy} (M : Memref sig .tc .vmem s e) (X : s.Idx → Elt F e)

theorem owns_pts {q : PosShare TreeShare} (f : Buf (Elt F) (M.view.loc (c : Thread nD τ))) (hf : M.view.read (Elt F) f = X) :
    (owns (c : Thread nD τ) M q X : sProp 𝕄) ⊢ (M.view.loc (c : Thread nD τ) ↦[M.view.set]{q} f) := by
  unfold owns
  iintro ⟨%g, %hg, H⟩
  have e : (M.view.loc (c : Thread nD τ) ↦[M.view.set]{q} g : sProp 𝕄) = (M.view.loc (c : Thread nD τ) ↦[M.view.set]{q} f) :=
    pointsTo_congr fun i hi => by
      obtain ⟨p, -, rfl⟩ := Finset.mem_map.mp hi
      have := congrFun (hg.trans hf.symm) p
      rw [View.read_apply, View.read_apply] at this
      exact (cast_inj _).mp this
  ihave H := (Entails.of_eq e) $$ H
  iexact H
theorem pts_owns {q : PosShare TreeShare} (f : Buf (Elt F) (M.view.loc (c : Thread nD τ))) (hf : M.view.read (Elt F) f = X) :
    (M.view.loc (c : Thread nD τ) ↦[M.view.set]{q} f : sProp 𝕄) ⊢ owns (c : Thread nD τ) M q X := by
  unfold owns
  iintro H; iexists f; isplitr; · (ipureintro; exact hf)
  iexact H

theorem owns_deal : (owns (c : Thread nD τ) M fullShare X : sProp 𝕄)
    ⊢ iprop(owns (c : Thread nD τ) M (Transfers.shareDrop fullShare 7) X ∗ bigSep Finset.univ fun k : Fin 7 => owns (c : Thread nD τ) M (Transfers.shareTok fullShare 7 k) X) := by
  have h0 : ∀ f : Buf (Elt F) (M.view.loc (c : Thread nD τ)), M.view.read (Elt F) f = X →
    ((M.view.loc (c : Thread nD τ) ↦[M.view.set]{fullShare} f : sProp 𝕄)
      ⊢ iprop(owns (c : Thread nD τ) M (Transfers.shareDrop fullShare 7) X ∗ bigSep Finset.univ fun k : Fin 7 => owns (c : Thread nD τ) M (Transfers.shareTok fullShare 7 k) X)) := fun f hf =>
    BI.Entails.trans (Transfers.pointsTo_toks_split fullShare 7) (BI.sep_mono (pts_owns c M X f hf) (BI.bigSep_mono fun k _ => pts_owns c M X f hf))
  conv_lhs => unfold owns
  iintro ⟨%f, %hf, H⟩
  iapply (h0 f hf); iexact H
theorem owns_undeal : iprop(owns (c : Thread nD τ) M (Transfers.shareDrop fullShare 7) X ∗ bigSep Finset.univ fun k : Fin 7 => owns (c : Thread nD τ) M (Transfers.shareTok fullShare 7 k) X)
    ⊢ (owns (c : Thread nD τ) M fullShare X : sProp 𝕄) := by
  have h0 : ∀ f : Buf (Elt F) (M.view.loc (c : Thread nD τ)), M.view.read (Elt F) f = X →
      iprop((M.view.loc (c : Thread nD τ) ↦[M.view.set]{Transfers.shareDrop fullShare 7} f) ∗ bigSep Finset.univ fun k : Fin 7 => owns (c : Thread nD τ) M (Transfers.shareTok fullShare 7 k) X)
        ⊢ (owns (c : Thread nD τ) M fullShare X : sProp 𝕄) := fun f hf =>
    BI.Entails.trans (BI.Entails.trans (BI.sep_mono (BI.Entails.refl _) (BI.bigSep_mono fun k _ => owns_pts c M X f hf)) (Transfers.pointsTo_toks_join fullShare 7)) (pts_owns c M X f hf)
  iintro ⟨Hd, Hr⟩
  unfold owns
  icases Hd with ⟨%f, %hf, Hd⟩
  have h1 := h0 f hf
  unfold owns at h1
  iapply h1
  isplitl [Hd]; · iexact Hd
  iexact Hr

end Shares

end Cert.MoE

end
-- ==== Proof.Steps.lean ====
/-
# The transfers of the three exchanges

One step each for sending the counts, the packed tokens and the results, at a symbolic device.
-/
module

public import proofs.«01_k».proof.Proof.Rows

@[expose] public section

noncomputable section

namespace Cert.MoE

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × CI → ℕ) (c : Dev nD)

/-- A function of the body's arguments, at the buffers the launch passes. -/
abbrev atBufs {β : Type*} (f : (arg0 : Memref sig .tc .vmem S2048x512 .bf16) → (harg0 : arg0.IsWhole) → (arg1 : Memref sig .tc .vmem S2048x1 .i32) → (harg1 : arg1.IsWhole) →
    (arg2 : Memref sig .tc .vmem S8x512x1024 .bf16) → (harg2 : arg2.IsWhole) → (arg3 : Memref sig .tc .vmem S2048x1024 .bf16) → (harg3 : arg3.IsWhole) →
    (arg4 : Memref sig .tc .vmem S2048x384 .bf16) → (harg4 : arg4.IsWhole) → (arg5 : Memref sig .tc .vmem S7x384x512 .bf16) → (harg5 : arg5.IsWhole) →
    (arg6 : Memref sig .tc .vmem S8x384x512 .bf16) → (harg6 : arg6.IsWhole) → (arg7 : Memref sig .tc .vmem S8x640x512 .bf16) → (harg7 : arg7.IsWhole) →
    (arg8 : Memref sig .tc .vmem S8x640x1024 .bf16) → (harg8 : arg8.IsWhole) → (arg9 : Memref sig .tc .vmem S8x384x1024 .bf16) → (harg9 : arg9.IsWhole) →
    (arg10 : Memref sig .tc .vmem S8x384x1024 .bf16) → (harg10 : arg10.IsWhole) → (arg11 : Memref sig .tc .vmem S8x384x640 .bf16) → (harg11 : arg11.IsWhole) →
    (arg12 : Memref sig .tc .vmem S8x64 .i32) → (harg12 : arg12.IsWhole) →
    (arg13 : DmaSems sig S7) → (arg14 : DmaSems sig S7) → (arg15 : DmaSems sig S7) → (arg16 : DmaSems sig S7) → (arg17 : DmaSems sig S7) → (arg18 : DmaSems sig S7) → β) : β :=
  f (Memref.whole cc0_stg0_0) (Memref.isWhole_whole _) (Memref.whole cc0_stg1_0) (Memref.isWhole_whole _) (Memref.whole cc0_stg2_0) (Memref.isWhole_whole _)
    (Memref.whole cc0_stg3_0) (Memref.isWhole_whole _) (Memref.whole cc0_scratch0) (Memref.isWhole_whole _) (Memref.whole cc0_scratch1) (Memref.isWhole_whole _)
    (Memref.whole cc0_scratch2) (Memref.isWhole_whole _) (Memref.whole cc0_scratch3) (Memref.isWhole_whole _) (Memref.whole cc0_scratch4) (Memref.isWhole_whole _)
    (Memref.whole cc0_scratch5) (Memref.isWhole_whole _) (Memref.whole cc0_scratch6) (Memref.isWhole_whole _) (Memref.whole cc0_scratch7) (Memref.isWhole_whole _)
    (Memref.whole cc0_scratch8) (Memref.isWhole_whole _) cc0_scratch9 cc0_scratch10 cc0_scratch11 cc0_scratch12 cc0_scratch13 cc0_scratch14

/-- A finished program. -/
theorem wp_done {α : Type} {Q : α → sProp 𝕄} (a : α) : Q a ⊢ WP c Q (.ret a) := by
  unfold WP; rw [wp_ret]; iintro H; imodintro; iexact H

/-- Some contents, named. -/
theorem any_elim {s : Shape} {e : EltTy} (M : Memref sig .tc .vmem s e) : anyAt (F := F) c M ⊢ (iprop(∃ X, owns (c : Thread nD τ) M fullShare X) : sProp 𝕄) := by
  unfold anyAt; exact BI.Entails.refl _

/-- A program's head, then its tail. -/
theorem wp_seq {α β : Type} (p : Prog (TpuEff nD τ sig (Elt F) Λ₀ .tc) α) (k : α → Prog (TpuEff nD τ sig (Elt F) Λ₀ .tc) β) (Q : β → sProp 𝕄) :
    WP c (fun a => WP c Q (k a)) p ⊢ WP c Q (p >>= k) := by
  unfold WP; rw [wp_bind]

theorem who_rot : ∀ (k : Fin 7) (c : Dev nD), who c (rot k c) = some k := by decide
theorem who_back : ∀ (k : Fin 7) (c : Dev nD), who (back k c) c = some k := by decide
theorem who_self : ∀ (c : Dev nD), who c c = none := by decide

section
variable {α : Type} {Q : α → sProp (MT nD τ sig Unit (Elt F) ℕ UU ℕ)} {k : PUnit → Prog (TpuEff nD τ sig (Elt F) Λ₀ .tc) α}
variable (j : Fin 7) (n : Dev nD) (hn : n = rot j c) {sS sR : DmaSem sig}
include hn

/-- The counts row, sent to peer `j`. -/
theorem xfer_cnt {off : Fin 2 → ℕ} (ho : off = ro2 c.val) {inb inb' : ∀ a, off a + S1x64.size a ≤ S8x64.size a}
    (hS : (.dma sS : SemLoc sig) = csem (some (2, false, j))) (hR : (.dma sR : SemLoc sig) = csem (some (2, true, j))) (no : ℕ) (hl : dl no = (some 2, j) :: dl (no + 1))
    {hsc hsrc hdst hsem} :
    iprop(ctx m K ∗ owe c no ∗ tok 2 j c ∗ owns (c : Thread nD τ) (cntR c) (Transfers.shareTok fullShare 7 j) (cntv m c) ∗ anyAt (F := F) (rot j c) (cntR c))
      ⊢ iprop(((owe c (no + 1) ∗ pend c (some (2, false, j))) -∗ WP c Q (k ⟨⟩))
        -∗ WP c Q (.op (.enqueueDma ((Memref.whole cc0_scratch8 : Memref sig .tc .vmem S8x64 .i32).slice (Rect.unit off S1x64.size inb) (fun _ => rfl))
          (.remote (Dev.tc n : Thread nD τ) ((Memref.whole cc0_scratch8 : Memref sig .tc .vmem S8x64 .i32).slice (Rect.unit off S1x64.size inb') (fun _ => rfl)) (.dma sS) hsc) (.dma sR) hsrc hdst hsem) k)) := by
  have h2 : (owns (rot j c : Thread nD τ) (cntR c) fullShare (cntv m c) : sProp 𝕄) ⊢ recvPay m 2 j (rot j c) := by
    show _ ⊢ ow' (rot j c) (cntR (back j (rot j c))) fullShare (cntv m (back j (rot j c)))
    rw [back_rot]
  exact wp_xfer m K c 2 j n hn (cntR c) (cntR c) (slice_off _ ho _ _) (slice_off _ ho _ _) hS hR rfl _ (cntv m c) (BI.Entails.refl _) h2 no hl

/-- Packed tokens, sent to peer `j`. -/
theorem xfer_p1 {off off' : Fin 3 → ℕ} (ho : off = ro3 j.val) (ho' : off' = ro3 c.val) {inb : ∀ a, off a + S1x384x512.size a ≤ S7x384x512.size a} {inb' : ∀ a, off' a + S1x384x512.size a ≤ S8x384x512.size a}
    (hS : (.dma sS : SemLoc sig) = csem (some (0, false, j))) (hR : (.dma sR : SemLoc sig) = csem (some (0, true, j))) (no : ℕ) (hl : dl no = (some 0, j) :: dl (no + 1))
    {hsc hsrc hdst hsem} :
    iprop(ctx m K ∗ owe c no ∗ tok 0 j c ∗ owns (c : Thread nD τ) (xdR j) fullShare (xdv m c (some j)) ∗ anyAt (F := F) (rot j c) (inR c))
      ⊢ iprop(((owe c (no + 1) ∗ pend c (some (0, false, j))) -∗ WP c Q (k ⟨⟩))
        -∗ WP c Q (.op (.enqueueDma ((Memref.whole cc0_scratch1 : Memref sig .tc .vmem S7x384x512 .bf16).slice (Rect.unit off S1x384x512.size inb) (fun _ => rfl))
          (.remote (Dev.tc n : Thread nD τ) ((Memref.whole cc0_scratch2 : Memref sig .tc .vmem S8x384x512 .bf16).slice (Rect.unit off' S1x384x512.size inb') (fun _ => rfl)) (.dma sS) hsc) (.dma sR) hsrc hdst hsem) k)) := by
  have h2 : (owns (rot j c : Thread nD τ) (inR c) fullShare (xdv m c (some j)) : sProp 𝕄) ⊢ recvPay m 0 j (rot j c) := by
    show _ ⊢ ow' (rot j c) (inR (back j (rot j c))) fullShare (xdv m (back j (rot j c)) (who (back j (rot j c)) (rot j c)))
    rw [back_rot, who_rot]
  exact wp_xfer m K c 0 j n hn (xdR j) (inR c) (slice_off _ ho _ _) (slice_off _ ho' _ _) hS hR rfl _ (xdv m c (some j)) (BI.Entails.refl _) h2 no hl

/-- Results, sent back to peer `j`. -/
theorem xfer_p2 {off off' : Fin 3 → ℕ} (ho : off = ro3 (rot j c).val) (ho' : off' = ro3 c.val) {inb : ∀ a, off a + S1x384x1024.size a ≤ S8x384x1024.size a} {inb' : ∀ a, off' a + S1x384x1024.size a ≤ S8x384x1024.size a}
    (hS : (.dma sS : SemLoc sig) = csem (some (1, false, j))) (hR : (.dma sR : SemLoc sig) = csem (some (1, true, j))) (no : ℕ) (hl : dl no = (some 1, j) :: dl (no + 1))
    {hsc hsrc hdst hsem} :
    iprop(ctx m K ∗ owe c no ∗ tok 1 j c ∗ owns (c : Thread nD τ) (yR (rot j c)) fullShare (yv m c (rot j c)) ∗ anyAt (F := F) (rot j c) (retR c))
      ⊢ iprop(((owe c (no + 1) ∗ pend c (some (1, false, j))) -∗ WP c Q (k ⟨⟩))
        -∗ WP c Q (.op (.enqueueDma ((Memref.whole cc0_scratch5 : Memref sig .tc .vmem S8x384x1024 .bf16).slice (Rect.unit off S1x384x1024.size inb) (fun _ => rfl))
          (.remote (Dev.tc n : Thread nD τ) ((Memref.whole cc0_scratch6 : Memref sig .tc .vmem S8x384x1024 .bf16).slice (Rect.unit off' S1x384x1024.size inb') (fun _ => rfl)) (.dma sS) hsc) (.dma sR) hsrc hdst hsem) k)) := by
  have h2 : (owns (rot j c : Thread nD τ) (retR c) fullShare (yv m c (rot j c)) : sProp 𝕄) ⊢ recvPay m 1 j (rot j c) := by
    show _ ⊢ ow' (rot j c) (retR (back j (rot j c))) fullShare (yv m (back j (rot j c)) (rot j c))
    rw [back_rot]
  exact wp_xfer m K c 1 j n hn (yR (rot j c)) (retR c) (slice_off _ ho _ _) (slice_off _ ho' _ _) hS hR rfl _ (yv m c (rot j c)) (BI.Entails.refl _) h2 no hl

end

/-! ## Resources, grouped -/

/-- The signal to peer `j`, with the rows it hands over. -/
def sigR (j : Fin 7) : sProp 𝕄 := iprop(stok j c ∗ barPay (F := F) (rot j c) j.rev)
/-- The counts transfer to peer `j`, with the row it lands in and the share of the row it reads. -/
def cntT (j : Fin 7) : sProp 𝕄 := iprop(tok 2 j c ∗ owns (c : Thread nD τ) (cntR c) (Transfers.shareTok fullShare 7 j) (cntv m c) ∗ anyAt (F := F) (rot j c) (cntR c))
/-- The tokens transfer to peer `j`, with the row it lands in. -/
def p1T (j : Fin 7) : sProp 𝕄 := iprop(tok 0 j c ∗ anyAt (F := F) (rot j c) (inR c))
/-- The results transfer to peer `j`, with both rows. -/
def p2T (j : Fin 7) : sProp 𝕄 := iprop(tok 1 j c ∗ owns (c : Thread nD τ) (yR (rot j c)) fullShare (yv m c (rot j c)) ∗ anyAt (F := F) (rot j c) (retR c))
/-- Both waits of a transfer, before and after. -/
abbrev wS (f : Fin 3) (j : Fin 7) : sProp 𝕄 := iprop(closed c (some (f, false, j)) ∗ sendPay m f j c)
abbrev wR (f : Fin 3) (j : Fin 7) : sProp 𝕄 := iprop(closed c (some (f, true, j)) ∗ recvPay m f j c)

section
variable {α : Type} {Q : α → sProp (MT nD τ sig Unit (Elt F) ℕ UU ℕ)} {k : PUnit → Prog (TpuEff nD τ sig (Elt F) Λ₀ .tc) α}
/-- The wait for an own transfer to be read. -/
theorem wt_s (f : Fin 3) (j : Fin 7) {sem : DmaSem sig} (hs : (.dma sem : SemLoc sig) = csem (some (f, false, j)))
    {sp sp' : Space} {s s' : Shape} {e e' : EltTy} {src : Memref sig .tc sp' s' e'} {dst : Memref sig .tc sp s e}
    {hsrc : src.view.WordExact} {hdst : dst.view.WordExact} (hN : dst.view.dmaCredit = amt f)
    (no : ℕ) (hl : ∀ y ∈ dl no, lvI (some (some (f, false, j))) < lvD y) :
    iprop(ctx m K ∗ owe c no ∗ pend c (some (f, false, j)))
      ⊢ iprop(((owe c no ∗ wS m c f j) -∗ WP c Q (k ⟨⟩)) -∗ WP c Q (.op (.waitDma2 sem src dst hsrc hdst) k)) :=
  wp_xwait m K c (f, false, j) hs hN no hl
/-- The wait for a peer's transfer to land. -/
theorem wt_r (f : Fin 3) (j : Fin 7) {sem : DmaSem sig} (hs : (.dma sem : SemLoc sig) = csem (some (f, true, j)))
    {sp sp' : Space} {s s' : Shape} {e e' : EltTy} {src : Memref sig .tc sp' s' e'} {dst : Memref sig .tc sp s e}
    {hsrc : src.view.WordExact} {hdst : dst.view.WordExact} (hN : dst.view.dmaCredit = amt f)
    (no : ℕ) (hl : ∀ y ∈ dl no, lvI (some (some (f, true, j))) < lvD y) :
    iprop(ctx m K ∗ owe c no ∗ pend c (some (f, true, j)))
      ⊢ iprop(((owe c no ∗ wR m c f j) -∗ WP c Q (k ⟨⟩)) -∗ WP c Q (.op (.waitDma2 sem src dst hsrc hdst) k)) :=
  wp_xwait m K c (f, true, j) hs hN no hl

/-- A store over an owned slice, its value under another name. -/
theorem wp_strv {s : Shape} {e : EltTy} {M : Memref sig .tc .vmem s e} {off off' size : Fin s.rank → ℕ}
    {inb : ∀ a, off a + size a ≤ s.size a} {inb' : ∀ a, off' a + size a ≤ s.size a} (h : off = off')
    {w : (Rect.unit off size inb).shape.Idx → Elt F e} (w' : (Rect.unit off size inb).shape.Idx → Elt F e) (hw : w = w') {hx : (M.access (Rect.unit off size inb)).Stores Finset.univ}
    {hm : (Finset.univ : Finset (Rect.unit off size inb).shape.Idx) = Finset.univ ∨ ∀ a, (Rect.unit off size inb).stride a = 1} :
    (anyAt (F := F) c (M.slice (Rect.unit off' size inb') (fun _ => rfl)))
      ⊢ iprop((owns (c : Thread nD τ) (M.slice (Rect.unit off' size inb') (fun _ => rfl)) fullShare w' -∗ WP c Q (k ⟨⟩))
        -∗ WP c Q (.op (.store M (Rect.unit off size inb) w Finset.univ hx hm) k)) := by
  subst hw
  exact wp_str c h
/-- A store over an owned memref, its value under another name. -/
theorem wp_stwv {s : Shape} {e : EltTy} {M : Memref sig .tc .vmem s e} {off : Fin s.rank → ℕ} (h : off = fun _ => 0)
    {inb : ∀ a, off a + s.size a ≤ s.size a}
    {w : (Rect.unit off s.size inb).shape.Idx → Elt F e} (w' : s.Idx → Elt F e) (hw : (fun p => w p) = w') {hx : (M.access (Rect.unit off s.size inb)).Stores Finset.univ}
    {hm : (Finset.univ : Finset (Rect.unit off s.size inb).shape.Idx) = Finset.univ ∨ ∀ a, (Rect.unit off s.size inb).stride a = 1} :
    (anyAt (F := F) c M)
      ⊢ iprop((owns (c : Thread nD τ) M fullShare w' -∗ WP c Q (k ⟨⟩))
        -∗ WP c Q (.op (.store M (Rect.unit off s.size inb) w Finset.univ hx hm) k)) := by
  subst hw
  exact wp_stw c h

end

/-! ## The staged inputs -/

/-- The device's tokens, routes and experts, staged. -/
abbrev stX : sProp 𝕄 := owns (c : Thread nD τ) (Memref.whole cc0_stg0_0 : Memref sig .tc .vmem S2048x512 .bf16) fullShare (xstg m c)
abbrev stR : sProp 𝕄 := owns (c : Thread nD τ) (Memref.whole cc0_stg1_0 : Memref sig .tc .vmem S2048x1 .i32) fullShare (rstg m c)
abbrev stW : sProp 𝕄 := owns (c : Thread nD τ) (Memref.whole cc0_stg2_0 : Memref sig .tc .vmem S8x512x1024 .bf16) fullShare (wstg m c)
/-- The output's staging buffer at `X`. -/
abbrev stO (X : S2048x1024.Idx → Elt F .bf16) : sProp 𝕄 := owns (c : Thread nD τ) (Memref.whole cc0_stg3_0 : Memref sig .tc .vmem S2048x1024 .bf16) fullShare X
/-- The packing mask. -/
abbrev bsB : sProp 𝕄 := owns (c : Thread nD τ) (Memref.whole cc0_scratch0 : Memref sig .tc .vmem S2048x384 .bf16) fullShare (base m c)
/-- The share of the counts row that transfer `j` reads and the row it lands in. -/
def cntS (j : Fin 7) : sProp 𝕄 := iprop(owns (c : Thread nD τ) (cntR c) (Transfers.shareTok fullShare 7 j) (cntv m c) ∗ anyAt (F := F) (rot j c) (cntR c))

end Cert.MoE

end
-- ==== Proof.Stacks.lean ====
/-
# Stacks of rows and stacks of slabs

Splitting a stack of matrices into its rows or its slabs, and joining them again.
-/
module

public import proofs.«01_k».proof.Proof.Steps
public import Idealize.ShloMosaic.Lib.Ring

@[expose] public section

noncomputable section

namespace Cert.MoE

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × CI → ℕ) (c : Dev nD)

variable {q : PosShare TreeShare} {e : EltTy}

section Three
variable {n A B : ℕ} (M : Memref sig .tc .vmem (⟨3, ![n, A, B]⟩ : Shape) e)

/-- Row `b` of a stack of matrices. -/
abbrev row3 (b : Fin n) : Memref sig .tc .vmem (Rect.unit (s := (⟨3, ![n, A, B]⟩ : Shape)) (ro3 b.val) (⟨3, ![1, A, B]⟩ : Shape).size (inb3 b)).shape e :=
  M.slice (Rect.unit (s := (⟨3, ![n, A, B]⟩ : Shape)) (ro3 b.val) (⟨3, ![1, A, B]⟩ : Shape).size (inb3 b)) (fun _ => rfl)

theorem row3_disj (b b' : Fin n) (h : b ≠ b') :
    Disjoint (Rect.unit (s := (⟨3, ![n, A, B]⟩ : Shape)) (ro3 b.val) (⟨3, ![1, A, B]⟩ : Shape).size (inb3 b)).set
      (Rect.unit (s := (⟨3, ![n, A, B]⟩ : Shape)) (ro3 b'.val) (⟨3, ![1, A, B]⟩ : Shape).size (inb3 b')).set :=
  Ring.lead_disjoint (s := (⟨3, ![n, A, B]⟩ : Shape)) 0 1 (fun b : Fin n => ro3 b.val) (⟨3, ![1, A, B]⟩ : Shape).size (fun b => inb3 b)
    (fun b => (Nat.one_mul _).symm) rfl b b' h
theorem row3_cover :
    Finset.univ.biUnion (fun b : Fin n => (Rect.unit (s := (⟨3, ![n, A, B]⟩ : Shape)) (ro3 b.val) (⟨3, ![1, A, B]⟩ : Shape).size (inb3 b)).set) = Finset.univ :=
  Ring.lead_cover (s := (⟨3, ![n, A, B]⟩ : Shape)) 0 1 (fun b : Fin n => ro3 b.val) (⟨3, ![1, A, B]⟩ : Shape).size (fun b => inb3 b)
    (fun b => (Nat.one_mul _).symm) (fun b a ha => match a, ha with | 0, ha => absurd rfl ha | 1, _ => rfl | 2, _ => rfl) rfl
    (fun a ha => match a, ha with | 0, ha => absurd rfl ha | 1, _ => rfl | 2, _ => rfl) (Nat.mul_one _)

theorem row3_emb (b : Fin n) (p : (⟨3, ![1, A, B]⟩ : Shape).Idx) :
    (Rect.unit (s := (⟨3, ![n, A, B]⟩ : Shape)) (ro3 b.val) (⟨3, ![1, A, B]⟩ : Shape).size (inb3 b)).emb p
      = fun a => match a with | 0 => b | 1 => p 1 | 2 => p 2 := by
  funext a
  match a with
  | 0 => exact Fin.ext (by have h : (p 0).val < 1 := (p 0).isLt; show b.val + 1 * (p 0).val = b.val; omega)
  | 1 => exact Fin.ext (by show 0 + 1 * (p 1).val = (p 1).val; omega)
  | 2 => exact Fin.ext (by show 0 + 1 * (p 2).val = (p 2).val; omega)

theorem rows3_split (X : (⟨3, ![n, A, B]⟩ : Shape).Idx → Elt F e) :
    (owns (c : Thread nD τ) M q X : sProp 𝕄) ⊢ bigSep Finset.univ fun b : Fin n => owns (c : Thread nD τ) (row3 M b) q (rowOf X b) := by
  have h := owns_split (F := F) c M (fun b : Fin n => Rect.unit (s := (⟨3, ![n, A, B]⟩ : Shape)) (ro3 b.val) (⟨3, ![1, A, B]⟩ : Shape).size (inb3 b)) (fun _ _ => rfl) row3_disj row3_cover (q := q) X
  have e1 : ∀ b : Fin n, (fun p => X ((Rect.unit (s := (⟨3, ![n, A, B]⟩ : Shape)) (ro3 b.val) (⟨3, ![1, A, B]⟩ : Shape).size (inb3 b)).emb p)) = rowOf X b :=
    fun b => funext fun p => congrArg X (row3_emb b p)
  simp only [e1] at h
  exact h
theorem rows3_join [NeZero n] (v : Fin n → (⟨3, ![1, A, B]⟩ : Shape).Idx → Elt F e) :
    (bigSep Finset.univ fun b : Fin n => owns (c : Thread nD τ) (row3 M b) q (v b)) ⊢ (owns (c : Thread nD τ) M q (stack3 v) : sProp 𝕄) :=
  owns_joins c M (fun b : Fin n => Rect.unit (s := (⟨3, ![n, A, B]⟩ : Shape)) (ro3 b.val) (⟨3, ![1, A, B]⟩ : Shape).size (inb3 b)) (fun _ _ => rfl) row3_disj row3_cover v (stack3 v)
    (fun b p => (congrArg (stack3 v) (row3_emb b p)).trans (congrFun (rowOf_stack3 v b) p))
theorem rows3_any : anyAt (F := F) c M ⊢ bigSep Finset.univ fun b : Fin n => anyAt (F := F) c (row3 M b) := by
  conv_lhs => unfold anyAt
  iintro ⟨%X, H⟩
  have h : (owns (c : Thread nD τ) M fullShare X : sProp 𝕄) ⊢ bigSep Finset.univ fun b : Fin n => anyAt (F := F) c (row3 M b) :=
    BI.Entails.trans (rows3_split c M X) (BI.bigSep_mono fun b _ => any_intro c (row3 M b) _)
  iapply h; iexact H
theorem rows3_anyJoin [NeZero n] : (bigSep Finset.univ fun b : Fin n => anyAt (F := F) c (row3 M b)) ⊢ anyAt (F := F) c M := by
  iintro H
  have h : (bigSep Finset.univ fun b : Fin n => anyAt (F := F) c (row3 M b))
      ⊢ iprop(∃ v : Fin n → (⟨3, ![1, A, B]⟩ : Shape).Idx → Elt F e, bigSep Finset.univ fun b : Fin n => owns (c : Thread nD τ) (row3 M b) fullShare (v b)) :=
    Idealize.SL.BI.bigSep_exists_pi (Y := fun _ : Fin n => (⟨3, ![1, A, B]⟩ : Shape).Idx → Elt F e) Finset.univ (fun b X => owns (c : Thread nD τ) (row3 M b) fullShare X)
  ihave H := h $$ H
  icases H with ⟨%v, H⟩
  unfold anyAt
  iexists _
  iapply (rows3_join c M v); iexact H
end Three

section Two
variable {n A : ℕ} (M : Memref sig .tc .vmem (⟨2, ![n, A]⟩ : Shape) e)

/-- Row `b` of a table. -/
abbrev row2 (b : Fin n) : Memref sig .tc .vmem (Rect.unit (s := (⟨2, ![n, A]⟩ : Shape)) (ro2 b.val) (⟨2, ![1, A]⟩ : Shape).size (inb2 b)).shape e :=
  M.slice (Rect.unit (s := (⟨2, ![n, A]⟩ : Shape)) (ro2 b.val) (⟨2, ![1, A]⟩ : Shape).size (inb2 b)) (fun _ => rfl)

theorem row2_disj (b b' : Fin n) (h : b ≠ b') :
    Disjoint (Rect.unit (s := (⟨2, ![n, A]⟩ : Shape)) (ro2 b.val) (⟨2, ![1, A]⟩ : Shape).size (inb2 b)).set
      (Rect.unit (s := (⟨2, ![n, A]⟩ : Shape)) (ro2 b'.val) (⟨2, ![1, A]⟩ : Shape).size (inb2 b')).set :=
  Ring.lead_disjoint (s := (⟨2, ![n, A]⟩ : Shape)) 0 1 (fun b : Fin n => ro2 b.val) (⟨2, ![1, A]⟩ : Shape).size (fun b => inb2 b)
    (fun b => (Nat.one_mul _).symm) rfl b b' h
theorem row2_cover :
    Finset.univ.biUnion (fun b : Fin n => (Rect.unit (s := (⟨2, ![n, A]⟩ : Shape)) (ro2 b.val) (⟨2, ![1, A]⟩ : Shape).size (inb2 b)).set) = Finset.univ :=
  Ring.lead_cover (s := (⟨2, ![n, A]⟩ : Shape)) 0 1 (fun b : Fin n => ro2 b.val) (⟨2, ![1, A]⟩ : Shape).size (fun b => inb2 b)
    (fun b => (Nat.one_mul _).symm) (fun b a ha => match a, ha with | 0, ha => absurd rfl ha | 1, _ => rfl) rfl
    (fun a ha => match a, ha with | 0, ha => absurd rfl ha | 1, _ => rfl) (Nat.mul_one _)
theorem row2_emb (b : Fin n) (p : (⟨2, ![1, A]⟩ : Shape).Idx) :
    (Rect.unit (s := (⟨2, ![n, A]⟩ : Shape)) (ro2 b.val) (⟨2, ![1, A]⟩ : Shape).size (inb2 b)).emb p = fun a => match a with | 0 => b | 1 => p 1 := by
  funext a
  match a with
  | 0 => exact Fin.ext (by have h : (p 0).val < 1 := (p 0).isLt; show b.val + 1 * (p 0).val = b.val; omega)
  | 1 => exact Fin.ext (by show 0 + 1 * (p 1).val = (p 1).val; omega)

theorem rows2_split (X : (⟨2, ![n, A]⟩ : Shape).Idx → Elt F e) :
    (owns (c : Thread nD τ) M q X : sProp 𝕄) ⊢ bigSep Finset.univ fun b : Fin n => owns (c : Thread nD τ) (row2 M b) q (fun p => X (fun a => match a with | 0 => b | 1 => p 1)) := by
  have h := owns_split (F := F) c M (fun b : Fin n => Rect.unit (s := (⟨2, ![n, A]⟩ : Shape)) (ro2 b.val) (⟨2, ![1, A]⟩ : Shape).size (inb2 b)) (fun _ _ => rfl) row2_disj row2_cover (q := q) X
  have e1 : ∀ b : Fin n, (fun p => X ((Rect.unit (s := (⟨2, ![n, A]⟩ : Shape)) (ro2 b.val) (⟨2, ![1, A]⟩ : Shape).size (inb2 b)).emb p)) = fun p => X (fun a => match a with | 0 => b | 1 => p 1) :=
    fun b => funext fun p => congrArg X (row2_emb b p)
  simp only [e1] at h
  exact h
theorem rows2_join [NeZero n] (v : Fin n → (⟨2, ![1, A]⟩ : Shape).Idx → Elt F e) :
    (bigSep Finset.univ fun b : Fin n => owns (c : Thread nD τ) (row2 M b) q (v b)) ⊢ (owns (c : Thread nD τ) M q (stack2 v) : sProp 𝕄) :=
  owns_joins c M (fun b : Fin n => Rect.unit (s := (⟨2, ![n, A]⟩ : Shape)) (ro2 b.val) (⟨2, ![1, A]⟩ : Shape).size (inb2 b)) (fun _ _ => rfl) row2_disj row2_cover v (stack2 v)
    (fun b p => (congrArg (stack2 v) (row2_emb b p)).trans (congrArg (v b) (funext fun a => match a with
      | 0 => Fin.ext (by have h : (p 0).val < 1 := (p 0).isLt; show 0 = (p 0).val; omega)
      | 1 => rfl)))
theorem rows2_any : anyAt (F := F) c M ⊢ bigSep Finset.univ fun b : Fin n => anyAt (F := F) c (row2 M b) := by
  conv_lhs => unfold anyAt
  iintro ⟨%X, H⟩
  have h : (owns (c : Thread nD τ) M fullShare X : sProp 𝕄) ⊢ bigSep Finset.univ fun b : Fin n => anyAt (F := F) c (row2 M b) :=
    BI.Entails.trans (rows2_split c M X) (BI.bigSep_mono fun b _ => any_intro c (row2 M b) _)
  iapply h; iexact H
end Two

section Slabs
variable {B : ℕ} (M : Memref sig .tc .vmem (⟨3, ![8, 640, B]⟩ : Shape) e)

theorem inbS (k : Fin 8) : ∀ a, (![0, 80 * k.val, 0] : Fin 3 → ℕ) a + (⟨3, ![8, 80, B]⟩ : Shape).size a ≤ (⟨3, ![8, 640, B]⟩ : Shape).size a := fun a =>
  match a with
  | 0 => le_refl _
  | 1 => by have := k.isLt; show 80 * k.val + 80 ≤ 640; omega
  | 2 => (Nat.zero_add B).le
/-- Columns `80 k …` of a stack of stripes. -/
abbrev slabR (k : Fin 8) : Memref sig .tc .vmem (Rect.unit (s := (⟨3, ![8, 640, B]⟩ : Shape)) (![0, 80 * k.val, 0]) (⟨3, ![8, 80, B]⟩ : Shape).size (inbS k)).shape e :=
  M.slice (Rect.unit (s := (⟨3, ![8, 640, B]⟩ : Shape)) (![0, 80 * k.val, 0]) (⟨3, ![8, 80, B]⟩ : Shape).size (inbS k)) (fun _ => rfl)

theorem slab_disj (b b' : Fin 8) (h : b ≠ b') :
    Disjoint (Rect.unit (s := (⟨3, ![8, 640, B]⟩ : Shape)) (![0, 80 * b.val, 0]) (⟨3, ![8, 80, B]⟩ : Shape).size (inbS b)).set
      (Rect.unit (s := (⟨3, ![8, 640, B]⟩ : Shape)) (![0, 80 * b'.val, 0]) (⟨3, ![8, 80, B]⟩ : Shape).size (inbS b')).set :=
  Ring.lead_disjoint (s := (⟨3, ![8, 640, B]⟩ : Shape)) 1 80 (fun b : Fin 8 => ![0, 80 * b.val, 0]) (⟨3, ![8, 80, B]⟩ : Shape).size (fun b => inbS b)
    (fun b => rfl) rfl b b' h
theorem slab_cover :
    Finset.univ.biUnion (fun b : Fin 8 => (Rect.unit (s := (⟨3, ![8, 640, B]⟩ : Shape)) (![0, 80 * b.val, 0]) (⟨3, ![8, 80, B]⟩ : Shape).size (inbS b)).set) = Finset.univ :=
  Ring.lead_cover (s := (⟨3, ![8, 640, B]⟩ : Shape)) 1 80 (fun b : Fin 8 => ![0, 80 * b.val, 0]) (⟨3, ![8, 80, B]⟩ : Shape).size (fun b => inbS b)
    (fun b => rfl) (fun b a ha => match a, ha with | 1, ha => absurd rfl ha | 0, _ => rfl | 2, _ => rfl) rfl
    (fun a ha => match a, ha with | 1, ha => absurd rfl ha | 0, _ => rfl | 2, _ => rfl) rfl
theorem slab_emb (k : Fin 8) (p : (⟨3, ![8, 80, B]⟩ : Shape).Idx) :
    (Rect.unit (s := (⟨3, ![8, 640, B]⟩ : Shape)) (![0, 80 * k.val, 0]) (⟨3, ![8, 80, B]⟩ : Shape).size (inbS k)).emb p
      = fun a => match a with | 0 => p 0 | 1 => (⟨80 * k.val + (p 1).val, by have h : (p 1).val < 80 := (p 1).isLt; have := k.isLt; show _ < 640; omega⟩ : Fin 640) | 2 => p 2 := by
  funext a
  match a with
  | 0 => exact Fin.ext (by show 0 + 1 * (p 0).val = (p 0).val; omega)
  | 1 => exact Fin.ext (by show 80 * k.val + 1 * (p 1).val = 80 * k.val + (p 1).val; omega)
  | 2 => exact Fin.ext (by show 0 + 1 * (p 2).val = (p 2).val; omega)
theorem slabs_split (X : (⟨3, ![8, 640, B]⟩ : Shape).Idx → Elt F e) :
    (owns (c : Thread nD τ) M q X : sProp 𝕄) ⊢ bigSep Finset.univ fun k : Fin 8 => owns (c : Thread nD τ) (slabR M k) q (slab X k) := by
  have h := owns_split (F := F) c M (fun b : Fin 8 => Rect.unit (s := (⟨3, ![8, 640, B]⟩ : Shape)) (![0, 80 * b.val, 0]) (⟨3, ![8, 80, B]⟩ : Shape).size (inbS b)) (fun _ _ => rfl) slab_disj slab_cover (q := q) X
  have e1 : ∀ b : Fin 8, (fun p => X ((Rect.unit (s := (⟨3, ![8, 640, B]⟩ : Shape)) (![0, 80 * b.val, 0]) (⟨3, ![8, 80, B]⟩ : Shape).size (inbS b)).emb p)) = slab X b :=
    fun b => funext fun p => congrArg X (slab_emb b p)
  simp only [e1] at h
  exact h
theorem slabs_join (v : Fin 8 → (⟨3, ![8, 80, B]⟩ : Shape).Idx → Elt F e) :
    (bigSep Finset.univ fun k : Fin 8 => owns (c : Thread nD τ) (slabR M k) q (v k)) ⊢ (owns (c : Thread nD τ) M q (unslab v) : sProp 𝕄) :=
  owns_joins c M (fun b : Fin 8 => Rect.unit (s := (⟨3, ![8, 640, B]⟩ : Shape)) (![0, 80 * b.val, 0]) (⟨3, ![8, 80, B]⟩ : Shape).size (inbS b)) (fun _ _ => rfl) slab_disj slab_cover v (unslab v)
    (fun b p => (congrArg (unslab v) (slab_emb b p)).trans (congrFun (slab_unslab v b) p))
theorem slabs_any : anyAt (F := F) c M ⊢ bigSep Finset.univ fun k : Fin 8 => anyAt (F := F) c (slabR M k) := by
  conv_lhs => unfold anyAt
  iintro ⟨%X, H⟩
  have h : (owns (c : Thread nD τ) M fullShare X : sProp 𝕄) ⊢ bigSep Finset.univ fun b : Fin 8 => anyAt (F := F) c (slabR M b) :=
    BI.Entails.trans (slabs_split c M X) (BI.bigSep_mono fun b _ => any_intro c (slabR M b) _)
  iapply h; iexact H
end Slabs

/-- All eight counts rows, the own one in its shares, are the whole table. -/
theorem cnt_join : iprop(owns (c : Thread nD τ) (cntR c) (Transfers.shareDrop fullShare 7) (cntv m c)
      ∗ (bigSep Finset.univ fun k : Fin 7 => sendPay m 2 k c) ∗ (bigSep Finset.univ fun k : Fin 7 => recvPay m 2 k c))
    ⊢ (owns (c : Thread nD τ) (Memref.whole cc0_scratch8 : Memref sig .tc .vmem S8x64 .i32) fullShare (cntF m) : sProp 𝕄) := by
  iintro ⟨H1, H2, H3⟩
  ihave H := (owns_undeal c (cntR c) (cntv m c)) $$ [H1 H2]
  · isplitl [H1]; · iexact H1
    iexact H2
  have h := rows2_join (F := F) c (Memref.whole cc0_scratch8 : Memref sig .tc .vmem S8x64 .i32) (q := fullShare) (n := 8) (A := 64) (cntv m)
  rw [aroundB c] at h
  iapply h
  ihave H3 := (Entails.of_eq (show (bigSep Finset.univ fun k : Fin 7 => recvPay m 2 k c) = _ from
    (rfl : _ = bigSep Finset.univ fun k : Fin 7 => (owns (c : Thread nD τ) (cntR (back k c)) fullShare (cntv m (back k c)) : sProp 𝕄)).trans (seven _))) $$ H3
  icases H3 with ⟨Ha, Hb, Hc, Hd, He, Hf, Hg⟩
  isplitl [H]; · iexact H
  isplitl [Ha]; · iexact Ha
  isplitl [Hb]; · iexact Hb
  isplitl [Hc]; · iexact Hc
  isplitl [Hd]; · iexact Hd
  isplitl [He]; · iexact He
  isplitl [Hf]; · iexact Hf
  iexact Hg

/-- All eight inbox rows are the whole inbox. -/
theorem in_join : iprop(owns (c : Thread nD τ) (inR c) fullShare (inv m c c) ∗ (bigSep Finset.univ fun k : Fin 7 => recvPay m 0 k c))
    ⊢ (bigSep Finset.univ fun b : Dev nD => owns (c : Thread nD τ) (inR b) fullShare (inv m c b) : sProp 𝕄) := by
  iintro ⟨H1, H3⟩
  rw [aroundB c]
  ihave H3 := (Entails.of_eq (show (bigSep Finset.univ fun k : Fin 7 => recvPay m 0 k c) = _ from
    (rfl : _ = bigSep Finset.univ fun k : Fin 7 => (owns (c : Thread nD τ) (inR (back k c)) fullShare (inv m c (back k c)) : sProp 𝕄)).trans (seven _))) $$ H3
  icases H3 with ⟨Ha, Hb, Hc, Hd, He, Hf, Hg⟩
  isplitl [H1]; · iexact H1
  isplitl [Ha]; · iexact Ha
  isplitl [Hb]; · iexact Hb
  isplitl [Hc]; · iexact Hc
  isplitl [Hd]; · iexact Hd
  isplitl [He]; · iexact He
  isplitl [Hf]; · iexact Hf
  iexact Hg

end Cert.MoE

end
-- ==== Proof.Body1.lean ====
/-
# The barrier and the counts

The first parts of the body: the signals and the wait for all peers, the counts row and its seven transfers, and
the load of all counts.
-/
module

public import proofs.«01_k».proof.Proof.Stacks

@[expose] public section

noncomputable section

namespace Cert.MoE

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × CI → ℕ) (c : Dev nD)

set_option maxRecDepth 4000

/-- The device word, and the barrier's semaphore, as the body binds them. -/
theorem part6 (Kt : (Σ' (d0 : Dev nD) (v2 : BitVec 32) (v3 : Sems sig S_) (v24 : BitVec 32), BitVec 32) → sProp 𝕄) :
    iprop(ctx m K ∗ owe (F := F) c 0 ∗ sigR (F := F) c 0 ∗ sigR (F := F) c 1 ∗ sigR (F := F) c 2 ∗ sigR (F := F) c 3 ∗ sigR (F := F) c 4)
      ⊢ iprop((owe (F := F) c 5 -∗ Kt ⟨c, v2 c, SemArray.scalar (sig.barrier 0 rfl), Scalar.addi (v2 c) 6#32, 8#32⟩) -∗ WP c Kt (atBufs (k0_part6 (F := F)))) := by
  rw [k0_part6_eq_skeleton]; unfold atBufs k0_part6_skel
  simp only [semSignalWord, semWaitWord, Prog.lift, Prog.bind_op, Prog.bind_ret, Prog.pure_eq_ret, wp_deviceId]
  unfold sigR v2
  iintro ⟨#Hc, Ho, ⟨Ha0, Hb0⟩, ⟨Ha1, Hb1⟩, ⟨Ha2, Hb2⟩, ⟨Ha3, Hb3⟩, ⟨Ha4, Hb4⟩⟩ Hk
  iapply (wp_sig m K c 0 _ (by revert c; decide) _ (by decide) 0 (by decide)) $$ [Ho Ha0 Hb0]
  · iframe Hc Ho Ha0 Hb0
  iintro Ho
  iapply (wp_sig m K c 1 _ (by revert c; decide) _ (by decide) 1 (by decide)) $$ [Ho Ha1 Hb1]
  · iframe Hc Ho Ha1 Hb1
  iintro Ho
  iapply (wp_sig m K c 2 _ (by revert c; decide) _ (by decide) 2 (by decide)) $$ [Ho Ha2 Hb2]
  · iframe Hc Ho Ha2 Hb2
  iintro Ho
  iapply (wp_sig m K c 3 _ (by revert c; decide) _ (by decide) 3 (by decide)) $$ [Ho Ha3 Hb3]
  · iframe Hc Ho Ha3 Hb3
  iintro Ho
  iapply (wp_sig m K c 4 _ (by revert c; decide) _ (by decide) 4 (by decide)) $$ [Ho Ha4 Hb4]
  · iframe Hc Ho Ha4 Hb4
  iintro Ho
  iapply (wp_done c)
  ihave Hk := Hk $$ Ho
  iexact Hk

/-- The last two signals, the wait for every peer, the counts row and its first transfer. -/
theorem part7 (Kt : (Σ' (v33 : IVec S2048x1 32) (v37 : IVec S2048x64 32) (v45 : BitVec 32), BitVec 32) → sProp 𝕄) (w24 w8 : BitVec 32) :
    iprop(ctx m K ∗ owe (F := F) c 5 ∗ sigR (F := F) c 5 ∗ sigR (F := F) c 6 ∗ pend (F := F) c none ∗ stR m c ∗ anyAt (F := F) c (cntR c) ∗ tok (F := F) 2 0 c)
      ⊢ iprop(((owe (F := F) c 8 ∗ closed (F := F) c none ∗ stR m c ∗ owns (c : Thread nD τ) (cntR c) (Transfers.shareDrop fullShare 7) (cntv m c)
          ∗ (cntS m c 1 ∗ cntS m c 2 ∗ cntS m c 3 ∗ cntS m c 4 ∗ cntS m c 5 ∗ cntS m c 6)
          ∗ (bigSep Finset.univ fun j => anyAt (F := F) (rot j c) (inR c)) ∗ (bigSep Finset.univ fun j => anyAt (F := F) (rot j c) (retR c)) ∗ pend (F := F) c (some (2, false, 0)))
          -∗ Kt ⟨v33 m c, v37 m c, Scalar.remsi (Scalar.addi (v2 c) 1#32) 8#32, Scalar.remsi (Scalar.addi (v2 c) 2#32) 8#32⟩)
        -∗ WP c Kt (atBufs (k0_part7 (F := F)) c (v2 c) (SemArray.scalar (sig.barrier 0 rfl)) w24 w8)) := by
  rw [k0_part7_eq_skeleton]; unfold atBufs k0_part7_skel
  simp only [semSignalWord, semWaitWord, Prog.lift, Prog.bind_op, Prog.bind_ret, Prog.pure_eq_ret, wp_deviceId]
  unfold sigR v33 v37
  iintro ⟨#Hc, Ho, ⟨Ha5, Hb5⟩, ⟨Ha6, Hb6⟩, Hbar, HR, Hcnt, Htok⟩ Hk
  iapply (wp_sig m K c 5 _ (by revert c; decide) _ (by decide) 5 (by decide)) $$ [Ho Ha5 Hb5]
  · iframe Hc Ho Ha5 Hb5
  iintro Ho
  iapply (wp_sig m K c 6 _ (by revert c; decide) _ (by decide) 6 (by decide)) $$ [Ho Ha6 Hb6]
  · iframe Hc Ho Ha6 Hb6
  iintro Ho
  iapply (wp_barwait m K c _ (by decide) 7 (by decide)) $$ [Ho Hbar]
  · iframe Hc Ho Hbar
  iintro ⟨Ho, Hbar, Hpay⟩
  iapply (wp_ldw c (by decide)) $$ HR
  iintro HR
  unfold anyAt
  icases Hcnt with ⟨%X, Hcnt⟩
  iapply (wp_ldr c (k0_off1_eq c)) $$ Hcnt
  iintro Hcnt
  ihave Hcnt := (any_intro c _ _) $$ Hcnt
  iapply (wp_strv c (k0_off1_eq c) (cntv m c) (by rfl)) $$ Hcnt
  iintro Hcnt
  ihave Hcnt := (owns_deal c (cntR c) (cntv m c)) $$ Hcnt
  icases Hcnt with ⟨Hdrop, Hsh⟩
  ihave Hpay := (Entails.of_eq (show (bigSep Finset.univ fun j => barPay (F := F) c j)
    = bigSep Finset.univ fun j => iprop(anyAt (rot j c) (cntR c) ∗ anyAt (rot j c) (inR c) ∗ anyAt (rot j c) (retR c)) from rfl)) $$ Hpay
  ihave Hpay := (Entails.of_eq (bigSep_sep' _ _ _)) $$ Hpay
  icases Hpay with ⟨Hcn, Hrest⟩
  ihave Hrest := (Entails.of_eq (bigSep_sep' _ _ _)) $$ Hrest
  icases Hrest with ⟨Hin, Hret⟩
  ihave Hsh := (Entails.of_eq (seven _)) $$ Hsh
  icases Hsh with ⟨Hs0, Hs1, Hs2, Hs3, Hs4, Hs5, Hs6⟩
  ihave Hcn := (Entails.of_eq (seven _)) $$ Hcn
  icases Hcn with ⟨Hn0, Hn1, Hn2, Hn3, Hn4, Hn5, Hn6⟩
  iapply (xfer_cnt m K c 0 _ (by revert c; decide) (k0_off2_eq c) rfl rfl 7 (by decide)) $$ [Ho Htok Hs0 Hn0]
  · iframe Hc Ho Htok Hs0 Hn0
  iintro ⟨Ho, Hp0⟩
  iapply (wp_done c)
  iapply Hk
  unfold cntS
  iframe Ho Hbar HR Hdrop Hin Hret Hp0 Hs1 Hs2 Hs3 Hs4 Hs5 Hs6 Hn1 Hn2 Hn3 Hn4 Hn5 Hn6

/-- Three counts transfers. -/
theorem part8 (Kt : (Σ' (v65 : BitVec 32) (v75 : BitVec 32) (v85 : BitVec 32), BitVec 32) → sProp 𝕄) (w2 w55 : BitVec 32) :
    iprop(ctx m K ∗ owe (F := F) c 8 ∗ (tok (F := F) 2 1 c ∗ cntS m c 1) ∗ (tok (F := F) 2 2 c ∗ cntS m c 2) ∗ (tok (F := F) 2 3 c ∗ cntS m c 3))
      ⊢ iprop(((owe (F := F) c 11 ∗ pend (F := F) c (some (2, false, 1)) ∗ pend (F := F) c (some (2, false, 2)) ∗ pend (F := F) c (some (2, false, 3))) -∗ Kt ⟨Scalar.remsi (Scalar.addi w2 3#32) 8#32, Scalar.remsi (Scalar.addi w2 4#32) 8#32, Scalar.remsi (Scalar.addi w2 5#32) 8#32, 1#32⟩)
        -∗ WP c Kt (atBufs (k0_part8 (F := F)) c w2 w55)) := by
  rw [k0_part8_eq_skeleton]; unfold atBufs k0_part8_skel
  simp only [semSignalWord, semWaitWord, Prog.lift, Prog.bind_op, Prog.bind_ret, Prog.pure_eq_ret, wp_deviceId]
  unfold cntS
  iintro ⟨#Hc, Ho, ⟨Ht1, Hs1, Hn1⟩, ⟨Ht2, Hs2, Hn2⟩, ⟨Ht3, Hs3, Hn3⟩⟩ Hk
  iapply (xfer_cnt m K c 1 _ (by revert c; decide) (k0_off2_eq c) rfl rfl 8 (by decide)) $$ [Ho Ht1 Hs1 Hn1]
  · iframe Hc Ho Ht1 Hs1 Hn1
  iintro ⟨Ho, Hp1⟩
  iapply (xfer_cnt m K c 2 _ (by revert c; decide) (k0_off2_eq c) rfl rfl 9 (by decide)) $$ [Ho Ht2 Hs2 Hn2]
  · iframe Hc Ho Ht2 Hs2 Hn2
  iintro ⟨Ho, Hp2⟩
  iapply (xfer_cnt m K c 3 _ (by revert c; decide) (k0_off2_eq c) rfl rfl 10 (by decide)) $$ [Ho Ht3 Hs3 Hn3]
  · iframe Hc Ho Ht3 Hs3 Hn3
  iintro ⟨Ho, Hp3⟩
  iapply (wp_done c)
  iapply Hk
  iframe Ho Hp1 Hp2 Hp3

/-- The last three counts transfers. -/
theorem part9 (Kt : (Σ' (v95 : BitVec 32) (v105 : BitVec 32), IVec S2048x64 32) → sProp 𝕄) (w2 : BitVec 32) (w37 : IVec S2048x64 32) (w85 w1 : BitVec 32) :
    iprop(ctx m K ∗ owe (F := F) c 11 ∗ (tok (F := F) 2 4 c ∗ cntS m c 4) ∗ (tok (F := F) 2 5 c ∗ cntS m c 5) ∗ (tok (F := F) 2 6 c ∗ cntS m c 6))
      ⊢ iprop(((owe (F := F) c 14 ∗ pend (F := F) c (some (2, false, 4)) ∗ pend (F := F) c (some (2, false, 5)) ∗ pend (F := F) c (some (2, false, 6))) -∗ Kt ⟨Scalar.remsi (Scalar.addi w2 6#32) 8#32, Scalar.remsi (Scalar.addi w2 7#32) 8#32, k0_pay27 w37⟩)
        -∗ WP c Kt (atBufs (k0_part9 (F := F)) c w2 w37 w85 w1)) := by
  rw [k0_part9_eq_skeleton]; unfold atBufs k0_part9_skel
  simp only [semSignalWord, semWaitWord, Prog.lift, Prog.bind_op, Prog.bind_ret, Prog.pure_eq_ret, wp_deviceId]
  unfold cntS
  iintro ⟨#Hc, Ho, ⟨Ht4, Hs4, Hn4⟩, ⟨Ht5, Hs5, Hn5⟩, ⟨Ht6, Hs6, Hn6⟩⟩ Hk
  iapply (xfer_cnt m K c 4 _ (by revert c; decide) (k0_off2_eq c) rfl rfl 11 (by decide)) $$ [Ho Ht4 Hs4 Hn4]
  · iframe Hc Ho Ht4 Hs4 Hn4
  iintro ⟨Ho, Hp4⟩
  iapply (xfer_cnt m K c 5 _ (by revert c; decide) (k0_off2_eq c) rfl rfl 12 (by decide)) $$ [Ho Ht5 Hs5 Hn5]
  · iframe Hc Ho Ht5 Hs5 Hn5
  iintro ⟨Ho, Hp5⟩
  iapply (xfer_cnt m K c 6 _ (by revert c; decide) (k0_off2_eq c) rfl rfl 13 (by decide)) $$ [Ho Ht6 Hs6 Hn6]
  · iframe Hc Ho Ht6 Hs6 Hn6
  iintro ⟨Ho, Hp6⟩
  iapply (wp_done c)
  iapply Hk
  iframe Ho Hp4 Hp5 Hp6

/-- The ranks, and the first wait for the counts. -/
theorem part10 (Kt : (IVec S2048x1 32) → sProp 𝕄) (w37 w121 : IVec S2048x64 32) :
    iprop(ctx m K ∗ owe (F := F) c 14 ∗ pend (F := F) c (some (2, false, 0)))
      ⊢ iprop(((owe (F := F) c 14 ∗ wS m c 2 0) -∗ Kt (k0_pay28 w37 w121))
        -∗ WP c Kt (atBufs (k0_part10 (F := F)) c w37 w121)) := by
  rw [k0_part10_eq_skeleton]; unfold atBufs k0_part10_skel
  simp only [semSignalWord, semWaitWord, Prog.lift, Prog.bind_op, Prog.bind_ret, Prog.pure_eq_ret, wp_deviceId]
  iintro ⟨#Hc, Ho, Hws0⟩ Hk
  iapply (wt_s m K c 2 0 (by rfl) (by rfl) 14 (by decide)) $$ [Ho Hws0]
  · iframe Hc Ho Hws0
  iintro ⟨Ho, Hws0⟩
  iapply (wp_done c)
  iapply Hk
  iframe Ho Hws0

/-- Five waits for the counts. -/
theorem part11 (Kt : (PUnit) → sProp 𝕄) (w45 w55 w65 : BitVec 32) :
    iprop(ctx m K ∗ owe (F := F) c 14 ∗ pend (F := F) c (some (2, true, 0)) ∗ pend (F := F) c (some (2, false, 1)) ∗ pend (F := F) c (some (2, true, 1)) ∗ pend (F := F) c (some (2, false, 2)) ∗ pend (F := F) c (some (2, true, 2)))
      ⊢ iprop(((owe (F := F) c 14 ∗ wR m c 2 0 ∗ wS m c 2 1 ∗ wR m c 2 1 ∗ wS m c 2 2 ∗ wR m c 2 2) -∗ Kt ⟨⟩)
        -∗ WP c Kt (atBufs (k0_part11 (F := F)) c w45 w55 w65)) := by
  rw [k0_part11_eq_skeleton]; unfold atBufs k0_part11_skel
  simp only [semSignalWord, semWaitWord, Prog.lift, Prog.bind_op, Prog.bind_ret, Prog.pure_eq_ret, wp_deviceId]
  iintro ⟨#Hc, Ho, Hwr0, Hws1, Hwr1, Hws2, Hwr2⟩ Hk
  iapply (wt_r m K c 2 0 (by rfl) (by rfl) 14 (by decide)) $$ [Ho Hwr0]
  · iframe Hc Ho Hwr0
  iintro ⟨Ho, Hwr0⟩
  iapply (wt_s m K c 2 1 (by rfl) (by rfl) 14 (by decide)) $$ [Ho Hws1]
  · iframe Hc Ho Hws1
  iintro ⟨Ho, Hws1⟩
  iapply (wt_r m K c 2 1 (by rfl) (by rfl) 14 (by decide)) $$ [Ho Hwr1]
  · iframe Hc Ho Hwr1
  iintro ⟨Ho, Hwr1⟩
  iapply (wt_s m K c 2 2 (by rfl) (by rfl) 14 (by decide)) $$ [Ho Hws2]
  · iframe Hc Ho Hws2
  iintro ⟨Ho, Hws2⟩
  iapply (wt_r m K c 2 2 (by rfl) (by rfl) 14 (by decide)) $$ [Ho Hwr2]
  · iframe Hc Ho Hwr2
  iintro ⟨Ho, Hwr2⟩
  iapply (wp_done c)
  iapply Hk
  iframe Ho Hwr0 Hws1 Hwr1 Hws2 Hwr2

/-- Five more waits for the counts. -/
theorem part12 (Kt : (Σ' (v216 : BitVec 32), BitVec 32) → sProp 𝕄) (w75 w85 w95 : BitVec 32) :
    iprop(ctx m K ∗ owe (F := F) c 14 ∗ pend (F := F) c (some (2, false, 3)) ∗ pend (F := F) c (some (2, true, 3)) ∗ pend (F := F) c (some (2, false, 4)) ∗ pend (F := F) c (some (2, true, 4)) ∗ pend (F := F) c (some (2, false, 5)))
      ⊢ iprop(((owe (F := F) c 14 ∗ wS m c 2 3 ∗ wR m c 2 3 ∗ wS m c 2 4 ∗ wR m c 2 4 ∗ wS m c 2 5) -∗ Kt ⟨Scalar.muli w95 1#32, 0#32⟩)
        -∗ WP c Kt (atBufs (k0_part12 (F := F)) c w75 w85 w95)) := by
  rw [k0_part12_eq_skeleton]; unfold atBufs k0_part12_skel
  simp only [semSignalWord, semWaitWord, Prog.lift, Prog.bind_op, Prog.bind_ret, Prog.pure_eq_ret, wp_deviceId]
  iintro ⟨#Hc, Ho, Hws3, Hwr3, Hws4, Hwr4, Hws5⟩ Hk
  iapply (wt_s m K c 2 3 (by rfl) (by rfl) 14 (by decide)) $$ [Ho Hws3]
  · iframe Hc Ho Hws3
  iintro ⟨Ho, Hws3⟩
  iapply (wt_r m K c 2 3 (by rfl) (by rfl) 14 (by decide)) $$ [Ho Hwr3]
  · iframe Hc Ho Hwr3
  iintro ⟨Ho, Hwr3⟩
  iapply (wt_s m K c 2 4 (by rfl) (by rfl) 14 (by decide)) $$ [Ho Hws4]
  · iframe Hc Ho Hws4
  iintro ⟨Ho, Hws4⟩
  iapply (wt_r m K c 2 4 (by rfl) (by rfl) 14 (by decide)) $$ [Ho Hwr4]
  · iframe Hc Ho Hwr4
  iintro ⟨Ho, Hwr4⟩
  iapply (wt_s m K c 2 5 (by rfl) (by rfl) 14 (by decide)) $$ [Ho Hws5]
  · iframe Hc Ho Hws5
  iintro ⟨Ho, Hws5⟩
  iapply (wp_done c)
  iapply Hk
  iframe Ho Hws3 Hwr3 Hws4 Hwr4 Hws5

/-- The last waits for the counts, and the load of them all. -/
theorem part13 (Kt : (Σ' (v232 : Vec F S8x64 .i32) (v233 : IVec S8x64 32) (v235 : IVec S2048x1 32), IVec S8x64 32) → sProp 𝕄) (w105 w216 w0 : BitVec 32) :
    iprop(ctx m K ∗ owe (F := F) c 14 ∗ pend (F := F) c (some (2, true, 5)) ∗ pend (F := F) c (some (2, false, 6)) ∗ pend (F := F) c (some (2, true, 6))
        ∗ owns (c : Thread nD τ) (cntR c) (Transfers.shareDrop fullShare 7) (cntv m c)
        ∗ (sendPay m 2 0 c ∗ sendPay m 2 1 c ∗ sendPay m 2 2 c ∗ sendPay m 2 3 c ∗ sendPay m 2 4 c ∗ sendPay m 2 5 c)
        ∗ (recvPay m 2 0 c ∗ recvPay m 2 1 c ∗ recvPay m 2 2 c ∗ recvPay m 2 3 c ∗ recvPay m 2 4 c))
      ⊢ iprop(((owe (F := F) c 14 ∗ closed (F := F) c (some (2, true, 5)) ∗ closed (F := F) c (some (2, false, 6)) ∗ closed (F := F) c (some (2, true, 6))
          ∗ owns (c : Thread nD τ) (Memref.whole cc0_scratch8 : Memref sig .tc .vmem S8x64 .i32) fullShare (cntF m))
          -∗ Kt ⟨cntF m, v233, v235 m c, v252 m⟩)
        -∗ WP c Kt (atBufs (k0_part13 (F := F)) c (v33 m c) w105 w216 w0)) := by
  rw [k0_part13_eq_skeleton]; unfold atBufs k0_part13_skel
  simp only [semSignalWord, semWaitWord, Prog.lift, Prog.bind_op, Prog.bind_ret, Prog.pure_eq_ret, wp_deviceId]
  unfold v252 v233 v235
  iintro ⟨#Hc, Ho, Hr5, Hs6, Hr6, Hd, ⟨Ha0, Ha1, Ha2, Ha3, Ha4, Ha5⟩, ⟨Hb0, Hb1, Hb2, Hb3, Hb4⟩⟩ Hk
  iapply (wt_r m K c 2 5 (by rfl) (by rfl) 14 (by decide)) $$ [Ho Hr5]
  · iframe Hc Ho Hr5
  iintro ⟨Ho, Hr5⟩
  iapply (wt_s m K c 2 6 (by rfl) (by rfl) 14 (by decide)) $$ [Ho Hs6]
  · iframe Hc Ho Hs6
  iintro ⟨Ho, Hs6⟩
  iapply (wt_r m K c 2 6 (by rfl) (by rfl) 14 (by decide)) $$ [Ho Hr6]
  · iframe Hc Ho Hr6
  iintro ⟨Ho, Hr6⟩
  unfold wR wS
  icases Hr5 with ⟨Hz1, Hb5⟩
  icases Hs6 with ⟨Hz2, Ha6⟩
  icases Hr6 with ⟨Hz3, Hb6⟩
  ihave H := (cnt_join m c) $$ [Hd Ha0 Ha1 Ha2 Ha3 Ha4 Ha5 Ha6 Hb0 Hb1 Hb2 Hb3 Hb4 Hb5 Hb6]
  · rw [seven, seven]
    iframe Hd Ha0 Ha1 Ha2 Ha3 Ha4 Ha5 Ha6 Hb0 Hb1 Hb2 Hb3 Hb4 Hb5 Hb6
  iapply (wp_ldw c (by decide)) $$ H
  iintro H
  iapply (wp_done c)
  iapply Hk
  iframe Ho Hz1 Hz2 Hz3 H

end Cert.MoE

end
-- ==== Proof.Body2.lean ====
/-
# The kernel's second stretch

Packing the tokens, sending them to the peers and waiting for theirs, one generated part at a time.
-/
module

public import proofs.«01_k».proof.Proof.Stacks
@[expose] public section

noncomputable section

namespace Cert.MoE

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × CI → ℕ) (c : Dev nD)

/-- Served counts. -/
theorem part14 (Kt : (Σ' (v255 : IVec S8x64 32) (v256 : IVec S1x64 32) (v293 : IVec S8x64 32) (v296 : IVec S8x64 32), BitVec 32) → sProp 𝕄) :
    Kt ⟨v255 m, v256, v293 m, v296 m, 8#32⟩ ⊢ WP c Kt (atBufs (k0_part14 (F := F)) (cntF m) (v252 m)) := by
  rw [k0_part14_eq_skeleton]; unfold atBufs k0_part14_skel
  simp only [Prog.pure_eq_ret]
  unfold v255 v256 v293 v296
  exact wp_done c _

/-- Where each expert's tokens begin. -/
theorem part15 (Kt : (Σ' (v341 : IVec S8x64 32), IVec S8x64 32) → sProp 𝕄) :
    Kt ⟨v341 m, v342 c⟩ ⊢ WP c Kt (atBufs (k0_part15 (F := F)) (v2 c) (v255 m) v256 (v293 m) (v296 m) 8#32) := by
  rw [k0_part15_eq_skeleton]; unfold atBufs k0_part15_skel
  simp only [Prog.pure_eq_ret]
  unfold v341 v342
  exact wp_done c _

/-- The packing mask. -/
theorem part16 (Kt : (Σ' (v376 : IVec S1x640 32) (c80_i32_222 : BitVec 32) (v378 : IVec S1x640 32) (v385 : IVec S1x640 32), BitVec 32) → sProp 𝕄) :
    iprop(anyAt (F := F) c (Memref.whole cc0_scratch0 : Memref sig .tc .vmem S2048x384 .bf16))
      ⊢ iprop(((bsB m c) -∗ Kt ⟨v376, 80#32, k0_pay37, k0_pay38, v387⟩)
        -∗ WP c Kt (atBufs (k0_part16 (F := F)) (v2 c) (v37 m c) (v161 m c) v233 (v255 m) (v341 m) (v342 c))) := by
  rw [k0_part16_eq_skeleton]; unfold atBufs k0_part16_skel
  simp only [semSignalWord, semWaitWord, Prog.lift, Prog.bind_op, Prog.bind_ret, Prog.pure_eq_ret, wp_deviceId]
  unfold v376 v387
  iintro H Hk
  unfold anyAt
  icases H with ⟨%X, H⟩
  iapply (wp_ldw c (by decide)) $$ H
  iintro H
  ihave H := (any_intro c _ _) $$ H
  iapply (wp_stwv c (by decide) (base m c) (by rfl)) $$ H
  iintro H
  iapply (wp_done c)
  iapply Hk
  iframe H

/-- The unpacking iotas, and the loads for the first peer. -/
theorem part17 (Kt : (Σ' (v400 : IVec S1x640 32) (v417 : IVec S1x640 32) (v418 : IVec S384x1 32) (v420 : BitVec 32) (v429 : FVec F S2048x384 .bf16), Vec F S2048x512 .bf16) → sProp 𝕄) :
    iprop(bsB m c ∗ stX m c)
      ⊢ iprop(((bsB m c ∗ stX m c) -∗ Kt ⟨v400, v417, v418, pm c 1#32, k0_pay41 (v2 c) (v235 m c) (base m c), xstg m c⟩)
        -∗ WP c Kt (atBufs (k0_part17 (F := F)) (v2 c) (v235 m c) v376 80#32 k0_pay37 k0_pay38 v387)) := by
  rw [k0_part17_eq_skeleton]; unfold atBufs k0_part17_skel
  simp only [semSignalWord, semWaitWord, Prog.lift, Prog.bind_op, Prog.bind_ret, Prog.pure_eq_ret, wp_deviceId]
  unfold v400 v417 v418 pm
  iintro ⟨HB, HX⟩ Hk
  iapply (wp_ldw c (by decide)) $$ HB
  iintro HB
  iapply (wp_ldw c (by decide)) $$ HX
  iintro HX
  iapply (wp_done c)
  iapply Hk
  iframe HB HX

/-- The first peer's tokens, sent; the second's, packed. -/
theorem part18 (Kt : (BitVec 32) → sProp 𝕄) (w420 : BitVec 32) :
    iprop(ctx m K ∗ owe (F := F) c 14 ∗ bsB m c ∗ stX m c ∗ anyAt (F := F) c (xdR 0) ∗ anyAt (F := F) c (xdR 1) ∗ p1T (F := F) c 0)
      ⊢ iprop(((owe (F := F) c 15 ∗ bsB m c ∗ stX m c ∗ pend (F := F) c (some (0, false, 0)) ∗ owns (c : Thread nD τ) (xdR 1) fullShare (xdv m c (some 1))) -∗ Kt (pm c 2#32))
        -∗ WP c Kt (atBufs (k0_part18 (F := F)) c (v2 c) (v235 m c) w420 (k0_pay41 (v2 c) (v235 m c) (base m c)) (xstg m c))) := by
  rw [k0_part18_eq_skeleton]; unfold atBufs k0_part18_skel
  simp only [semSignalWord, semWaitWord, Prog.lift, Prog.bind_op, Prog.bind_ret, Prog.pure_eq_ret, wp_deviceId]
  unfold pm p1T
  iintro ⟨#Hc, Ho, HB, HX, Hx0, Hx1, ⟨Ht0, Hn0⟩⟩ Hk
  ihave Hx0 := (any_elim c _) $$ Hx0
  icases Hx0 with ⟨%XHx0, Hx0⟩
  iapply (wp_ldr c (by decide)) $$ Hx0
  iintro Hx0
  ihave Hx0 := (any_intro c _ _) $$ Hx0
  iapply (wp_strv c (by decide) (xdv m c (some 0)) (by rfl)) $$ Hx0
  iintro Hx0
  iapply (xfer_p1 m K c 0 _ (by revert c; decide) (by decide) (k0_off3_eq c) rfl rfl 14 (by decide)) $$ [Ho Ht0 Hx0 Hn0]
  · iframe Hc Ho Ht0 Hx0 Hn0
  iintro ⟨Ho, Hp0⟩
  iapply (wp_ldw c (by decide)) $$ HB
  iintro HB
  iapply (wp_ldw c (by decide)) $$ HX
  iintro HX
  ihave Hx1 := (any_elim c _) $$ Hx1
  icases Hx1 with ⟨%XHx1, Hx1⟩
  iapply (wp_ldr c (by decide)) $$ Hx1
  iintro Hx1
  ihave Hx1 := (any_intro c _ _) $$ Hx1
  iapply (wp_strv c (by decide) (xdv m c (some 1)) (by rfl)) $$ Hx1
  iintro Hx1
  iapply (wp_done c)
  iapply Hk
  iframe Ho HB HX Hp0 Hx1

/-- The second peer's tokens, sent; the third's, packed. -/
theorem part19 (Kt : (BitVec 32) → sProp 𝕄) (w446 : BitVec 32) :
    iprop(ctx m K ∗ owe (F := F) c 15 ∗ bsB m c ∗ stX m c ∗ owns (c : Thread nD τ) (xdR 1) fullShare (xdv m c (some 1)) ∗ anyAt (F := F) c (xdR 2) ∗ p1T (F := F) c 1)
      ⊢ iprop(((owe (F := F) c 16 ∗ bsB m c ∗ stX m c ∗ pend (F := F) c (some (0, false, 1)) ∗ owns (c : Thread nD τ) (xdR 2) fullShare (xdv m c (some 2))) -∗ Kt (pm c 3#32))
        -∗ WP c Kt (atBufs (k0_part19 (F := F)) c (v2 c) (v235 m c) w446)) := by
  rw [k0_part19_eq_skeleton]; unfold atBufs k0_part19_skel
  simp only [semSignalWord, semWaitWord, Prog.lift, Prog.bind_op, Prog.bind_ret, Prog.pure_eq_ret, wp_deviceId]
  unfold pm p1T
  iintro ⟨#Hc, Ho, HB, HX, Hx1, Hx2, ⟨Ht1, Hn1⟩⟩ Hk
  iapply (xfer_p1 m K c 1 _ (by revert c; decide) (by decide) (k0_off3_eq c) rfl rfl 15 (by decide)) $$ [Ho Ht1 Hx1 Hn1]
  · iframe Hc Ho Ht1 Hx1 Hn1
  iintro ⟨Ho, Hp1⟩
  iapply (wp_ldw c (by decide)) $$ HB
  iintro HB
  iapply (wp_ldw c (by decide)) $$ HX
  iintro HX
  ihave Hx2 := (any_elim c _) $$ Hx2
  icases Hx2 with ⟨%XHx2, Hx2⟩
  iapply (wp_ldr c (by decide)) $$ Hx2
  iintro Hx2
  ihave Hx2 := (any_intro c _ _) $$ Hx2
  iapply (wp_strv c (by decide) (xdv m c (some 2)) (by rfl)) $$ Hx2
  iintro Hx2
  iapply (wp_done c)
  iapply Hk
  iframe Ho HB HX Hp1 Hx2

/-- The third and fourth peers' tokens, sent. -/
theorem part20 (Kt : (Σ' (v498 : BitVec 32), BitVec 32) → sProp 𝕄) :
    iprop(ctx m K ∗ owe (F := F) c 16 ∗ bsB m c ∗ stX m c ∗ owns (c : Thread nD τ) (xdR 2) fullShare (xdv m c (some 2)) ∗ anyAt (F := F) c (xdR 3) ∗ p1T (F := F) c 2 ∗ p1T (F := F) c 3)
      ⊢ iprop(((owe (F := F) c 18 ∗ bsB m c ∗ stX m c ∗ pend (F := F) c (some (0, false, 2)) ∗ pend (F := F) c (some (0, false, 3))) -∗ Kt ⟨pm c 4#32, pm c 5#32⟩)
        -∗ WP c Kt (atBufs (k0_part20 (F := F)) c (v2 c) (v235 m c))) := by
  rw [k0_part20_eq_skeleton]; unfold atBufs k0_part20_skel
  simp only [semSignalWord, semWaitWord, Prog.lift, Prog.bind_op, Prog.bind_ret, Prog.pure_eq_ret, wp_deviceId]
  unfold pm p1T
  iintro ⟨#Hc, Ho, HB, HX, Hx2, Hx3, ⟨Ht2, Hn2⟩, ⟨Ht3, Hn3⟩⟩ Hk
  iapply (xfer_p1 m K c 2 _ (by revert c; decide) (by decide) (k0_off3_eq c) rfl rfl 16 (by decide)) $$ [Ho Ht2 Hx2 Hn2]
  · iframe Hc Ho Ht2 Hx2 Hn2
  iintro ⟨Ho, Hp2⟩
  iapply (wp_ldw c (by decide)) $$ HB
  iintro HB
  iapply (wp_ldw c (by decide)) $$ HX
  iintro HX
  ihave Hx3 := (any_elim c _) $$ Hx3
  icases Hx3 with ⟨%XHx3, Hx3⟩
  iapply (wp_ldr c (by decide)) $$ Hx3
  iintro Hx3
  ihave Hx3 := (any_intro c _ _) $$ Hx3
  iapply (wp_strv c (by decide) (xdv m c (some 3)) (by rfl)) $$ Hx3
  iintro Hx3
  iapply (xfer_p1 m K c 3 _ (by revert c; decide) (by decide) (k0_off3_eq c) rfl rfl 17 (by decide)) $$ [Ho Ht3 Hx3 Hn3]
  · iframe Hc Ho Ht3 Hx3 Hn3
  iintro ⟨Ho, Hp3⟩
  iapply (wp_done c)
  iapply Hk
  iframe Ho HB HX Hp2 Hp3

/-- The fifth peer's tokens, sent. -/
theorem part21 (Kt : (Σ' (v550 : BitVec 32) (v556 : FVec F S2048x1 .bf16), Vec F S2048x384 .bf16) → sProp 𝕄) :
    iprop(ctx m K ∗ owe (F := F) c 18 ∗ bsB m c ∗ stX m c ∗ anyAt (F := F) c (xdR 4) ∗ p1T (F := F) c 4)
      ⊢ iprop(((owe (F := F) c 19 ∗ bsB m c ∗ stX m c ∗ pend (F := F) c (some (0, false, 4))) -∗ Kt ⟨pm c 6#32, k0_pay47 (F := F) (v2 c) (v235 m c), base m c⟩)
        -∗ WP c Kt (atBufs (k0_part21 (F := F)) c (v2 c) (v235 m c) (pm c 5#32))) := by
  rw [k0_part21_eq_skeleton]; unfold atBufs k0_part21_skel
  simp only [semSignalWord, semWaitWord, Prog.lift, Prog.bind_op, Prog.bind_ret, Prog.pure_eq_ret, wp_deviceId]
  unfold pm p1T
  iintro ⟨#Hc, Ho, HB, HX, Hx4, ⟨Ht4, Hn4⟩⟩ Hk
  iapply (wp_ldw c (by decide)) $$ HB
  iintro HB
  iapply (wp_ldw c (by decide)) $$ HX
  iintro HX
  ihave Hx4 := (any_elim c _) $$ Hx4
  icases Hx4 with ⟨%XHx4, Hx4⟩
  iapply (wp_ldr c (by decide)) $$ Hx4
  iintro Hx4
  ihave Hx4 := (any_intro c _ _) $$ Hx4
  iapply (wp_strv c (by decide) (xdv m c (some 4)) (by rfl)) $$ Hx4
  iintro Hx4
  iapply (xfer_p1 m K c 4 _ (by revert c; decide) (by decide) (k0_off3_eq c) rfl rfl 18 (by decide)) $$ [Ho Ht4 Hx4 Hn4]
  · iframe Hc Ho Ht4 Hx4 Hn4
  iintro ⟨Ho, Hp4⟩
  iapply (wp_ldw c (by decide)) $$ HB
  iintro HB
  iapply (wp_done c)
  iapply Hk
  iframe Ho HB HX Hp4

/-- The sixth peer's tokens, sent. -/
theorem part22 (Kt : (Σ' (v576 : BitVec 32), FVec F S384x512 .bf16) → sProp 𝕄) (w550 : BitVec 32) :
    iprop(ctx m K ∗ owe (F := F) c 19 ∗ bsB m c ∗ stX m c ∗ anyAt (F := F) c (xdR 5) ∗ p1T (F := F) c 5)
      ⊢ iprop(((owe (F := F) c 20 ∗ bsB m c ∗ stX m c ∗ pend (F := F) c (some (0, false, 5))) -∗ Kt ⟨pm c 7#32, k0_pay49 (v2 c) (v235 m c) (base m c) (xstg m c)⟩)
        -∗ WP c Kt (atBufs (k0_part22 (F := F)) c (v2 c) (v235 m c) w550 (k0_pay47 (v2 c) (v235 m c)) (base m c))) := by
  rw [k0_part22_eq_skeleton]; unfold atBufs k0_part22_skel
  simp only [semSignalWord, semWaitWord, Prog.lift, Prog.bind_op, Prog.bind_ret, Prog.pure_eq_ret, wp_deviceId]
  unfold pm p1T
  iintro ⟨#Hc, Ho, HB, HX, Hx5, ⟨Ht5, Hn5⟩⟩ Hk
  iapply (wp_ldw c (by decide)) $$ HX
  iintro HX
  ihave Hx5 := (any_elim c _) $$ Hx5
  icases Hx5 with ⟨%XHx5, Hx5⟩
  iapply (wp_ldr c (by decide)) $$ Hx5
  iintro Hx5
  ihave Hx5 := (any_intro c _ _) $$ Hx5
  iapply (wp_strv c (by decide) (xdv m c (some 5)) (by rfl)) $$ Hx5
  iintro Hx5
  iapply (xfer_p1 m K c 5 _ (by revert c; decide) (by decide) (k0_off3_eq c) rfl rfl 19 (by decide)) $$ [Ho Ht5 Hx5 Hn5]
  · iframe Hc Ho Ht5 Hx5 Hn5
  iintro ⟨Ho, Hp5⟩
  iapply (wp_ldw c (by decide)) $$ HB
  iintro HB
  iapply (wp_ldw c (by decide)) $$ HX
  iintro HX
  iapply (wp_done c)
  iapply Hk
  iframe Ho HB HX Hp5

/-- The last peer's tokens, sent; the device's own, kept. -/
theorem part23 (Kt : (PUnit) → sProp 𝕄) (w576 : BitVec 32) :
    iprop(ctx m K ∗ owe (F := F) c 20 ∗ bsB m c ∗ stX m c ∗ anyAt (F := F) c (xdR 6) ∗ p1T (F := F) c 6 ∗ anyAt (F := F) c (inR c))
      ⊢ iprop(((owe (F := F) c 21 ∗ bsB m c ∗ stX m c ∗ pend (F := F) c (some (0, false, 6)) ∗ owns (c : Thread nD τ) (inR c) fullShare (inv m c c)) -∗ Kt ⟨⟩)
        -∗ WP c Kt (atBufs (k0_part23 (F := F)) c (v2 c) (v235 m c) w576 (k0_pay49 (v2 c) (v235 m c) (base m c) (xstg m c)))) := by
  rw [k0_part23_eq_skeleton]; unfold atBufs k0_part23_skel
  simp only [semSignalWord, semWaitWord, Prog.lift, Prog.bind_op, Prog.bind_ret, Prog.pure_eq_ret, wp_deviceId]
  unfold p1T
  iintro ⟨#Hc, Ho, HB, HX, Hx6, ⟨Ht6, Hn6⟩, Hin⟩ Hk
  ihave Hx6 := (any_elim c _) $$ Hx6
  icases Hx6 with ⟨%XHx6, Hx6⟩
  iapply (wp_ldr c (by decide)) $$ Hx6
  iintro Hx6
  ihave Hx6 := (any_intro c _ _) $$ Hx6
  iapply (wp_strv c (by decide) (xdv m c (some 6)) (by rfl)) $$ Hx6
  iintro Hx6
  iapply (xfer_p1 m K c 6 _ (by revert c; decide) (by decide) (k0_off3_eq c) rfl rfl 20 (by decide)) $$ [Ho Ht6 Hx6 Hn6]
  · iframe Hc Ho Ht6 Hx6 Hn6
  iintro ⟨Ho, Hp6⟩
  iapply (wp_ldw c (by decide)) $$ HB
  iintro HB
  iapply (wp_ldw c (by decide)) $$ HX
  iintro HX
  ihave Hin := (any_elim c _) $$ Hin
  icases Hin with ⟨%XHin, Hin⟩
  iapply (wp_ldr c (k0_off4_eq c)) $$ Hin
  iintro Hin
  ihave Hin := (any_intro c _ _) $$ Hin
  iapply (wp_strv c (k0_off4_eq c) (inv m c c) (by unfold inv; rw [who_self]; rfl)) $$ Hin
  iintro Hin
  iapply (wp_done c)
  iapply Hk
  iframe Ho HB HX Hp6 Hin

/-- Waits for the first two peers' tokens. -/
theorem part24 (Kt : (PUnit) → sProp 𝕄) (w420 w446 : BitVec 32) :
    iprop(ctx m K ∗ owe (F := F) c 21 ∗ pend (F := F) c (some (0, false, 0)) ∗ pend (F := F) c (some (0, true, 0)) ∗ pend (F := F) c (some (0, false, 1)) ∗ pend (F := F) c (some (0, true, 1)))
      ⊢ iprop(((owe (F := F) c 21 ∗ wS m c 0 0 ∗ wR m c 0 0 ∗ wS m c 0 1 ∗ wR m c 0 1) -∗ Kt ⟨⟩)
        -∗ WP c Kt (atBufs (k0_part24 (F := F)) c w420 w446)) := by
  rw [k0_part24_eq_skeleton]; unfold atBufs k0_part24_skel
  simp only [semSignalWord, semWaitWord, Prog.lift, Prog.bind_op, Prog.bind_ret, Prog.pure_eq_ret, wp_deviceId]
  iintro ⟨#Hc, Ho, Hws0, Hwr0, Hws1, Hwr1⟩ Hk
  iapply (wt_s m K c 0 0 (by rfl) (by rfl) 21 (by decide)) $$ [Ho Hws0]
  · iframe Hc Ho Hws0
  iintro ⟨Ho, Hws0⟩
  iapply (wt_r m K c 0 0 (by rfl) (by rfl) 21 (by decide)) $$ [Ho Hwr0]
  · iframe Hc Ho Hwr0
  iintro ⟨Ho, Hwr0⟩
  iapply (wt_s m K c 0 1 (by rfl) (by rfl) 21 (by decide)) $$ [Ho Hws1]
  · iframe Hc Ho Hws1
  iintro ⟨Ho, Hws1⟩
  iapply (wt_r m K c 0 1 (by rfl) (by rfl) 21 (by decide)) $$ [Ho Hwr1]
  · iframe Hc Ho Hwr1
  iintro ⟨Ho, Hwr1⟩
  iapply (wp_done c)
  iapply Hk
  iframe Ho Hws0 Hwr0 Hws1 Hwr1

/-- Waits for the next tokens. -/
theorem part25 (Kt : (PUnit) → sProp 𝕄) (w472 w498 : BitVec 32) :
    iprop(ctx m K ∗ owe (F := F) c 21 ∗ pend (F := F) c (some (0, false, 2)) ∗ pend (F := F) c (some (0, true, 2)) ∗ pend (F := F) c (some (0, false, 3)) ∗ pend (F := F) c (some (0, true, 3)) ∗ pend (F := F) c (some (0, false, 4)))
      ⊢ iprop(((owe (F := F) c 21 ∗ wS m c 0 2 ∗ wR m c 0 2 ∗ wS m c 0 3 ∗ wR m c 0 3 ∗ wS m c 0 4) -∗ Kt ⟨⟩)
        -∗ WP c Kt (atBufs (k0_part25 (F := F)) c w472 w498)) := by
  rw [k0_part25_eq_skeleton]; unfold atBufs k0_part25_skel
  simp only [semSignalWord, semWaitWord, Prog.lift, Prog.bind_op, Prog.bind_ret, Prog.pure_eq_ret, wp_deviceId]
  iintro ⟨#Hc, Ho, Hws2, Hwr2, Hws3, Hwr3, Hws4⟩ Hk
  iapply (wt_s m K c 0 2 (by rfl) (by rfl) 21 (by decide)) $$ [Ho Hws2]
  · iframe Hc Ho Hws2
  iintro ⟨Ho, Hws2⟩
  iapply (wt_r m K c 0 2 (by rfl) (by rfl) 21 (by decide)) $$ [Ho Hwr2]
  · iframe Hc Ho Hwr2
  iintro ⟨Ho, Hwr2⟩
  iapply (wt_s m K c 0 3 (by rfl) (by rfl) 21 (by decide)) $$ [Ho Hws3]
  · iframe Hc Ho Hws3
  iintro ⟨Ho, Hws3⟩
  iapply (wt_r m K c 0 3 (by rfl) (by rfl) 21 (by decide)) $$ [Ho Hwr3]
  · iframe Hc Ho Hwr3
  iintro ⟨Ho, Hwr3⟩
  iapply (wt_s m K c 0 4 (by rfl) (by rfl) 21 (by decide)) $$ [Ho Hws4]
  · iframe Hc Ho Hws4
  iintro ⟨Ho, Hws4⟩
  iapply (wp_done c)
  iapply Hk
  iframe Ho Hws2 Hwr2 Hws3 Hwr3 Hws4

/-- Waits for the last tokens. -/
theorem part26 (Kt : (PUnit) → sProp 𝕄) (w524 w550 : BitVec 32) :
    iprop(ctx m K ∗ owe (F := F) c 21 ∗ pend (F := F) c (some (0, true, 4)) ∗ pend (F := F) c (some (0, false, 5)) ∗ pend (F := F) c (some (0, true, 5)) ∗ pend (F := F) c (some (0, false, 6)))
      ⊢ iprop(((owe (F := F) c 21 ∗ wR m c 0 4 ∗ wS m c 0 5 ∗ wR m c 0 5 ∗ wS m c 0 6) -∗ Kt ⟨⟩)
        -∗ WP c Kt (atBufs (k0_part26 (F := F)) c w524 w550)) := by
  rw [k0_part26_eq_skeleton]; unfold atBufs k0_part26_skel
  simp only [semSignalWord, semWaitWord, Prog.lift, Prog.bind_op, Prog.bind_ret, Prog.pure_eq_ret, wp_deviceId]
  iintro ⟨#Hc, Ho, Hwr4, Hws5, Hwr5, Hws6⟩ Hk
  iapply (wt_r m K c 0 4 (by rfl) (by rfl) 21 (by decide)) $$ [Ho Hwr4]
  · iframe Hc Ho Hwr4
  iintro ⟨Ho, Hwr4⟩
  iapply (wt_s m K c 0 5 (by rfl) (by rfl) 21 (by decide)) $$ [Ho Hws5]
  · iframe Hc Ho Hws5
  iintro ⟨Ho, Hws5⟩
  iapply (wt_r m K c 0 5 (by rfl) (by rfl) 21 (by decide)) $$ [Ho Hwr5]
  · iframe Hc Ho Hwr5
  iintro ⟨Ho, Hwr5⟩
  iapply (wt_s m K c 0 6 (by rfl) (by rfl) 21 (by decide)) $$ [Ho Hws6]
  · iframe Hc Ho Hws6
  iintro ⟨Ho, Hws6⟩
  iapply (wp_done c)
  iapply Hk
  iframe Ho Hwr4 Hws5 Hwr5 Hws6

end Cert.MoE

end
-- ==== Proof.Body3.lean ====
/-
# The kernel's loops

One trip of each of the three loops, and the loops.
-/
module

public import proofs.«01_k».proof.Proof.Stacks
@[expose] public section

noncomputable section

namespace Cert.MoE

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × CI → ℕ) (c : Dev nD)

/-! ## Rows of the loops' buffers -/

abbrev csR (s : Fin 8) := row3 (n := 8) (A := 384) (B := 640) (Memref.whole cc0_scratch7 : Memref sig .tc .vmem S8x384x640 .bf16) s
abbrev strR (s : Fin 8) := row3 (n := 8) (A := 640) (B := 512) (Memref.whole cc0_scratch3 : Memref sig .tc .vmem S8x640x512 .bf16) s
abbrev strS (k : Fin 8) := slabR (B := 512) (Memref.whole cc0_scratch3 : Memref sig .tc .vmem S8x640x512 .bf16) k
abbrev outS (k : Fin 8) := slabR (B := 1024) (Memref.whole cc0_scratch4 : Memref sig .tc .vmem S8x640x1024 .bf16) k
abbrev outR (s : Fin 8) := row3 (n := 8) (A := 640) (B := 1024) (Memref.whole cc0_scratch4 : Memref sig .tc .vmem S8x640x1024 .bf16) s

/-! ## One trip of each loop -/

/-- Which tokens a trip serves. -/
theorem part1 (t : Fin k0_t1_loop.trips) (Kt : (Σ' (arg19 : BitVec 32) (v1005 : IVec S1x64 32) (v1011 : IVec S1x64 32) (v1033 : IVec S1x640 32) (v1037 : IVec S1x640 32) (v1041 : IVec S1x64 1), BitVec 32) → sProp 𝕄) :
    Kt ⟨Scf.iv 0#32 1#32 t, v1005 m t, v1011 m t, v1033 m c t, v1037 m c t, v1041 c, 0#32⟩ ⊢ WP c Kt (atBufs (k0_part1 (F := F)) (v2 c) v233 (v255 m) v256 (v341 m) v400 0#32 1#32 t) := by
  rw [k0_part1_eq_skeleton]; unfold atBufs k0_part1_skel
  simp only [Prog.pure_eq_ret]
  unfold v1005 v1011 v1033 v1037 v1041
  exact wp_done c _

/-- The first experts' columns. -/
theorem part2 (t : Fin k0_t1_loop.trips) (Kt : (Σ' (v1081 : IVec S1x640 32) (v1085 : IVec S1x640 32) (v1086 : BitVec 32), BitVec 32) → sProp 𝕄) :
    Kt ⟨v1081 m c t, v1085 m c t, v1086 c, 3#32⟩ ⊢ WP c Kt (atBufs (k0_part2 (F := F)) (v2 c) v256 v400 (v1005 m t) (v1011 m t) (v1033 m c t) (v1037 m c t) (v1041 c) 0#32) := by
  rw [k0_part2_eq_skeleton]; unfold atBufs k0_part2_skel
  simp only [Prog.pure_eq_ret]
  unfold v1081 v1085 v1086
  exact wp_done c _

/-- The next experts' columns. -/
theorem part3 (t : Fin k0_t1_loop.trips) (Kt : (Σ' (v1109 : IVec S1x640 32) (v1129 : IVec S1x640 32) (v1131 : IVec S1x640 1), IVec S1x640 32) → sProp 𝕄) :
    Kt ⟨v1109 m c t, v1129 m c t, v1131, v1132 m c t⟩ ⊢ WP c Kt (atBufs (k0_part3 (F := F)) (v2 c) v256 v400 (v1005 m t) (v1011 m t) (v1081 m c t) (v1085 m c t) (v1086 c) 3#32) := by
  rw [k0_part3_eq_skeleton]; unfold atBufs k0_part3_skel
  simp only [Prog.pure_eq_ret]
  unfold v1109 v1129 v1131 v1132
  exact wp_done c _

/-- The last experts' columns. -/
theorem part4 (t : Fin k0_t1_loop.trips) (Kt : (Σ' (v1157 : IVec S1x640 32) (v1173 : BitVec 32), IVec S1x640 32) → sProp 𝕄) :
    Kt ⟨v1157 m c t, v1173 m c t, v1177 m c t⟩ ⊢ WP c Kt (atBufs (k0_part4 (F := F)) (v2 c) v256 v400 (v1005 m t) (v1011 m t) (v1109 m c t) (v1129 m c t) v1131 (v1132 m c t)) := by
  rw [k0_part4_eq_skeleton]; unfold atBufs k0_part4_skel
  simp only [Prog.pure_eq_ret]
  unfold v1157 v1173 v1177
  exact wp_done c _

theorem part5 (t : Fin k0_t1_loop.trips) (s : Fin 8) (hs : t.val = s.val) (w19 : BitVec 32) (Kt : FVec F S384x640 .bf16 → sProp 𝕄) :
    anyAt (F := F) c (csR s)
      ⊢ iprop((owns (c : Thread nD τ) (csR s) fullShare (cst m c t) -∗ Kt (csq m c t))
        -∗ WP c Kt (atBufs (k0_part5 (F := F)) (v2 c) v256 v400 v417 v418 t w19 (v1005 m t) (v1011 m t) (v1157 m c t) (v1173 m c t) (v1177 m c t))) := by
  rw [k0_part5_eq_skeleton]; unfold atBufs k0_part5_skel
  simp only [Prog.lift, Prog.bind_op, Prog.bind_ret, Prog.pure_eq_ret]
  unfold csq
  have h5 : k0_off5 t = ro3 s.val := by rw [k0_off5_eq, hs]
  iintro H Hk
  ihave H := (any_elim c _) $$ H
  icases H with ⟨%XH, H⟩
  iapply (wp_ldr c (h5)) $$ H
  iintro H
  ihave H := (any_intro c _ _) $$ H
  iapply (wp_strv c (h5) (cst m c t) (by rfl)) $$ H
  iintro H
  iapply (wp_done c)
  iapply Hk
  iframe H

/-- Device `s`'s tokens, spread over the stripes. -/
theorem trip1 (t : Fin k0_t1_loop.trips) (s : Fin 8) (hs : t.val = s.val) (w576 : BitVec 32) (Kt : Unit → sProp 𝕄) :
    iprop(anyAt (F := F) c (csR s) ∗ anyAt (F := F) c (strR s) ∗ owns (c : Thread nD τ) (inR s) fullShare (inv m c s))
      ⊢ iprop(((owns (c : Thread nD τ) (csR s) fullShare (csv m c s) ∗ owns (c : Thread nD τ) (strR s) fullShare (strv m c s) ∗ owns (c : Thread nD τ) (inR s) fullShare (inv m c s)) -∗ Kt ⟨⟩)
        -∗ WP c Kt (atBufs (k0_t1_body (F := F)) c (v2 c) v233 (v255 m) v256 (v341 m) v400 v417 v418 w576 t ⟨⟩)) := by
  obtain rfl : Fin.cast trips1.symm s = t := Fin.ext hs.symm
  have h6 : k0_off6 (Fin.cast trips1.symm s) = ro3 s.val := k0_off6_eq _
  have h7 : k0_off7 (Fin.cast trips1.symm s) = ro3 s.val := k0_off7_eq _
  unfold atBufs k0_t1_body
  iintro ⟨Hc, Hs, Hi⟩ Hk
  iapply (wp_seq c _ _ _)
  iapply (part1 m c _ _)
  dsimp only
  iapply (wp_seq c _ _ _)
  iapply (part2 m c _ _)
  dsimp only
  iapply (wp_seq c _ _ _)
  iapply (part3 m c _ _)
  dsimp only
  iapply (wp_seq c _ _ _)
  iapply (part4 m c _ _)
  dsimp only
  iapply (wp_seq c _ _ _)
  iapply (part5 m c _ s hs _ _) $$ Hc
  iintro Hc
  simp only [Prog.lift, Prog.bind_op, Prog.bind_ret, Prog.pure_eq_ret]
  iapply (wp_ldr c (h6)) $$ Hi
  iintro Hi
  ihave Hs := (any_elim c _) $$ Hs
  icases Hs with ⟨%XHs, Hs⟩
  iapply (wp_ldr c (h7)) $$ Hs
  iintro Hs
  ihave Hs := (any_intro c _ _) $$ Hs
  iapply (wp_strv c (h7) (strv m c s) (by rfl)) $$ Hs
  iintro Hs
  iapply (wp_done c)
  iapply Hk
  iframe Hs Hi
  iexact Hc

/-- Expert `k` over every stripe. -/
theorem trip2 (t : Fin k0_t2_loop.trips) (s : Fin 8) (hs : t.val = s.val) (w576 : BitVec 32) (Kt : Unit → sProp 𝕄) :
    iprop(anyAt (F := F) c (outS s) ∗ owns (c : Thread nD τ) (strS s) fullShare (slab (strF m c) s) ∗ owns (c : Thread nD τ) (row3 (n := 8) (A := 512) (B := 1024) (Memref.whole cc0_stg2_0 : Memref sig .tc .vmem S8x512x1024 .bf16) s) fullShare (rowOf (n := 8) (A := 512) (B := 1024) (wstg m c) s))
      ⊢ iprop(((owns (c : Thread nD τ) (outS s) fullShare (outv m c s) ∗ owns (c : Thread nD τ) (strS s) fullShare (slab (strF m c) s) ∗ owns (c : Thread nD τ) (row3 (n := 8) (A := 512) (B := 1024) (Memref.whole cc0_stg2_0 : Memref sig .tc .vmem S8x512x1024 .bf16) s) fullShare (rowOf (n := 8) (A := 512) (B := 1024) (wstg m c) s)) -∗ Kt ⟨⟩)
        -∗ WP c Kt (atBufs (k0_t2_body (F := F)) c (v2 c) v233 (v255 m) v256 (v341 m) v400 v417 v418 w576 t ⟨⟩)) := by
  have h8 : k0_off8 t = ![0, 80 * s.val, 0] := by rw [k0_off8_eq, hs]
  have h9 : k0_off9 t = ro3 s.val := by rw [k0_off9_eq, hs]
  have h10 : k0_off10 t = ![0, 80 * s.val, 0] := by rw [k0_off10_eq, hs]
  unfold atBufs k0_t2_body
  simp only [Prog.lift, Prog.bind_op, Prog.bind_ret, Prog.pure_eq_ret]
  iintro ⟨Ho, Hs, Hw⟩ Hk
  iapply (wp_ldr c (h8)) $$ Hs
  iintro Hs
  iapply (wp_ldr c (h9)) $$ Hw
  iintro Hw
  ihave Ho := (any_elim c _) $$ Ho
  icases Ho with ⟨%XHo, Ho⟩
  iapply (wp_ldr c (h10)) $$ Ho
  iintro Ho
  ihave Ho := (any_intro c _ _) $$ Ho
  iapply (wp_strv c (h10) (outv m c s) (by rfl)) $$ Ho
  iintro Ho
  iapply (wp_done c)
  iapply Hk
  iframe Ho Hs Hw

/-- Results for device `s`, gathered back. -/
theorem trip3 (t : Fin k0_t3_loop.trips) (s : Fin 8) (hs : t.val = s.val) (w576 : BitVec 32) (Kt : Unit → sProp 𝕄) :
    iprop(anyAt (F := F) c (yR s) ∗ owns (c : Thread nD τ) (csR s) fullShare (csv m c s) ∗ owns (c : Thread nD τ) (outR s) fullShare (rowOf (n := 8) (A := 640) (B := 1024) (outF m c) s))
      ⊢ iprop(((owns (c : Thread nD τ) (yR s) fullShare (yv m c s) ∗ owns (c : Thread nD τ) (csR s) fullShare (csv m c s) ∗ owns (c : Thread nD τ) (outR s) fullShare (rowOf (n := 8) (A := 640) (B := 1024) (outF m c) s)) -∗ Kt ⟨⟩)
        -∗ WP c Kt (atBufs (k0_t3_body (F := F)) c (v2 c) v233 (v255 m) v256 (v341 m) v400 v417 v418 w576 t ⟨⟩)) := by
  have h11 : k0_off11 t = ro3 s.val := by rw [k0_off11_eq, hs]
  have h12 : k0_off12 t = ro3 s.val := by rw [k0_off12_eq, hs]
  have h13 : k0_off13 t = ro3 s.val := by rw [k0_off13_eq, hs]
  unfold atBufs k0_t3_body
  simp only [Prog.lift, Prog.bind_op, Prog.bind_ret, Prog.pure_eq_ret]
  iintro ⟨Hy, Hc, Ho⟩ Hk
  iapply (wp_ldr c (h11)) $$ Hc
  iintro Hc
  iapply (wp_ldr c (h12)) $$ Ho
  iintro Ho
  ihave Hy := (any_elim c _) $$ Hy
  icases Hy with ⟨%XHy, Hy⟩
  iapply (wp_ldr c (h13)) $$ Hy
  iintro Hy
  ihave Hy := (any_intro c _ _) $$ Hy
  iapply (wp_strv c (h13) (yv m c s) (by rfl)) $$ Hy
  iintro Hy
  iapply (wp_done c)
  iapply Hk
  iframe Hy Hc Ho

/-! ## The loops -/

/-- Every device's tokens, spread over the stripes. -/
theorem loop1 {α : Type} (Q : α → sProp 𝕄) (kk : Unit → Prog (TpuEff nD τ sig (Elt F) Λ₀ .tc) α) (w576 : BitVec 32) :
    iprop((bigSep Finset.univ fun s : Fin 8 => anyAt (F := F) c (csR s)) ∗ (bigSep Finset.univ fun s : Fin 8 => anyAt (F := F) c (strR s)) ∗ (bigSep Finset.univ fun s : Fin 8 => owns (c : Thread nD τ) (inR s) fullShare (inv m c s)))
      ⊢ iprop((((bigSep Finset.univ fun s : Fin 8 => owns (c : Thread nD τ) (csR s) fullShare (csv m c s)) ∗ (bigSep Finset.univ fun s : Fin 8 => owns (c : Thread nD τ) (strR s) fullShare (strv m c s)) ∗ (bigSep Finset.univ fun s : Fin 8 => owns (c : Thread nD τ) (inR s) fullShare (inv m c s))) -∗ WP c Q (kk ⟨⟩))
        -∗ WP c Q (Scf.Loop.for k0_t1_loop k0_t1_ok ⟨⟩ (atBufs (k0_t1_body (F := F)) c (v2 c) v233 (v255 m) v256 (v341 m) v400 v417 v418 w576) >>= kk)) := by
  have hb : ∀ (k : Fin k0_t1_loop.trips) (acc : Unit),
      iprop(famAt (fun s : Fin 8 => anyAt (F := F) c (csR s)) (fun s : Fin 8 => owns (c : Thread nD τ) (csR s) fullShare (csv m c s)) k.val ∗ famAt (fun s : Fin 8 => anyAt (F := F) c (strR s)) (fun s : Fin 8 => owns (c : Thread nD τ) (strR s) fullShare (strv m c s)) k.val ∗ (bigSep Finset.univ fun s : Fin 8 => owns (c : Thread nD τ) (inR s) fullShare (inv m c s)))
        ⊢ WP c (fun _ => iprop(famAt (fun s : Fin 8 => anyAt (F := F) c (csR s)) (fun s : Fin 8 => owns (c : Thread nD τ) (csR s) fullShare (csv m c s)) (k.val + 1) ∗ famAt (fun s : Fin 8 => anyAt (F := F) c (strR s)) (fun s : Fin 8 => owns (c : Thread nD τ) (strR s) fullShare (strv m c s)) (k.val + 1) ∗ (bigSep Finset.univ fun s : Fin 8 => owns (c : Thread nD τ) (inR s) fullShare (inv m c s)))) (atBufs (k0_t1_body (F := F)) c (v2 c) v233 (v255 m) v256 (v341 m) v400 v417 v418 w576 k acc) := by
    intro k acc
    have hk : k.val < 8 := lt_of_lt_of_eq k.isLt trips1
    iintro ⟨H0, H1, H2⟩
    ihave H0 := (fam_step (F := F) (fun s : Fin 8 => anyAt (F := F) c (csR s)) (fun s : Fin 8 => owns (c : Thread nD τ) (csR s) fullShare (csv m c s)) ⟨k.val, hk⟩) $$ H0
    icases H0 with ⟨H0, G0⟩
    ihave H1 := (fam_step (F := F) (fun s : Fin 8 => anyAt (F := F) c (strR s)) (fun s : Fin 8 => owns (c : Thread nD τ) (strR s) fullShare (strv m c s)) ⟨k.val, hk⟩) $$ H1
    icases H1 with ⟨H1, G1⟩
    ihave H2 := (fam_get (F := F) (fun s : Fin 8 => owns (c : Thread nD τ) (inR s) fullShare (inv m c s)) ⟨k.val, hk⟩) $$ H2
    icases H2 with ⟨H2, G2⟩
    iapply (trip1 m c k ⟨k.val, hk⟩ rfl w576 _) $$ [H0 H1 H2]
    · iframe H0 H1 H2
    iintro ⟨H0, H1, H2⟩
    ihave H0 := G0 $$ H0
    ihave H1 := G1 $$ H1
    ihave H2 := G2 $$ H2
    iframe H0 H1 H2
  iintro ⟨H0, H1, H2⟩ Hk
  iapply (Scf.wp_for_bind _ _ _ _ _ _ _ _ _ (fun k _ => iprop(famAt (fun s : Fin 8 => anyAt (F := F) c (csR s)) (fun s : Fin 8 => owns (c : Thread nD τ) (csR s) fullShare (csv m c s)) k ∗ famAt (fun s : Fin 8 => anyAt (F := F) c (strR s)) (fun s : Fin 8 => owns (c : Thread nD τ) (strR s) fullShare (strv m c s)) k ∗ (bigSep Finset.univ fun s : Fin 8 => owns (c : Thread nD τ) (inR s) fullShare (inv m c s)))) hb) $$ [H0 H1 H2]
  · rw [fam_zero, fam_zero]
    iframe H0 H1 H2
  iintro %acc ⟨H0, H1, H2⟩
  iapply Hk
  ihave H0 := (Entails.of_eq (show famAt (fun s : Fin 8 => anyAt (F := F) c (csR s)) (fun s : Fin 8 => owns (c : Thread nD τ) (csR s) fullShare (csv m c s)) k0_t1_loop.trips = (bigSep Finset.univ fun s : Fin 8 => owns (c : Thread nD τ) (csR s) fullShare (csv m c s)) from by rw [trips1]; exact fam_all _ _)) $$ H0
  ihave H1 := (Entails.of_eq (show famAt (fun s : Fin 8 => anyAt (F := F) c (strR s)) (fun s : Fin 8 => owns (c : Thread nD τ) (strR s) fullShare (strv m c s)) k0_t1_loop.trips = (bigSep Finset.univ fun s : Fin 8 => owns (c : Thread nD τ) (strR s) fullShare (strv m c s)) from by rw [trips1]; exact fam_all _ _)) $$ H1
  iframe H0 H1 H2

/-- Every expert over every stripe. -/
theorem loop2 {α : Type} (Q : α → sProp 𝕄) (kk : Unit → Prog (TpuEff nD τ sig (Elt F) Λ₀ .tc) α) (w576 : BitVec 32) :
    iprop((bigSep Finset.univ fun s : Fin 8 => anyAt (F := F) c (outS s)) ∗ (bigSep Finset.univ fun s : Fin 8 => owns (c : Thread nD τ) (strS s) fullShare (slab (strF m c) s)) ∗ (bigSep Finset.univ fun s : Fin 8 => owns (c : Thread nD τ) (row3 (n := 8) (A := 512) (B := 1024) (Memref.whole cc0_stg2_0 : Memref sig .tc .vmem S8x512x1024 .bf16) s) fullShare (rowOf (n := 8) (A := 512) (B := 1024) (wstg m c) s)))
      ⊢ iprop((((bigSep Finset.univ fun s : Fin 8 => owns (c : Thread nD τ) (outS s) fullShare (outv m c s)) ∗ (bigSep Finset.univ fun s : Fin 8 => owns (c : Thread nD τ) (strS s) fullShare (slab (strF m c) s)) ∗ (bigSep Finset.univ fun s : Fin 8 => owns (c : Thread nD τ) (row3 (n := 8) (A := 512) (B := 1024) (Memref.whole cc0_stg2_0 : Memref sig .tc .vmem S8x512x1024 .bf16) s) fullShare (rowOf (n := 8) (A := 512) (B := 1024) (wstg m c) s))) -∗ WP c Q (kk ⟨⟩))
        -∗ WP c Q (Scf.Loop.for k0_t2_loop k0_t2_ok ⟨⟩ (atBufs (k0_t2_body (F := F)) c (v2 c) v233 (v255 m) v256 (v341 m) v400 v417 v418 w576) >>= kk)) := by
  have hb : ∀ (k : Fin k0_t2_loop.trips) (acc : Unit),
      iprop(famAt (fun s : Fin 8 => anyAt (F := F) c (outS s)) (fun s : Fin 8 => owns (c : Thread nD τ) (outS s) fullShare (outv m c s)) k.val ∗ (bigSep Finset.univ fun s : Fin 8 => owns (c : Thread nD τ) (strS s) fullShare (slab (strF m c) s)) ∗ (bigSep Finset.univ fun s : Fin 8 => owns (c : Thread nD τ) (row3 (n := 8) (A := 512) (B := 1024) (Memref.whole cc0_stg2_0 : Memref sig .tc .vmem S8x512x1024 .bf16) s) fullShare (rowOf (n := 8) (A := 512) (B := 1024) (wstg m c) s)))
        ⊢ WP c (fun _ => iprop(famAt (fun s : Fin 8 => anyAt (F := F) c (outS s)) (fun s : Fin 8 => owns (c : Thread nD τ) (outS s) fullShare (outv m c s)) (k.val + 1) ∗ (bigSep Finset.univ fun s : Fin 8 => owns (c : Thread nD τ) (strS s) fullShare (slab (strF m c) s)) ∗ (bigSep Finset.univ fun s : Fin 8 => owns (c : Thread nD τ) (row3 (n := 8) (A := 512) (B := 1024) (Memref.whole cc0_stg2_0 : Memref sig .tc .vmem S8x512x1024 .bf16) s) fullShare (rowOf (n := 8) (A := 512) (B := 1024) (wstg m c) s)))) (atBufs (k0_t2_body (F := F)) c (v2 c) v233 (v255 m) v256 (v341 m) v400 v417 v418 w576 k acc) := by
    intro k acc
    have hk : k.val < 8 := lt_of_lt_of_eq k.isLt trips2
    iintro ⟨H0, H1, H2⟩
    ihave H0 := (fam_step (F := F) (fun s : Fin 8 => anyAt (F := F) c (outS s)) (fun s : Fin 8 => owns (c : Thread nD τ) (outS s) fullShare (outv m c s)) ⟨k.val, hk⟩) $$ H0
    icases H0 with ⟨H0, G0⟩
    ihave H1 := (fam_get (F := F) (fun s : Fin 8 => owns (c : Thread nD τ) (strS s) fullShare (slab (strF m c) s)) ⟨k.val, hk⟩) $$ H1
    icases H1 with ⟨H1, G1⟩
    ihave H2 := (fam_get (F := F) (fun s : Fin 8 => owns (c : Thread nD τ) (row3 (n := 8) (A := 512) (B := 1024) (Memref.whole cc0_stg2_0 : Memref sig .tc .vmem S8x512x1024 .bf16) s) fullShare (rowOf (n := 8) (A := 512) (B := 1024) (wstg m c) s)) ⟨k.val, hk⟩) $$ H2
    icases H2 with ⟨H2, G2⟩
    iapply (trip2 m c k ⟨k.val, hk⟩ rfl w576 _) $$ [H0 H1 H2]
    · iframe H0 H1 H2
    iintro ⟨H0, H1, H2⟩
    ihave H0 := G0 $$ H0
    ihave H1 := G1 $$ H1
    ihave H2 := G2 $$ H2
    iframe H0 H1 H2
  iintro ⟨H0, H1, H2⟩ Hk
  iapply (Scf.wp_for_bind _ _ _ _ _ _ _ _ _ (fun k _ => iprop(famAt (fun s : Fin 8 => anyAt (F := F) c (outS s)) (fun s : Fin 8 => owns (c : Thread nD τ) (outS s) fullShare (outv m c s)) k ∗ (bigSep Finset.univ fun s : Fin 8 => owns (c : Thread nD τ) (strS s) fullShare (slab (strF m c) s)) ∗ (bigSep Finset.univ fun s : Fin 8 => owns (c : Thread nD τ) (row3 (n := 8) (A := 512) (B := 1024) (Memref.whole cc0_stg2_0 : Memref sig .tc .vmem S8x512x1024 .bf16) s) fullShare (rowOf (n := 8) (A := 512) (B := 1024) (wstg m c) s)))) hb) $$ [H0 H1 H2]
  · rw [fam_zero]
    iframe H0 H1 H2
  iintro %acc ⟨H0, H1, H2⟩
  iapply Hk
  ihave H0 := (Entails.of_eq (show famAt (fun s : Fin 8 => anyAt (F := F) c (outS s)) (fun s : Fin 8 => owns (c : Thread nD τ) (outS s) fullShare (outv m c s)) k0_t2_loop.trips = (bigSep Finset.univ fun s : Fin 8 => owns (c : Thread nD τ) (outS s) fullShare (outv m c s)) from by rw [trips2]; exact fam_all _ _)) $$ H0
  iframe H0 H1 H2

/-- Every device's results, gathered back. -/
theorem loop3 {α : Type} (Q : α → sProp 𝕄) (kk : Unit → Prog (TpuEff nD τ sig (Elt F) Λ₀ .tc) α) (w576 : BitVec 32) :
    iprop((bigSep Finset.univ fun s : Fin 8 => anyAt (F := F) c (yR s)) ∗ (bigSep Finset.univ fun s : Fin 8 => owns (c : Thread nD τ) (csR s) fullShare (csv m c s)) ∗ (bigSep Finset.univ fun s : Fin 8 => owns (c : Thread nD τ) (outR s) fullShare (rowOf (n := 8) (A := 640) (B := 1024) (outF m c) s)))
      ⊢ iprop((((bigSep Finset.univ fun s : Fin 8 => owns (c : Thread nD τ) (yR s) fullShare (yv m c s)) ∗ (bigSep Finset.univ fun s : Fin 8 => owns (c : Thread nD τ) (csR s) fullShare (csv m c s)) ∗ (bigSep Finset.univ fun s : Fin 8 => owns (c : Thread nD τ) (outR s) fullShare (rowOf (n := 8) (A := 640) (B := 1024) (outF m c) s))) -∗ WP c Q (kk ⟨⟩))
        -∗ WP c Q (Scf.Loop.for k0_t3_loop k0_t3_ok ⟨⟩ (atBufs (k0_t3_body (F := F)) c (v2 c) v233 (v255 m) v256 (v341 m) v400 v417 v418 w576) >>= kk)) := by
  have hb : ∀ (k : Fin k0_t3_loop.trips) (acc : Unit),
      iprop(famAt (fun s : Fin 8 => anyAt (F := F) c (yR s)) (fun s : Fin 8 => owns (c : Thread nD τ) (yR s) fullShare (yv m c s)) k.val ∗ (bigSep Finset.univ fun s : Fin 8 => owns (c : Thread nD τ) (csR s) fullShare (csv m c s)) ∗ (bigSep Finset.univ fun s : Fin 8 => owns (c : Thread nD τ) (outR s) fullShare (rowOf (n := 8) (A := 640) (B := 1024) (outF m c) s)))
        ⊢ WP c (fun _ => iprop(famAt (fun s : Fin 8 => anyAt (F := F) c (yR s)) (fun s : Fin 8 => owns (c : Thread nD τ) (yR s) fullShare (yv m c s)) (k.val + 1) ∗ (bigSep Finset.univ fun s : Fin 8 => owns (c : Thread nD τ) (csR s) fullShare (csv m c s)) ∗ (bigSep Finset.univ fun s : Fin 8 => owns (c : Thread nD τ) (outR s) fullShare (rowOf (n := 8) (A := 640) (B := 1024) (outF m c) s)))) (atBufs (k0_t3_body (F := F)) c (v2 c) v233 (v255 m) v256 (v341 m) v400 v417 v418 w576 k acc) := by
    intro k acc
    have hk : k.val < 8 := lt_of_lt_of_eq k.isLt trips3
    iintro ⟨H0, H1, H2⟩
    ihave H0 := (fam_step (F := F) (fun s : Fin 8 => anyAt (F := F) c (yR s)) (fun s : Fin 8 => owns (c : Thread nD τ) (yR s) fullShare (yv m c s)) ⟨k.val, hk⟩) $$ H0
    icases H0 with ⟨H0, G0⟩
    ihave H1 := (fam_get (F := F) (fun s : Fin 8 => owns (c : Thread nD τ) (csR s) fullShare (csv m c s)) ⟨k.val, hk⟩) $$ H1
    icases H1 with ⟨H1, G1⟩
    ihave H2 := (fam_get (F := F) (fun s : Fin 8 => owns (c : Thread nD τ) (outR s) fullShare (rowOf (n := 8) (A := 640) (B := 1024) (outF m c) s)) ⟨k.val, hk⟩) $$ H2
    icases H2 with ⟨H2, G2⟩
    iapply (trip3 m c k ⟨k.val, hk⟩ rfl w576 _) $$ [H0 H1 H2]
    · iframe H0 H1 H2
    iintro ⟨H0, H1, H2⟩
    ihave H0 := G0 $$ H0
    ihave H1 := G1 $$ H1
    ihave H2 := G2 $$ H2
    iframe H0 H1 H2
  iintro ⟨H0, H1, H2⟩ Hk
  iapply (Scf.wp_for_bind _ _ _ _ _ _ _ _ _ (fun k _ => iprop(famAt (fun s : Fin 8 => anyAt (F := F) c (yR s)) (fun s : Fin 8 => owns (c : Thread nD τ) (yR s) fullShare (yv m c s)) k ∗ (bigSep Finset.univ fun s : Fin 8 => owns (c : Thread nD τ) (csR s) fullShare (csv m c s)) ∗ (bigSep Finset.univ fun s : Fin 8 => owns (c : Thread nD τ) (outR s) fullShare (rowOf (n := 8) (A := 640) (B := 1024) (outF m c) s)))) hb) $$ [H0 H1 H2]
  · rw [fam_zero]
    iframe H0 H1 H2
  iintro %acc ⟨H0, H1, H2⟩
  iapply Hk
  ihave H0 := (Entails.of_eq (show famAt (fun s : Fin 8 => anyAt (F := F) c (yR s)) (fun s : Fin 8 => owns (c : Thread nD τ) (yR s) fullShare (yv m c s)) k0_t3_loop.trips = (bigSep Finset.univ fun s : Fin 8 => owns (c : Thread nD τ) (yR s) fullShare (yv m c s)) from by rw [trips3]; exact fam_all _ _)) $$ H0
  iframe H0 H1 H2

end Cert.MoE

end
-- ==== Proof.Body4.lean ====
/-
# The kernel's last stretch

Sending the results back, waiting for the device's own, and summing, one generated part at a time.
-/
module

public import proofs.«01_k».proof.Proof.Stacks
@[expose] public section

noncomputable section

namespace Cert.MoE

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × CI → ℕ) (c : Dev nD)

theorem retv_back (j : Fin 7) : retv m c (back j c) = yv m (back j c) c := if_neg (rot_ne j.rev c)
theorem retv_self : retv m c c = k0_pay55 (yv m c c) := if_pos rfl
/-- A returned row, waited for. -/
abbrev wT (j : Fin 7) : sProp 𝕄 := iprop(closed c (some (1, true, j)) ∗ owns (c : Thread nD τ) (retR (back j c)) fullShare (retv m c (back j c)))
theorem wR_wT (j : Fin 7) : wR m c 1 j ⊢ wT m c j := by
  unfold wR wT
  rw [retv_back]
  exact BI.Entails.refl _
theorem off17 (j : Fin 7) : k0_off17 c (BitVec.ofNat 32 (1 + j.val)) = ro3 (back j c).val := by
  rw [k0_off17_eq]; revert j c; decide
theorem off15 (j : Fin 7) : k0_off15 c (BitVec.ofNat 32 (1 + j.val)) = ro3 (rot j c).val := by
  rw [k0_off15_eq]; revert j c; decide

/-- Three results, sent back. -/
theorem part28 (Kt : (Σ' (v713 : BitVec 32) (v723 : BitVec 32), BitVec 32) → sProp 𝕄) (w703 w1 : BitVec 32) :
    iprop(ctx m K ∗ owe (F := F) c 22 ∗ p2T m c 1 ∗ p2T m c 2 ∗ p2T m c 3)
      ⊢ iprop(((owe (F := F) c 25 ∗ pend (F := F) c (some (1, false, 1)) ∗ pend (F := F) c (some (1, false, 2)) ∗ pend (F := F) c (some (1, false, 3))) -∗ Kt ⟨pm c 3#32, pm c 4#32, pm c 5#32⟩)
        -∗ WP c Kt (atBufs (k0_part28 (F := F)) c (v2 c) w703 w1)) := by
  rw [k0_part28_eq_skeleton]; unfold atBufs k0_part28_skel
  simp only [semSignalWord, semWaitWord, Prog.lift, Prog.bind_op, Prog.bind_ret, Prog.pure_eq_ret, wp_deviceId]
  unfold pm p2T
  iintro ⟨#Hc, Ho, ⟨Ht1, Hx1, Hn1⟩, ⟨Ht2, Hx2, Hn2⟩, ⟨Ht3, Hx3, Hn3⟩⟩ Hk
  iapply (xfer_p2 m K c 1 _ (by revert c; decide) (off15 c 1) (k0_off14_eq c) rfl rfl 22 (by decide)) $$ [Ho Ht1 Hx1 Hn1]
  · iframe Hc Ho Ht1 Hx1 Hn1
  iintro ⟨Ho, Hp1⟩
  iapply (xfer_p2 m K c 2 _ (by revert c; decide) (off15 c 2) (k0_off14_eq c) rfl rfl 23 (by decide)) $$ [Ho Ht2 Hx2 Hn2]
  · iframe Hc Ho Ht2 Hx2 Hn2
  iintro ⟨Ho, Hp2⟩
  iapply (xfer_p2 m K c 3 _ (by revert c; decide) (off15 c 3) (k0_off14_eq c) rfl rfl 24 (by decide)) $$ [Ho Ht3 Hx3 Hn3]
  · iframe Hc Ho Ht3 Hx3 Hn3
  iintro ⟨Ho, Hp3⟩
  iapply (wp_done c)
  iapply Hk
  iframe Ho Hp1 Hp2 Hp3

/-- The last three results, sent back. -/
theorem part29 (Kt : (Σ' (v743 : BitVec 32), BitVec 32) → sProp 𝕄) (w733 : BitVec 32) :
    iprop(ctx m K ∗ owe (F := F) c 25 ∗ p2T m c 4 ∗ p2T m c 5 ∗ p2T m c 6)
      ⊢ iprop(((owe (F := F) c 28 ∗ pend (F := F) c (some (1, false, 4)) ∗ pend (F := F) c (some (1, false, 5)) ∗ pend (F := F) c (some (1, false, 6))) -∗ Kt ⟨pm c 6#32, pm c 7#32⟩)
        -∗ WP c Kt (atBufs (k0_part29 (F := F)) c (v2 c) w733)) := by
  rw [k0_part29_eq_skeleton]; unfold atBufs k0_part29_skel
  simp only [semSignalWord, semWaitWord, Prog.lift, Prog.bind_op, Prog.bind_ret, Prog.pure_eq_ret, wp_deviceId]
  unfold pm p2T
  iintro ⟨#Hc, Ho, ⟨Ht4, Hx4, Hn4⟩, ⟨Ht5, Hx5, Hn5⟩, ⟨Ht6, Hx6, Hn6⟩⟩ Hk
  iapply (xfer_p2 m K c 4 _ (by revert c; decide) (off15 c 4) (k0_off14_eq c) rfl rfl 25 (by decide)) $$ [Ho Ht4 Hx4 Hn4]
  · iframe Hc Ho Ht4 Hx4 Hn4
  iintro ⟨Ho, Hp4⟩
  iapply (xfer_p2 m K c 5 _ (by revert c; decide) (off15 c 5) (k0_off14_eq c) rfl rfl 26 (by decide)) $$ [Ho Ht5 Hx5 Hn5]
  · iframe Hc Ho Ht5 Hx5 Hn5
  iintro ⟨Ho, Hp5⟩
  iapply (xfer_p2 m K c 6 _ (by revert c; decide) (off15 c 6) (k0_off14_eq c) rfl rfl 27 (by decide)) $$ [Ho Ht6 Hx6 Hn6]
  · iframe Hc Ho Ht6 Hx6 Hn6
  iintro ⟨Ho, Hp6⟩
  iapply (wp_done c)
  iapply Hk
  iframe Ho Hp4 Hp5 Hp6

/-- The device's own result, kept, and the first sum. -/
theorem part30 (Kt : (PUnit) → sProp 𝕄) (w693 : BitVec 32) :
    iprop(ctx m K ∗ owe (F := F) c 28 ∗ bsB m c ∗ anyAt (F := F) c (Memref.whole cc0_stg3_0 : Memref sig .tc .vmem S2048x1024 .bf16) ∗ owns (c : Thread nD τ) (yR c) fullShare (yv m c c) ∗ anyAt (F := F) c (retR c) ∗ pend (F := F) c (some (1, false, 0)))
      ⊢ iprop(((owe (F := F) c 28 ∗ bsB m c ∗ stO c (o0 m c) ∗ owns (c : Thread nD τ) (yR c) fullShare (yv m c c) ∗ owns (c : Thread nD τ) (retR c) fullShare (retv m c c) ∗ wS m c 1 0) -∗ Kt ⟨⟩)
        -∗ WP c Kt (atBufs (k0_part30 (F := F)) c (v2 c) (v235 m c) w693)) := by
  rw [k0_part30_eq_skeleton]; unfold atBufs k0_part30_skel
  simp only [semSignalWord, semWaitWord, Prog.lift, Prog.bind_op, Prog.bind_ret, Prog.pure_eq_ret, wp_deviceId]
  iintro ⟨#Hc, Ho, HB, HO, HY, HR, Hp⟩ Hk
  iapply (wp_ldr c (k0_off16_eq c)) $$ HY
  iintro HY
  ihave HR := (any_elim c _) $$ HR
  icases HR with ⟨%XHR, HR⟩
  iapply (wp_ldr c (k0_off16_eq c)) $$ HR
  iintro HR
  ihave HR := (any_intro c _ _) $$ HR
  iapply (wp_strv c (k0_off16_eq c) (retv m c c) (by rw [retv_self])) $$ HR
  iintro HR
  iapply (wp_ldr c (k0_off16_eq c)) $$ HR
  iintro HR
  iapply (wp_ldw c (by decide)) $$ HB
  iintro HB
  ihave HO := (any_elim c _) $$ HO
  icases HO with ⟨%X, HO⟩
  iapply (wp_ldw c (by decide)) $$ HO
  iintro HO
  ihave HO := (any_intro c _ _) $$ HO
  iapply (wp_stwv c (by decide) (o0 m c) (by rfl)) $$ HO
  iintro HO
  iapply (wt_s m K c 1 0 (by rfl) (by rfl) 28 (by decide)) $$ [Ho Hp]
  · iframe Hc Ho Hp
  iintro ⟨Ho, Hp⟩
  iapply (wp_done c)
  iapply Hk
  iframe Ho HB HO HY HR Hp

/-- The first peer's results, added. -/
theorem part31 (Kt : (PUnit) → sProp 𝕄) (w703 : BitVec 32) :
    iprop(ctx m K ∗ owe (F := F) c 28 ∗ bsB m c ∗ stO c (o0 m c) ∗ pend (F := F) c (some (1, true, 0)) ∗ pend (F := F) c (some (1, false, 1)))
      ⊢ iprop(((owe (F := F) c 28 ∗ bsB m c ∗ stO c (o1 m c) ∗ wT m c 0 ∗ wS m c 1 1) -∗ Kt ⟨⟩)
        -∗ WP c Kt (atBufs (k0_part31 (F := F)) c (v2 c) (v235 m c) w703)) := by
  rw [k0_part31_eq_skeleton]; unfold atBufs k0_part31_skel
  simp only [semSignalWord, semWaitWord, Prog.lift, Prog.bind_op, Prog.bind_ret, Prog.pure_eq_ret, wp_deviceId]
  iintro ⟨#Hc, Ho, HB, HO, Hr0, Hs1⟩ Hk
  iapply (wt_r m K c 1 0 (by rfl) (by rfl) 28 (by decide)) $$ [Ho Hr0]
  · iframe Hc Ho Hr0
  iintro ⟨Ho, Hr0⟩
  ihave Hr0 := (wR_wT m c 0) $$ Hr0
  unfold wT
  icases Hr0 with ⟨Hz, Hr0⟩
  iapply (wp_ldr c (off17 c 0)) $$ Hr0
  iintro Hr0
  iapply (wp_ldw c (by decide)) $$ HO
  iintro HO
  iapply (wp_ldw c (by decide)) $$ HB
  iintro HB
  iapply (wp_ldw c (by decide)) $$ HO
  iintro HO
  ihave HO := (any_intro c _ _) $$ HO
  iapply (wp_stwv c (by decide) (o1 m c) (by rfl)) $$ HO
  iintro HO
  iapply (wt_s m K c 1 1 (by rfl) (by rfl) 28 (by decide)) $$ [Ho Hs1]
  · iframe Hc Ho Hs1
  iintro ⟨Ho, Hs1⟩
  iapply (wp_done c)
  iapply Hk
  iframe Ho HB HO Hz Hr0 Hs1

/-- The second peer's results, added. -/
theorem part32 (Kt : (PUnit) → sProp 𝕄) (w713 : BitVec 32) :
    iprop(ctx m K ∗ owe (F := F) c 28 ∗ bsB m c ∗ stO c (o1 m c) ∗ pend (F := F) c (some (1, true, 1)) ∗ pend (F := F) c (some (1, false, 2)))
      ⊢ iprop(((owe (F := F) c 28 ∗ bsB m c ∗ stO c (o2 m c) ∗ wT m c 1 ∗ wS m c 1 2) -∗ Kt ⟨⟩)
        -∗ WP c Kt (atBufs (k0_part32 (F := F)) c (v2 c) (v235 m c) w713)) := by
  rw [k0_part32_eq_skeleton]; unfold atBufs k0_part32_skel
  simp only [semSignalWord, semWaitWord, Prog.lift, Prog.bind_op, Prog.bind_ret, Prog.pure_eq_ret, wp_deviceId]
  iintro ⟨#Hc, Ho, HB, HO, Hr1, Hs2⟩ Hk
  iapply (wt_r m K c 1 1 (by rfl) (by rfl) 28 (by decide)) $$ [Ho Hr1]
  · iframe Hc Ho Hr1
  iintro ⟨Ho, Hr1⟩
  ihave Hr1 := (wR_wT m c 1) $$ Hr1
  unfold wT
  icases Hr1 with ⟨Hz, Hr1⟩
  iapply (wp_ldr c (off17 c 1)) $$ Hr1
  iintro Hr1
  iapply (wp_ldw c (by decide)) $$ HO
  iintro HO
  iapply (wp_ldw c (by decide)) $$ HB
  iintro HB
  iapply (wp_ldw c (by decide)) $$ HO
  iintro HO
  ihave HO := (any_intro c _ _) $$ HO
  iapply (wp_stwv c (by decide) (o2 m c) (by rfl)) $$ HO
  iintro HO
  iapply (wt_s m K c 1 2 (by rfl) (by rfl) 28 (by decide)) $$ [Ho Hs2]
  · iframe Hc Ho Hs2
  iintro ⟨Ho, Hs2⟩
  iapply (wp_done c)
  iapply Hk
  iframe Ho HB HO Hz Hr1 Hs2

/-- The third peer's results, added. -/
theorem part33 (Kt : (BitVec 32) → sProp 𝕄) (w723 : BitVec 32) :
    iprop(ctx m K ∗ owe (F := F) c 28 ∗ bsB m c ∗ stO c (o2 m c) ∗ pend (F := F) c (some (1, true, 2)) ∗ pend (F := F) c (some (1, false, 3)))
      ⊢ iprop(((owe (F := F) c 28 ∗ bsB m c ∗ stO c (o3 m c) ∗ wT m c 2 ∗ wS m c 1 3) -∗ Kt (Scalar.muli w723 1#32))
        -∗ WP c Kt (atBufs (k0_part33 (F := F)) c (v2 c) (v235 m c) w723)) := by
  rw [k0_part33_eq_skeleton]; unfold atBufs k0_part33_skel
  simp only [semSignalWord, semWaitWord, Prog.lift, Prog.bind_op, Prog.bind_ret, Prog.pure_eq_ret, wp_deviceId]
  iintro ⟨#Hc, Ho, HB, HO, Hr2, Hs3⟩ Hk
  iapply (wt_r m K c 1 2 (by rfl) (by rfl) 28 (by decide)) $$ [Ho Hr2]
  · iframe Hc Ho Hr2
  iintro ⟨Ho, Hr2⟩
  ihave Hr2 := (wR_wT m c 2) $$ Hr2
  unfold wT
  icases Hr2 with ⟨Hz, Hr2⟩
  iapply (wp_ldr c (off17 c 2)) $$ Hr2
  iintro Hr2
  iapply (wp_ldw c (by decide)) $$ HO
  iintro HO
  iapply (wp_ldw c (by decide)) $$ HB
  iintro HB
  iapply (wp_ldw c (by decide)) $$ HO
  iintro HO
  ihave HO := (any_intro c _ _) $$ HO
  iapply (wp_stwv c (by decide) (o3 m c) (by rfl)) $$ HO
  iintro HO
  iapply (wt_s m K c 1 3 (by rfl) (by rfl) 28 (by decide)) $$ [Ho Hs3]
  · iframe Hc Ho Hs3
  iintro ⟨Ho, Hs3⟩
  iapply (wp_done c)
  iapply Hk
  iframe Ho HB HO Hz Hr2 Hs3

/-- The fourth peer's results, added. -/
theorem part34 (Kt : (PUnit) → sProp 𝕄) (w880 : BitVec 32) :
    iprop(ctx m K ∗ owe (F := F) c 28 ∗ bsB m c ∗ stO c (o3 m c) ∗ pend (F := F) c (some (1, true, 3)) ∗ pend (F := F) c (some (1, false, 4)))
      ⊢ iprop(((owe (F := F) c 28 ∗ bsB m c ∗ stO c (o4 m c) ∗ wT m c 3 ∗ wS m c 1 4) -∗ Kt ⟨⟩)
        -∗ WP c Kt (atBufs (k0_part34 (F := F)) c (v2 c) (v235 m c) w880)) := by
  rw [k0_part34_eq_skeleton]; unfold atBufs k0_part34_skel
  simp only [semSignalWord, semWaitWord, Prog.lift, Prog.bind_op, Prog.bind_ret, Prog.pure_eq_ret, wp_deviceId]
  iintro ⟨#Hc, Ho, HB, HO, Hr3, Hs4⟩ Hk
  iapply (wt_r m K c 1 3 (by rfl) (by rfl) 28 (by decide)) $$ [Ho Hr3]
  · iframe Hc Ho Hr3
  iintro ⟨Ho, Hr3⟩
  ihave Hr3 := (wR_wT m c 3) $$ Hr3
  unfold wT
  icases Hr3 with ⟨Hz, Hr3⟩
  iapply (wp_ldr c (off17 c 3)) $$ Hr3
  iintro Hr3
  iapply (wp_ldw c (by decide)) $$ HO
  iintro HO
  iapply (wp_ldw c (by decide)) $$ HB
  iintro HB
  iapply (wp_ldw c (by decide)) $$ HO
  iintro HO
  ihave HO := (any_intro c _ _) $$ HO
  iapply (wp_stwv c (by decide) (o4 m c) (by rfl)) $$ HO
  iintro HO
  iapply (wt_s m K c 1 4 (by rfl) (by rfl) 28 (by decide)) $$ [Ho Hs4]
  · iframe Hc Ho Hs4
  iintro ⟨Ho, Hs4⟩
  iapply (wp_done c)
  iapply Hk
  iframe Ho HB HO Hz Hr3 Hs4

/-- The fifth peer's results, added. -/
theorem part35 (Kt : (PUnit) → sProp 𝕄) (w733 : BitVec 32) :
    iprop(ctx m K ∗ owe (F := F) c 28 ∗ bsB m c ∗ stO c (o4 m c) ∗ pend (F := F) c (some (1, true, 4)))
      ⊢ iprop(((owe (F := F) c 28 ∗ bsB m c ∗ stO c (o5 m c) ∗ wT m c 4) -∗ Kt ⟨⟩)
        -∗ WP c Kt (atBufs (k0_part35 (F := F)) c (v2 c) (v235 m c) w733)) := by
  rw [k0_part35_eq_skeleton]; unfold atBufs k0_part35_skel
  simp only [semSignalWord, semWaitWord, Prog.lift, Prog.bind_op, Prog.bind_ret, Prog.pure_eq_ret, wp_deviceId]
  iintro ⟨#Hc, Ho, HB, HO, Hr4⟩ Hk
  iapply (wt_r m K c 1 4 (by rfl) (by rfl) 28 (by decide)) $$ [Ho Hr4]
  · iframe Hc Ho Hr4
  iintro ⟨Ho, Hr4⟩
  ihave Hr4 := (wR_wT m c 4) $$ Hr4
  unfold wT
  icases Hr4 with ⟨Hz, Hr4⟩
  iapply (wp_ldr c (off17 c 4)) $$ Hr4
  iintro Hr4
  iapply (wp_ldw c (by decide)) $$ HO
  iintro HO
  iapply (wp_ldw c (by decide)) $$ HB
  iintro HB
  iapply (wp_ldw c (by decide)) $$ HO
  iintro HO
  ihave HO := (any_intro c _ _) $$ HO
  iapply (wp_stwv c (by decide) (o5 m c) (by rfl)) $$ HO
  iintro HO
  iapply (wp_done c)
  iapply Hk
  iframe Ho HB HO Hz Hr4

/-- The sixth peer's results, added. -/
theorem part36 (Kt : (PUnit) → sProp 𝕄) (w743 : BitVec 32) :
    iprop(ctx m K ∗ owe (F := F) c 28 ∗ bsB m c ∗ stO c (o5 m c) ∗ pend (F := F) c (some (1, false, 5)) ∗ pend (F := F) c (some (1, true, 5)))
      ⊢ iprop(((owe (F := F) c 28 ∗ bsB m c ∗ stO c (o6 m c) ∗ wS m c 1 5 ∗ wT m c 5) -∗ Kt ⟨⟩)
        -∗ WP c Kt (atBufs (k0_part36 (F := F)) c (v2 c) (v235 m c) w743)) := by
  rw [k0_part36_eq_skeleton]; unfold atBufs k0_part36_skel
  simp only [semSignalWord, semWaitWord, Prog.lift, Prog.bind_op, Prog.bind_ret, Prog.pure_eq_ret, wp_deviceId]
  iintro ⟨#Hc, Ho, HB, HO, Hs5, Hr5⟩ Hk
  iapply (wt_s m K c 1 5 (by rfl) (by rfl) 28 (by decide)) $$ [Ho Hs5]
  · iframe Hc Ho Hs5
  iintro ⟨Ho, Hs5⟩
  iapply (wt_r m K c 1 5 (by rfl) (by rfl) 28 (by decide)) $$ [Ho Hr5]
  · iframe Hc Ho Hr5
  iintro ⟨Ho, Hr5⟩
  ihave Hr5 := (wR_wT m c 5) $$ Hr5
  unfold wT
  icases Hr5 with ⟨Hz, Hr5⟩
  iapply (wp_ldr c (off17 c 5)) $$ Hr5
  iintro Hr5
  iapply (wp_ldw c (by decide)) $$ HO
  iintro HO
  iapply (wp_ldw c (by decide)) $$ HB
  iintro HB
  iapply (wp_ldw c (by decide)) $$ HO
  iintro HO
  ihave HO := (any_intro c _ _) $$ HO
  iapply (wp_stwv c (by decide) (o6 m c) (by rfl)) $$ HO
  iintro HO
  iapply (wp_done c)
  iapply Hk
  iframe Ho HB HO Hz Hs5 Hr5

end Cert.MoE

end
-- ==== Proof.Body5.lean ====
/-
# The middle of the kernel

The rows handed over at the barrier, and the three loops with the first result sent back.
-/
module

public import proofs.«01_k».proof.Proof.Body3
public import proofs.«01_k».proof.Proof.Body4
@[expose] public section

noncomputable section

namespace Cert.MoE

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × CI → ℕ) (c : Dev nD)

theorem stack3_rowOf {α : Type} {n A B : ℕ} (f : (⟨3, ![n, A, B]⟩ : Shape).Idx → α) : stack3 (n := n) (A := A) (B := B) (rowOf f) = f := by
  funext i
  refine congrArg f (funext fun a => ?_)
  match a with
  | 0 => rfl
  | 1 => rfl
  | 2 => rfl

/-- A family over the mesh, from one device on. -/
theorem ring_split (Φ : Dev nD → sProp 𝕄) : bigSep Finset.univ Φ = iprop(Φ c ∗ bigSep Finset.univ fun j : Fin 7 => Φ (rot j c)) :=
  (around c Φ).trans (congrArg (fun X => iprop(Φ c ∗ X)) (seven (fun j : Fin 7 => Φ (rot j c))).symm)
theorem ring_splitB (Φ : Dev nD → sProp 𝕄) : bigSep Finset.univ Φ = iprop(Φ c ∗ bigSep Finset.univ fun j : Fin 7 => Φ (back j c)) :=
  (aroundB c Φ).trans (congrArg (fun X => iprop(Φ c ∗ X)) (seven (fun j : Fin 7 => Φ (back j c))).symm)

/-- The rows handed over at the barrier, and the device's own. -/
theorem prep : iprop((bigSep Finset.univ fun j : Fin 7 => stok (F := F) j c) ∗ anyAt (F := F) c (Memref.whole cc0_scratch8 : Memref sig .tc .vmem S8x64 .i32) ∗ anyAt (F := F) c (Memref.whole cc0_scratch2 : Memref sig .tc .vmem S8x384x512 .bf16) ∗ anyAt (F := F) c (Memref.whole cc0_scratch6 : Memref sig .tc .vmem S8x384x1024 .bf16))
    ⊢ iprop((bigSep Finset.univ fun j : Fin 7 => sigR (F := F) c j) ∗ anyAt (F := F) c (cntR c) ∗ anyAt (F := F) c (inR c) ∗ anyAt (F := F) c (retR c)) := by
  have h : ∀ j : Fin 7, iprop(anyAt (F := F) c (cntR (rot j c)) ∗ anyAt (F := F) c (inR (rot j c)) ∗ anyAt (F := F) c (retR (rot j c))) ⊢ barPay (F := F) (rot j c) j.rev := by
    intro j
    unfold barPay
    rw [show rot j.rev (rot j c) = c from back_rot j c]
  iintro ⟨Hs, H8, H2, H6⟩
  ihave H8 := (rows2_any (n := 8) (A := 64) c _) $$ H8
  ihave H2 := (rows3_any (n := 8) (A := 384) (B := 512) c _) $$ H2
  ihave H6 := (rows3_any (n := 8) (A := 384) (B := 1024) c _) $$ H6
  ihave H8 := (Entails.of_eq (ring_split c (fun b : Dev nD => anyAt (F := F) c (cntR b)))) $$ H8
  ihave H2 := (Entails.of_eq (ring_split c (fun b : Dev nD => anyAt (F := F) c (inR b)))) $$ H2
  ihave H6 := (Entails.of_eq (ring_split c (fun b : Dev nD => anyAt (F := F) c (retR b)))) $$ H6
  icases H8 with ⟨G8, H8⟩
  icases H2 with ⟨G2, H2⟩
  icases H6 with ⟨G6, H6⟩
  ihave H := (Entails.of_eq (bigSep_sep' Finset.univ (fun j : Fin 7 => anyAt (F := F) c (inR (rot j c))) (fun j => anyAt (F := F) c (retR (rot j c)))).symm) $$ [H2 H6]
  · iframe H2 H6
  ihave H := (Entails.of_eq (bigSep_sep' Finset.univ (fun j : Fin 7 => anyAt (F := F) c (cntR (rot j c))) (fun j => iprop(anyAt (F := F) c (inR (rot j c)) ∗ anyAt (F := F) c (retR (rot j c))))).symm) $$ [H8 H]
  · iframe H8 H
  ihave H := (show (bigSep Finset.univ fun j : Fin 7 => iprop(anyAt (F := F) c (cntR (rot j c)) ∗ anyAt (F := F) c (inR (rot j c)) ∗ anyAt (F := F) c (retR (rot j c)))) ⊢ bigSep Finset.univ fun j : Fin 7 => barPay (F := F) (rot j c) j.rev from BI.bigSep_mono fun j _ => h j) $$ H
  ihave H := (Entails.of_eq (bigSep_sep' Finset.univ (fun j : Fin 7 => stok (F := F) j c) (fun j => barPay (F := F) (rot j c) j.rev)).symm) $$ [Hs H]
  · iframe Hs H
  iframe G8 G2 G6
  unfold sigR
  iexact H

/-- The three loops, one after another. -/
theorem loops {α : Type} (Q : α → sProp 𝕄) (kk : Unit → Prog (TpuEff nD τ sig (Elt F) Λ₀ .tc) α) (w576 : BitVec 32) :
    iprop((bigSep Finset.univ fun s : Fin 8 => owns (c : Thread nD τ) (inR s) fullShare (inv m c s)) ∗ anyAt (F := F) c (Memref.whole cc0_scratch7 : Memref sig .tc .vmem S8x384x640 .bf16) ∗ anyAt (F := F) c (Memref.whole cc0_scratch3 : Memref sig .tc .vmem S8x640x512 .bf16) ∗ anyAt (F := F) c (Memref.whole cc0_scratch4 : Memref sig .tc .vmem S8x640x1024 .bf16) ∗ anyAt (F := F) c (Memref.whole cc0_scratch5 : Memref sig .tc .vmem S8x384x1024 .bf16) ∗ stW m c)
      ⊢ iprop((((bigSep Finset.univ fun s : Fin 8 => owns (c : Thread nD τ) (inR s) fullShare (inv m c s)) ∗ anyAt (F := F) c (Memref.whole cc0_scratch7 : Memref sig .tc .vmem S8x384x640 .bf16) ∗ anyAt (F := F) c (Memref.whole cc0_scratch3 : Memref sig .tc .vmem S8x640x512 .bf16) ∗ anyAt (F := F) c (Memref.whole cc0_scratch4 : Memref sig .tc .vmem S8x640x1024 .bf16) ∗ (bigSep Finset.univ fun s : Fin 8 => owns (c : Thread nD τ) (yR s) fullShare (yv m c s)) ∗ stW m c) -∗ WP c Q (kk ⟨⟩))
        -∗ WP c Q (Scf.Loop.for k0_t1_loop k0_t1_ok ⟨⟩ (atBufs (k0_t1_body (F := F)) c (v2 c) v233 (v255 m) v256 (v341 m) v400 v417 v418 w576) >>= fun _ => Scf.Loop.for k0_t2_loop k0_t2_ok ⟨⟩ (atBufs (k0_t2_body (F := F)) c (v2 c) v233 (v255 m) v256 (v341 m) v400 v417 v418 w576) >>= fun _ => Scf.Loop.for k0_t3_loop k0_t3_ok ⟨⟩ (atBufs (k0_t3_body (F := F)) c (v2 c) v233 (v255 m) v256 (v341 m) v400 v417 v418 w576) >>= kk)) := by
  iintro ⟨Hi, H7, H3, H4, H5, HW⟩ Hk
  ihave H7 := (rows3_any (n := 8) (A := 384) (B := 640) c _) $$ H7
  ihave H3 := (rows3_any (n := 8) (A := 640) (B := 512) c _) $$ H3
  ihave H4 := (slabs_any (B := 1024) c _) $$ H4
  ihave H5 := (rows3_any (n := 8) (A := 384) (B := 1024) c _) $$ H5
  iapply (loop1 m c _ _ w576) $$ [H7 H3 Hi]
  · iframe H7 H3 Hi
  iintro ⟨H7, H3, Hi⟩
  ihave H3 := (rows3_join (n := 8) (A := 640) (B := 512) c (Memref.whole cc0_scratch3 : Memref sig .tc .vmem S8x640x512 .bf16) (strv m c)) $$ H3
  ihave H3 := (Entails.of_eq (show owns (c : Thread nD τ) (Memref.whole cc0_scratch3 : Memref sig .tc .vmem S8x640x512 .bf16) fullShare (stack3 (strv m c)) = owns (c : Thread nD τ) (Memref.whole cc0_scratch3 : Memref sig .tc .vmem S8x640x512 .bf16) fullShare (strF m c) from rfl)) $$ H3
  ihave H3 := (slabs_split (B := 512) c (Memref.whole cc0_scratch3 : Memref sig .tc .vmem S8x640x512 .bf16) (strF m c)) $$ H3
  ihave HW := (rows3_split (n := 8) (A := 512) (B := 1024) c (Memref.whole cc0_stg2_0 : Memref sig .tc .vmem S8x512x1024 .bf16) (wstg m c)) $$ HW
  iapply (loop2 m c _ _ w576) $$ [H4 H3 HW]
  · iframe H4 H3 HW
  iintro ⟨H4, H3, HW⟩
  ihave H3 := (slabs_join (B := 512) c (Memref.whole cc0_scratch3 : Memref sig .tc .vmem S8x640x512 .bf16) _) $$ H3
  ihave H3 := (any_intro c _ _) $$ H3
  ihave HW := (rows3_join (n := 8) (A := 512) (B := 1024) c (Memref.whole cc0_stg2_0 : Memref sig .tc .vmem S8x512x1024 .bf16) _) $$ HW
  ihave HW := (Entails.of_eq (congrArg (fun X => owns (c : Thread nD τ) (Memref.whole cc0_stg2_0 : Memref sig .tc .vmem S8x512x1024 .bf16) fullShare X) (stack3_rowOf (n := 8) (A := 512) (B := 1024) (wstg m c)))) $$ HW
  ihave H4 := (slabs_join (B := 1024) c (Memref.whole cc0_scratch4 : Memref sig .tc .vmem S8x640x1024 .bf16) (outv m c)) $$ H4
  ihave H4 := (Entails.of_eq (show owns (c : Thread nD τ) (Memref.whole cc0_scratch4 : Memref sig .tc .vmem S8x640x1024 .bf16) fullShare (unslab (outv m c)) = owns (c : Thread nD τ) (Memref.whole cc0_scratch4 : Memref sig .tc .vmem S8x640x1024 .bf16) fullShare (outF m c) from rfl)) $$ H4
  ihave H4 := (rows3_split (n := 8) (A := 640) (B := 1024) c (Memref.whole cc0_scratch4 : Memref sig .tc .vmem S8x640x1024 .bf16) (outF m c)) $$ H4
  iapply (loop3 m c _ _ w576) $$ [H5 H7 H4]
  · iframe H5 H7 H4
  iintro ⟨H5, H7, H4⟩
  ihave H4 := (rows3_join (n := 8) (A := 640) (B := 1024) c (Memref.whole cc0_scratch4 : Memref sig .tc .vmem S8x640x1024 .bf16) _) $$ H4
  ihave H4 := (any_intro c _ _) $$ H4
  ihave H7 := (rows3_join (n := 8) (A := 384) (B := 640) c (Memref.whole cc0_scratch7 : Memref sig .tc .vmem S8x384x640 .bf16) _) $$ H7
  ihave H7 := (any_intro c _ _) $$ H7
  iapply Hk
  iframe Hi H7 H3 H4 H5 HW

/-- The last wait for tokens, the three loops and the first result sent back. -/
theorem part27 (Kt : (Σ' (v693 : BitVec 32) (v703 : BitVec 32), BitVec 32) → sProp 𝕄) (w576 : BitVec 32) :
    iprop(ctx m K ∗ owe (F := F) c 21 ∗ pend (F := F) c (some (0, true, 6)) ∗ owns (c : Thread nD τ) (inR c) fullShare (inv m c c) ∗ (recvPay m 0 0 c ∗ recvPay m 0 1 c ∗ recvPay m 0 2 c ∗ recvPay m 0 3 c ∗ recvPay m 0 4 c ∗ recvPay m 0 5 c) ∗ anyAt (F := F) c (Memref.whole cc0_scratch7 : Memref sig .tc .vmem S8x384x640 .bf16) ∗ anyAt (F := F) c (Memref.whole cc0_scratch3 : Memref sig .tc .vmem S8x640x512 .bf16) ∗ anyAt (F := F) c (Memref.whole cc0_scratch4 : Memref sig .tc .vmem S8x640x1024 .bf16) ∗ anyAt (F := F) c (Memref.whole cc0_scratch5 : Memref sig .tc .vmem S8x384x1024 .bf16) ∗ stW m c ∗ (bigSep Finset.univ fun j : Fin 7 => anyAt (F := F) (rot j c) (retR c)) ∗ (bigSep Finset.univ fun j : Fin 7 => tok (F := F) 1 j c))
      ⊢ iprop(((owe (F := F) c 22 ∗ closed (F := F) c (some (0, true, 6)) ∗ anyAt (F := F) c (Memref.whole cc0_scratch2 : Memref sig .tc .vmem S8x384x512 .bf16) ∗ anyAt (F := F) c (Memref.whole cc0_scratch7 : Memref sig .tc .vmem S8x384x640 .bf16) ∗ anyAt (F := F) c (Memref.whole cc0_scratch3 : Memref sig .tc .vmem S8x640x512 .bf16) ∗ anyAt (F := F) c (Memref.whole cc0_scratch4 : Memref sig .tc .vmem S8x640x1024 .bf16) ∗ stW m c ∗ owns (c : Thread nD τ) (yR c) fullShare (yv m c c) ∗ (p2T m c 1 ∗ p2T m c 2 ∗ p2T m c 3 ∗ p2T m c 4 ∗ p2T m c 5 ∗ p2T m c 6) ∗ pend (F := F) c (some (1, false, 0))) -∗ Kt ⟨pm c 1#32, pm c 2#32, 1#32⟩)
        -∗ WP c Kt (atBufs (k0_part27 (F := F)) c (v2 c) v233 (v255 m) v256 (v341 m) v400 v417 v418 w576)) := by
  rw [k0_part27_eq_skeleton]; unfold atBufs k0_part27_skel
  simp only [semSignalWord, semWaitWord, Prog.lift, Prog.bind_op, Prog.bind_ret, Prog.pure_eq_ret, wp_deviceId]
  unfold pm
  iintro ⟨#Hc, Ho, Hp, Hi, ⟨Hr0, Hr1, Hr2, Hr3, Hr4, Hr5⟩, H7, H3, H4, H5, HW, Hre, Htk⟩ Hk
  iapply (wt_r m K c 0 6 (by rfl) (by rfl) 21 (by decide)) $$ [Ho Hp]
  · iframe Hc Ho Hp
  iintro ⟨Ho, Hp⟩
  unfold wR
  icases Hp with ⟨Hz, Hr6⟩
  ihave Hi := (in_join m c) $$ [Hi Hr0 Hr1 Hr2 Hr3 Hr4 Hr5 Hr6]
  · rw [seven]
    iframe Hi Hr0 Hr1 Hr2 Hr3 Hr4 Hr5 Hr6
  iapply (loops m c _ _ w576) $$ [Hi H7 H3 H4 H5 HW]
  · iframe Hi H7 H3 H4 H5 HW
  iintro ⟨Hi, H7, H3, H4, H5, HW⟩
  ihave Hi := (rows3_join (n := 8) (A := 384) (B := 512) c (Memref.whole cc0_scratch2 : Memref sig .tc .vmem S8x384x512 .bf16) (inv m c)) $$ Hi
  ihave Hi := (any_intro c _ _) $$ Hi
  ihave H5 := (Entails.of_eq (ring_split c (fun b : Dev nD => owns (c : Thread nD τ) (yR b) fullShare (yv m c b)))) $$ H5
  icases H5 with ⟨HY, H5⟩
  ihave H5 := (Entails.of_eq (bigSep_sep' Finset.univ (fun j : Fin 7 => owns (c : Thread nD τ) (yR (rot j c)) fullShare (yv m c (rot j c))) (fun j => anyAt (F := F) (rot j c) (retR c))).symm) $$ [H5 Hre]
  · iframe H5 Hre
  ihave H5 := (Entails.of_eq (bigSep_sep' Finset.univ (fun j : Fin 7 => tok (F := F) 1 j c) (fun j => iprop(owns (c : Thread nD τ) (yR (rot j c)) fullShare (yv m c (rot j c)) ∗ anyAt (F := F) (rot j c) (retR c)))).symm) $$ [H5 Htk]
  · iframe Htk H5
  ihave H5 := (Entails.of_eq (show (bigSep Finset.univ fun j : Fin 7 => iprop(tok (F := F) 1 j c ∗ owns (c : Thread nD τ) (yR (rot j c)) fullShare (yv m c (rot j c)) ∗ anyAt (F := F) (rot j c) (retR c))) = iprop(p2T m c 0 ∗ (p2T m c 1 ∗ p2T m c 2 ∗ p2T m c 3 ∗ p2T m c 4 ∗ p2T m c 5 ∗ p2T m c 6)) from seven (fun j => p2T m c j))) $$ H5
  icases H5 with ⟨H50, H5⟩
  unfold p2T
  icases H50 with ⟨Ht0, Hx0, Hn0⟩
  iapply (xfer_p2 m K c 0 _ (by revert c; decide) (off15 c 0) (k0_off14_eq c) rfl rfl 21 (by decide)) $$ [Ho Ht0 Hx0 Hn0]
  · iframe Hc Ho Ht0 Hx0 Hn0
  iintro ⟨Ho, Hp0⟩
  iapply (wp_done c)
  iapply Hk
  iframe Ho Hz Hi H7 H3 H4 HW HY H5 Hp0

end Cert.MoE

end
-- ==== Proof.Body6.lean ====
/-
# The whole body

The generated parts in program order, from what a device starts with to what it ends with.
-/
module

public import proofs.«01_k».proof.Proof.Body1
public import proofs.«01_k».proof.Proof.Body2
public import proofs.«01_k».proof.Proof.Body5
@[expose] public section

noncomputable section

namespace Cert.MoE

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × CI → ℕ) (c : Dev nD)

/-- What a device's run starts from. -/
def bodyIn : sProp 𝕄 := iprop(owe (F := F) c 0 ∗ ((bigSep Finset.univ fun j : Fin 7 => stok (F := F) j c) ∗ (bigSep Finset.univ fun j : Fin 7 => tok (F := F) 0 j c) ∗ (bigSep Finset.univ fun j : Fin 7 => tok (F := F) 1 j c) ∗ (bigSep Finset.univ fun j : Fin 7 => tok (F := F) 2 j c))
  ∗ (pend (F := F) c none ∗ (bigSep Finset.univ fun j : Fin 7 => pend (F := F) c (some (0, true, j))) ∗ (bigSep Finset.univ fun j : Fin 7 => pend (F := F) c (some (1, true, j))) ∗ (bigSep Finset.univ fun j : Fin 7 => pend (F := F) c (some (2, true, j)))) ∗ (stX m c ∗ stR m c ∗ stW m c ∗ anyAt (F := F) c (Memref.whole cc0_stg3_0 : Memref sig .tc .vmem S2048x1024 .bf16))
  ∗ (anyAt (F := F) c (Memref.whole cc0_scratch0 : Memref sig .tc .vmem S2048x384 .bf16) ∗ anyAt (F := F) c (Memref.whole cc0_scratch1 : Memref sig .tc .vmem S7x384x512 .bf16) ∗ anyAt (F := F) c (Memref.whole cc0_scratch2 : Memref sig .tc .vmem S8x384x512 .bf16) ∗ anyAt (F := F) c (Memref.whole cc0_scratch3 : Memref sig .tc .vmem S8x640x512 .bf16) ∗ anyAt (F := F) c (Memref.whole cc0_scratch4 : Memref sig .tc .vmem S8x640x1024 .bf16) ∗ anyAt (F := F) c (Memref.whole cc0_scratch5 : Memref sig .tc .vmem S8x384x1024 .bf16) ∗ anyAt (F := F) c (Memref.whole cc0_scratch6 : Memref sig .tc .vmem S8x384x1024 .bf16) ∗ anyAt (F := F) c (Memref.whole cc0_scratch7 : Memref sig .tc .vmem S8x384x640 .bf16) ∗ anyAt (F := F) c (Memref.whole cc0_scratch8 : Memref sig .tc .vmem S8x64 .i32)))

/-- Every counter of the device, at zero again. -/
def allClosed : sProp 𝕄 := iprop(closed (F := F) c none ∗ (bigSep Finset.univ fun j : Fin 7 => closed (F := F) c (some (0, false, j))) ∗ (bigSep Finset.univ fun j : Fin 7 => closed (F := F) c (some (0, true, j))) ∗ (bigSep Finset.univ fun j : Fin 7 => closed (F := F) c (some (1, false, j))) ∗ (bigSep Finset.univ fun j : Fin 7 => closed (F := F) c (some (1, true, j))) ∗ (bigSep Finset.univ fun j : Fin 7 => closed (F := F) c (some (2, false, j))) ∗ (bigSep Finset.univ fun j : Fin 7 => closed (F := F) c (some (2, true, j))))

/-- What its run ends with, before the last sum: the returned rows apart. -/
def bodyMid : sProp 𝕄 := iprop(owe (F := F) c 28 ∗ allClosed (F := F) c ∗ (stX m c ∗ stR m c ∗ stW m c ∗ stO c (o6 m c)) ∗ bsB m c
  ∗ (anyAt (F := F) c (Memref.whole cc0_scratch1 : Memref sig .tc .vmem S7x384x512 .bf16) ∗ anyAt (F := F) c (Memref.whole cc0_scratch2 : Memref sig .tc .vmem S8x384x512 .bf16) ∗ anyAt (F := F) c (Memref.whole cc0_scratch3 : Memref sig .tc .vmem S8x640x512 .bf16) ∗ anyAt (F := F) c (Memref.whole cc0_scratch4 : Memref sig .tc .vmem S8x640x1024 .bf16) ∗ anyAt (F := F) c (Memref.whole cc0_scratch5 : Memref sig .tc .vmem S8x384x1024 .bf16) ∗ anyAt (F := F) c (Memref.whole cc0_scratch7 : Memref sig .tc .vmem S8x384x640 .bf16) ∗ anyAt (F := F) c (Memref.whole cc0_scratch8 : Memref sig .tc .vmem S8x64 .i32)) ∗ owns (c : Thread nD τ) (retR c) fullShare (retv m c c) ∗ (bigSep Finset.univ fun j : Fin 7 => owns (c : Thread nD τ) (retR (back j c)) fullShare (retv m c (back j c))))

/-- What its run ends with. -/
def bodyOut : sProp 𝕄 := iprop(owe (F := F) c 28 ∗ allClosed (F := F) c ∗ (stX m c ∗ stR m c ∗ stW m c ∗ stO c (outAt m c))
  ∗ (anyAt (F := F) c (Memref.whole cc0_scratch0 : Memref sig .tc .vmem S2048x384 .bf16) ∗ anyAt (F := F) c (Memref.whole cc0_scratch1 : Memref sig .tc .vmem S7x384x512 .bf16) ∗ anyAt (F := F) c (Memref.whole cc0_scratch2 : Memref sig .tc .vmem S8x384x512 .bf16) ∗ anyAt (F := F) c (Memref.whole cc0_scratch3 : Memref sig .tc .vmem S8x640x512 .bf16) ∗ anyAt (F := F) c (Memref.whole cc0_scratch4 : Memref sig .tc .vmem S8x640x1024 .bf16) ∗ anyAt (F := F) c (Memref.whole cc0_scratch5 : Memref sig .tc .vmem S8x384x1024 .bf16) ∗ anyAt (F := F) c (Memref.whole cc0_scratch6 : Memref sig .tc .vmem S8x384x1024 .bf16) ∗ anyAt (F := F) c (Memref.whole cc0_scratch7 : Memref sig .tc .vmem S8x384x640 .bf16) ∗ anyAt (F := F) c (Memref.whole cc0_scratch8 : Memref sig .tc .vmem S8x64 .i32)))

theorem xd_back : (bigSep Finset.univ fun j : Fin 7 => sendPay m 0 j c) ⊢ anyAt (F := F) c (Memref.whole cc0_scratch1 : Memref sig .tc .vmem S7x384x512 .bf16) := by
  have h : (bigSep Finset.univ fun j : Fin 7 => sendPay m 0 j c) ⊢ (bigSep Finset.univ fun j : Fin 7 => anyAt (F := F) c (xdR j)) := BI.bigSep_mono fun j _ => any_intro c (xdR j) (xdv m c (some j))
  exact BI.Entails.trans h (rows3_anyJoin (n := 7) (A := 384) (B := 512) c (Memref.whole cc0_scratch1 : Memref sig .tc .vmem S7x384x512 .bf16))
theorem y_back : iprop(owns (c : Thread nD τ) (yR c) fullShare (yv m c c) ∗ (bigSep Finset.univ fun j : Fin 7 => sendPay m 1 j c)) ⊢ anyAt (F := F) c (Memref.whole cc0_scratch5 : Memref sig .tc .vmem S8x384x1024 .bf16) := by
  iintro ⟨H, Hs⟩
  ihave H := (Entails.of_eq (ring_split c (fun b : Dev nD => owns (c : Thread nD τ) (yR b) fullShare (yv m c b))).symm) $$ [H Hs]
  · iframe H
    iexact Hs
  ihave H := (rows3_join (n := 8) (A := 384) (B := 1024) c (Memref.whole cc0_scratch5 : Memref sig .tc .vmem S8x384x1024 .bf16) (yv m c)) $$ H
  ihave H := (any_intro c _ _) $$ H
  iexact H
theorem ret_back : iprop(owns (c : Thread nD τ) (retR c) fullShare (retv m c c) ∗ (bigSep Finset.univ fun j : Fin 7 => owns (c : Thread nD τ) (retR (back j c)) fullShare (retv m c (back j c)))) ⊢ anyAt (F := F) c (Memref.whole cc0_scratch6 : Memref sig .tc .vmem S8x384x1024 .bf16) := by
  iintro ⟨H, Hs⟩
  ihave H := (Entails.of_eq (ring_splitB c (fun b : Dev nD => owns (c : Thread nD τ) (retR b) fullShare (retv m c b))).symm) $$ [H Hs]
  · iframe H Hs
  ihave H := (rows3_join (n := 8) (A := 384) (B := 1024) c (Memref.whole cc0_scratch6 : Memref sig .tc .vmem S8x384x1024 .bf16) (retv m c)) $$ H
  ihave H := (any_intro c _ _) $$ H
  iexact H

set_option maxHeartbeats 4000000 in
/-- The whole run but the last sum. -/
theorem part37 (Kt : (Σ' (d0 : Dev nD) (v235 : IVec S2048x1 32), BitVec 32) → sProp 𝕄) :
    iprop(ctx m K ∗ bodyIn m c)
      ⊢ iprop((bodyMid m c -∗ Kt ⟨c, v235 m c, Scalar.remsi (Scalar.addi (Scalar.subi (v2 c) 7#32) 8#32) 8#32⟩) -∗ WP c Kt (atBufs (k0_part37 (F := F)))) := by
  rw [k0_part37_eq_skeleton]; unfold atBufs k0_part37_skel bodyIn
  iintro ⟨#Hc, Ho, ⟨Hst, Ht0, Ht1, Ht2⟩, ⟨Hbar, Hq0, Hq1, Hq2⟩, ⟨HX, HR, HW, HO⟩, ⟨H0, H1, H2, H3, H4, H5, H6, H7, H8⟩⟩ Hk
  ihave H := (prep c) $$ [Hst H8 H2 H6]
  · iframe Hst H8 H2 H6
  icases H with ⟨Hsg, Hcn, Hin, Hre⟩
  ihave Hsg := (Entails.of_eq (seven _)) $$ Hsg
  icases Hsg with ⟨Sg0, Sg1, Sg2, Sg3, Sg4, Sg5, Sg6⟩
  ihave Ht2 := (Entails.of_eq (seven _)) $$ Ht2
  icases Ht2 with ⟨T20, T21, T22, T23, T24, T25, T26⟩
  ihave Hq0 := (Entails.of_eq (seven _)) $$ Hq0
  icases Hq0 with ⟨Q00, Q01, Q02, Q03, Q04, Q05, Q06⟩
  ihave Hq1 := (Entails.of_eq (seven _)) $$ Hq1
  icases Hq1 with ⟨Q10, Q11, Q12, Q13, Q14, Q15, Q16⟩
  ihave Hq2 := (Entails.of_eq (seven _)) $$ Hq2
  icases Hq2 with ⟨Q20, Q21, Q22, Q23, Q24, Q25, Q26⟩
  ihave H1 := (rows3_any (n := 7) (A := 384) (B := 512) c _) $$ H1
  ihave H1 := (Entails.of_eq (seven _)) $$ H1
  icases H1 with ⟨Xd0, Xd1, Xd2, Xd3, Xd4, Xd5, Xd6⟩
  iapply (wp_seq c _ _ _)
  iapply (part6 m K c _) $$ [Ho Sg0 Sg1 Sg2 Sg3 Sg4]
  · iframe Hc Ho Sg0 Sg1 Sg2 Sg3 Sg4
  iintro Ho
  try dsimp only
  iapply (wp_seq c _ _ _)
  iapply (part7 m K c _ _ _) $$ [Ho Sg5 Sg6 Hbar HR Hcn T20]
  · iframe Hc Ho Sg5 Sg6 Hbar HR Hcn T20
  iintro ⟨Ho, Zb, HR, Hdrop, ⟨C1, C2, C3, C4, C5, C6⟩, Hpi, Hpr, P20⟩
  try dsimp only
  iapply (wp_seq c _ _ _)
  iapply (part8 m K c _ _ _) $$ [Ho T21 T22 T23 C1 C2 C3]
  · iframe Hc Ho T21 T22 T23 C1 C2 C3
  iintro ⟨Ho, P21, P22, P23⟩
  try dsimp only
  iapply (wp_seq c _ _ _)
  iapply (part9 m K c _ _ _ _ _) $$ [Ho T24 T25 T26 C4 C5 C6]
  · iframe Hc Ho T24 T25 T26 C4 C5 C6
  iintro ⟨Ho, P24, P25, P26⟩
  try dsimp only
  iapply (wp_seq c _ _ _)
  iapply (part10 m K c _ _ _) $$ [Ho P20]
  · iframe Hc Ho P20
  iintro ⟨Ho, ⟨Z2s0, A0⟩⟩
  try dsimp only
  iapply (wp_seq c _ _ _)
  iapply (part11 m K c _ _ _ _) $$ [Ho Q20 P21 Q21 P22 Q22]
  · iframe Hc Ho Q20 P21 Q21 P22 Q22
  iintro ⟨Ho, ⟨Z2r0, B0⟩, ⟨Z2s1, A1⟩, ⟨Z2r1, B1⟩, ⟨Z2s2, A2⟩, ⟨Z2r2, B2⟩⟩
  try dsimp only
  iapply (wp_seq c _ _ _)
  iapply (part12 m K c _ _ _ _) $$ [Ho P23 Q23 P24 Q24 P25]
  · iframe Hc Ho P23 Q23 P24 Q24 P25
  iintro ⟨Ho, ⟨Z2s3, A3⟩, ⟨Z2r3, B3⟩, ⟨Z2s4, A4⟩, ⟨Z2r4, B4⟩, ⟨Z2s5, A5⟩⟩
  try dsimp only
  iapply (wp_seq c _ _ _)
  iapply (part13 m K c _ _ _ _) $$ [Ho Q25 P26 Q26 Hdrop A0 A1 A2 A3 A4 A5 B0 B1 B2 B3 B4]
  · iframe Hc Ho Q25 P26 Q26 Hdrop A0 A1 A2 A3 A4 A5 B0 B1 B2 B3 B4
  iintro ⟨Ho, Z2r5, Z2s6, Z2r6, H8⟩
  try dsimp only
  iapply (wp_seq c _ _ _)
  iapply (part14 m c _)
  try dsimp only
  iapply (wp_seq c _ _ _)
  iapply (part15 m c _)
  try dsimp only
  iapply (wp_seq c _ _ _)
  iapply (part16 m c _) $$ [H0]
  · iframe H0
  iintro HB
  try dsimp only
  iapply (wp_seq c _ _ _)
  iapply (part17 m c _) $$ [HB HX]
  · iframe HB HX
  iintro ⟨HB, HX⟩
  try dsimp only
  ihave Hpi := (Entails.of_eq (bigSep_sep' Finset.univ (fun j : Fin 7 => tok (F := F) 0 j c) (fun j => anyAt (F := F) (rot j c) (inR c))).symm) $$ [Ht0 Hpi]
  · iframe Ht0 Hpi
  ihave Hpi := (Entails.of_eq (show (bigSep Finset.univ fun j : Fin 7 => iprop(tok (F := F) 0 j c ∗ anyAt (F := F) (rot j c) (inR c))) = iprop(p1T (F := F) c 0 ∗ p1T (F := F) c 1 ∗ p1T (F := F) c 2 ∗ p1T (F := F) c 3 ∗ p1T (F := F) c 4 ∗ p1T (F := F) c 5 ∗ p1T (F := F) c 6) from seven (fun j => p1T (F := F) c j))) $$ Hpi
  icases Hpi with ⟨T00, T01, T02, T03, T04, T05, T06⟩
  iapply (wp_seq c _ _ _)
  iapply (part18 m K c _ _) $$ [Ho HB HX Xd0 Xd1 T00]
  · iframe Hc Ho HB HX Xd0 Xd1 T00
  iintro ⟨Ho, HB, HX, P00, Xd1⟩
  try dsimp only
  iapply (wp_seq c _ _ _)
  iapply (part19 m K c _ _) $$ [Ho HB HX Xd1 Xd2 T01]
  · iframe Hc Ho HB HX Xd1 Xd2 T01
  iintro ⟨Ho, HB, HX, P01, Xd2⟩
  try dsimp only
  iapply (wp_seq c _ _ _)
  iapply (part20 m K c _) $$ [Ho HB HX Xd2 Xd3 T02 T03]
  · iframe Hc Ho HB HX Xd2 Xd3 T02 T03
  iintro ⟨Ho, HB, HX, P02, P03⟩
  try dsimp only
  iapply (wp_seq c _ _ _)
  iapply (part21 m K c _) $$ [Ho HB HX Xd4 T04]
  · iframe Hc Ho HB HX Xd4 T04
  iintro ⟨Ho, HB, HX, P04⟩
  try dsimp only
  iapply (wp_seq c _ _ _)
  iapply (part22 m K c _ _) $$ [Ho HB HX Xd5 T05]
  · iframe Hc Ho HB HX Xd5 T05
  iintro ⟨Ho, HB, HX, P05⟩
  try dsimp only
  iapply (wp_seq c _ _ _)
  iapply (part23 m K c _ _) $$ [Ho HB HX Xd6 T06 Hin]
  · iframe Hc Ho HB HX Xd6 T06 Hin
  iintro ⟨Ho, HB, HX, P06, Hin⟩
  try dsimp only
  iapply (wp_seq c _ _ _)
  iapply (part24 m K c _ _ _) $$ [Ho P00 Q00 P01 Q01]
  · iframe Hc Ho P00 Q00 P01 Q01
  iintro ⟨Ho, ⟨Z0s0, A0⟩, ⟨Z0r0, B0⟩, ⟨Z0s1, A1⟩, ⟨Z0r1, B1⟩⟩
  try dsimp only
  iapply (wp_seq c _ _ _)
  iapply (part25 m K c _ _ _) $$ [Ho P02 Q02 P03 Q03 P04]
  · iframe Hc Ho P02 Q02 P03 Q03 P04
  iintro ⟨Ho, ⟨Z0s2, A2⟩, ⟨Z0r2, B2⟩, ⟨Z0s3, A3⟩, ⟨Z0r3, B3⟩, ⟨Z0s4, A4⟩⟩
  try dsimp only
  iapply (wp_seq c _ _ _)
  iapply (part26 m K c _ _ _) $$ [Ho Q04 P05 Q05 P06]
  · iframe Hc Ho Q04 P05 Q05 P06
  iintro ⟨Ho, ⟨Z0r4, B4⟩, ⟨Z0s5, A5⟩, ⟨Z0r5, B5⟩, ⟨Z0s6, A6⟩⟩
  try dsimp only
  iapply (wp_seq c _ _ _)
  iapply (part27 m K c _ _) $$ [Ho Q06 Hin B0 B1 B2 B3 B4 B5 H7 H3 H4 H5 HW Hpr Ht1]
  · iframe Hc Ho Q06 Hin B0 B1 B2 B3 B4 B5 H7 H3 H4 H5 HW Hpr Ht1
  iintro ⟨Ho, Z0r6, H2, H7, H3, H4, HW, HY, ⟨Y1, Y2, Y3, Y4, Y5, Y6⟩, P10⟩
  try dsimp only
  iapply (wp_seq c _ _ _)
  iapply (part28 m K c _ _ _) $$ [Ho Y1 Y2 Y3]
  · iframe Hc Ho Y1 Y2 Y3
  iintro ⟨Ho, P11, P12, P13⟩
  try dsimp only
  iapply (wp_seq c _ _ _)
  iapply (part29 m K c _ _) $$ [Ho Y4 Y5 Y6]
  · iframe Hc Ho Y4 Y5 Y6
  iintro ⟨Ho, P14, P15, P16⟩
  try dsimp only
  iapply (wp_seq c _ _ _)
  iapply (part30 m K c _ _) $$ [Ho HB HO HY Hre P10]
  · iframe Hc Ho HB HO HY Hre P10
  iintro ⟨Ho, HB, HO, HY, Hre, ⟨Z1s0, D0⟩⟩
  try dsimp only
  iapply (wp_seq c _ _ _)
  iapply (part31 m K c _ _) $$ [Ho HB HO Q10 P11]
  · iframe Hc Ho HB HO Q10 P11
  iintro ⟨Ho, HB, HO, ⟨Z1r0, E0⟩, ⟨Z1s1, D1⟩⟩
  try dsimp only
  iapply (wp_seq c _ _ _)
  iapply (part32 m K c _ _) $$ [Ho HB HO Q11 P12]
  · iframe Hc Ho HB HO Q11 P12
  iintro ⟨Ho, HB, HO, ⟨Z1r1, E1⟩, ⟨Z1s2, D2⟩⟩
  try dsimp only
  iapply (wp_seq c _ _ _)
  iapply (part33 m K c _ _) $$ [Ho HB HO Q12 P13]
  · iframe Hc Ho HB HO Q12 P13
  iintro ⟨Ho, HB, HO, ⟨Z1r2, E2⟩, ⟨Z1s3, D3⟩⟩
  try dsimp only
  iapply (wp_seq c _ _ _)
  iapply (part34 m K c _ _) $$ [Ho HB HO Q13 P14]
  · iframe Hc Ho HB HO Q13 P14
  iintro ⟨Ho, HB, HO, ⟨Z1r3, E3⟩, ⟨Z1s4, D4⟩⟩
  try dsimp only
  iapply (wp_seq c _ _ _)
  iapply (part35 m K c _ _) $$ [Ho HB HO Q14]
  · iframe Hc Ho HB HO Q14
  iintro ⟨Ho, HB, HO, ⟨Z1r4, E4⟩⟩
  try dsimp only
  iapply (wp_seq c _ _ _)
  iapply (part36 m K c _ _) $$ [Ho HB HO P15 Q15]
  · iframe Hc Ho HB HO P15 Q15
  iintro ⟨Ho, HB, HO, ⟨Z1s5, D5⟩, ⟨Z1r5, E5⟩⟩
  try dsimp only
  simp only [Prog.lift, Prog.bind_op, Prog.bind_ret, Prog.pure_eq_ret]
  iapply (wt_s m K c 1 6 (by rfl) (by rfl) 28 (by decide)) $$ [Ho P16]
  · iframe Hc Ho P16
  iintro ⟨Ho, P16⟩
  iapply (wt_r m K c 1 6 (by rfl) (by rfl) 28 (by decide)) $$ [Ho Q16]
  · iframe Hc Ho Q16
  iintro ⟨Ho, Q16⟩
  ihave Q16 := (wR_wT m c 6) $$ Q16
  unfold wT wS
  icases P16 with ⟨Z1s6, D6⟩
  icases Q16 with ⟨Z1r6, E6⟩
  ihave HA := (Entails.of_eq (seven (fun j : Fin 7 => sendPay m 0 j c)).symm) $$ [A0 A1 A2 A3 A4 A5 A6]
  · iframe A0 A1 A2 A3 A4 A5 A6
  ihave HD := (Entails.of_eq (seven (fun j : Fin 7 => sendPay m 1 j c)).symm) $$ [D0 D1 D2 D3 D4 D5 D6]
  · iframe D0 D1 D2 D3 D4 D5 D6
  ihave HE := (Entails.of_eq (seven (fun j : Fin 7 => owns (c : Thread nD τ) (retR (back j c)) fullShare (retv m c (back j c)))).symm) $$ [E0 E1 E2 E3 E4 E5 E6]
  · iframe E0 E1 E2 E3 E4 E5 E6
  ihave HZ0s := (Entails.of_eq (seven (fun j : Fin 7 => closed (F := F) c (some (0, false, j)))).symm) $$ [Z0s0 Z0s1 Z0s2 Z0s3 Z0s4 Z0s5 Z0s6]
  · iframe Z0s0 Z0s1 Z0s2 Z0s3 Z0s4 Z0s5 Z0s6
  ihave HZ0r := (Entails.of_eq (seven (fun j : Fin 7 => closed (F := F) c (some (0, true, j)))).symm) $$ [Z0r0 Z0r1 Z0r2 Z0r3 Z0r4 Z0r5 Z0r6]
  · iframe Z0r0 Z0r1 Z0r2 Z0r3 Z0r4 Z0r5 Z0r6
  ihave HZ1s := (Entails.of_eq (seven (fun j : Fin 7 => closed (F := F) c (some (1, false, j)))).symm) $$ [Z1s0 Z1s1 Z1s2 Z1s3 Z1s4 Z1s5 Z1s6]
  · iframe Z1s0 Z1s1 Z1s2 Z1s3 Z1s4 Z1s5 Z1s6
  ihave HZ1r := (Entails.of_eq (seven (fun j : Fin 7 => closed (F := F) c (some (1, true, j)))).symm) $$ [Z1r0 Z1r1 Z1r2 Z1r3 Z1r4 Z1r5 Z1r6]
  · iframe Z1r0 Z1r1 Z1r2 Z1r3 Z1r4 Z1r5 Z1r6
  ihave HZ2s := (Entails.of_eq (seven (fun j : Fin 7 => closed (F := F) c (some (2, false, j)))).symm) $$ [Z2s0 Z2s1 Z2s2 Z2s3 Z2s4 Z2s5 Z2s6]
  · iframe Z2s0 Z2s1 Z2s2 Z2s3 Z2s4 Z2s5 Z2s6
  ihave HZ2r := (Entails.of_eq (seven (fun j : Fin 7 => closed (F := F) c (some (2, true, j)))).symm) $$ [Z2r0 Z2r1 Z2r2 Z2r3 Z2r4 Z2r5 Z2r6]
  · iframe Z2r0 Z2r1 Z2r2 Z2r3 Z2r4 Z2r5 Z2r6
  ihave H1 := (xd_back m c) $$ HA
  ihave H5 := (y_back m c) $$ [HY HD]
  · iframe HY HD
  ihave H8 := (any_intro c _ _) $$ H8
  iapply (wp_done c)
  iapply Hk
  unfold bodyMid allClosed
  iframe Ho Zb HZ0s HZ0r HZ1s HZ1r HZ2s HZ2r HX HR HW HO HB H1 H2 H3 H4 H5 H7 H8 Hre HE

/-- The kernel's body, from `bodyIn` to `bodyOut`. -/
theorem whole_body (Kt : PUnit → sProp 𝕄) :
    iprop(ctx m K ∗ bodyIn m c) ⊢ iprop((bodyOut m c -∗ Kt ⟨⟩) -∗ WP c Kt (atBufs (cc0_body (F := F)))) := by
  rw [cc0_body_eq_skeleton]; unfold atBufs cc0_body_skel
  iintro ⟨#Hc, H⟩ Hk
  iapply (wp_seq c _ _ _)
  iapply (part37 m K c _) $$ [H]
  · iframe Hc H
  iintro H
  unfold bodyMid
  icases H with ⟨Ho, Hz, ⟨HX, HR, HW, HO⟩, HB, ⟨H1, H2, H3, H4, H5, H7, H8⟩, Hre, HE⟩
  ihave HE := (Entails.of_eq (seven _)) $$ HE
  icases HE with ⟨E0, E1, E2, E3, E4, E5, E6⟩
  simp only [Prog.lift, Prog.bind_op, Prog.bind_ret, Prog.pure_eq_ret]
  iapply (wp_ldr c (off17 c 6)) $$ E6
  iintro E6
  iapply (wp_ldw c (by decide)) $$ HO
  iintro HO
  iapply (wp_ldw c (by decide)) $$ HB
  iintro HB
  iapply (wp_ldw c (by decide)) $$ HO
  iintro HO
  ihave HO := (any_intro c _ _) $$ HO
  iapply (wp_stwv c (by decide) (outAt m c) (by rfl)) $$ HO
  iintro HO
  ihave HE := (Entails.of_eq (seven (fun j : Fin 7 => owns (c : Thread nD τ) (retR (back j c)) fullShare (retv m c (back j c)))).symm) $$ [E0 E1 E2 E3 E4 E5 E6]
  · iframe E0 E1 E2 E3 E4 E5 E6
  ihave H6 := (ret_back m c) $$ [Hre HE]
  · iframe Hre HE
  ihave H0 := (any_intro c _ _) $$ HB
  iapply (wp_done c)
  iapply Hk
  unfold bodyOut
  iframe Ho Hz HX HR HW HO H0 H1 H2 H3 H4 H5 H6 H7 H8

end Cert.MoE

end
-- ==== Proof.Launch1.lean ====
/-
# The body in the launch

The buffers, tokens and counters a device starts with and ends with, and the body between them.
-/
module

public import proofs.«01_k».proof.Proof.Body6
public import proofs.«01_k».proof.Proof.Gen.KernelIdeal.Points
@[expose] public section

noncomputable section

namespace Cert.MoE

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

variable (ρ : Dev nD → PrngReg)

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A buffer at some contents, as the launch says it and as the body says it. -/
theorem any_whole (c : Dev nD) (b : Ref sig .tc) :
    (iprop(∃ X : b.ty.Contents (Elt F), owns (Ix := Unit) (Name := ℕ) (U := UU) (Lvl := ℕ) (c : Thread nD τ) (Memref.whole b) fullShare X) : sProp 𝕄)
      = iprop(∃ f : Buf (Elt F) ((c : Thread nD τ).loc b), ((c : Thread nD τ).loc b) ↦{fullShare} f) := by
  simp only [owns_whole_eq]
  have h1 : (iprop(∃ X : b.ty.Contents (Elt F), ∃ f : Buf (Elt F) ((c : Thread nD τ).loc b), ⌜f = X⌝ ∗ (((c : Thread nD τ).loc b) ↦{fullShare} f)) : sProp 𝕄)
      ⊢ iprop(∃ f : Buf (Elt F) ((c : Thread nD τ).loc b), ((c : Thread nD τ).loc b) ↦{fullShare} f) := by
    iintro ⟨%X, %f, -, H⟩
    iexists f; iexact H
  have h2 : (iprop(∃ f : Buf (Elt F) ((c : Thread nD τ).loc b), ((c : Thread nD τ).loc b) ↦{fullShare} f) : sProp 𝕄)
      ⊢ iprop(∃ X : b.ty.Contents (Elt F), ∃ f : Buf (Elt F) ((c : Thread nD τ).loc b), ⌜f = X⌝ ∗ (((c : Thread nD τ).loc b) ↦{fullShare} f)) := by
    iintro ⟨%f, H⟩
    iexists f; iexists f
    isplitr; · (ipureintro; rfl)
    iexact H
  exact BI.Entails.antisymm h1 h2

abbrev scrs (c : Dev nD) : sProp 𝕄 := iprop(anyAt (F := F) c (Memref.whole cc0_scratch0 : Memref sig .tc .vmem S2048x384 .bf16) ∗ anyAt (F := F) c (Memref.whole cc0_scratch1 : Memref sig .tc .vmem S7x384x512 .bf16) ∗ anyAt (F := F) c (Memref.whole cc0_scratch2 : Memref sig .tc .vmem S8x384x512 .bf16) ∗ anyAt (F := F) c (Memref.whole cc0_scratch3 : Memref sig .tc .vmem S8x640x512 .bf16) ∗ anyAt (F := F) c (Memref.whole cc0_scratch4 : Memref sig .tc .vmem S8x640x1024 .bf16) ∗ anyAt (F := F) c (Memref.whole cc0_scratch5 : Memref sig .tc .vmem S8x384x1024 .bf16) ∗ anyAt (F := F) c (Memref.whole cc0_scratch6 : Memref sig .tc .vmem S8x384x1024 .bf16) ∗ anyAt (F := F) c (Memref.whole cc0_scratch7 : Memref sig .tc .vmem S8x384x640 .bf16) ∗ anyAt (F := F) c (Memref.whole cc0_scratch8 : Memref sig .tc .vmem S8x64 .i32))

theorem scoped_eq (c : Dev nD) :
    (Pipeline.scopedRest (Ix := Unit) (Name := ℕ) (U := UU) (Lvl := ℕ) (Val := Elt F) cfg0.spec c : sProp 𝕄) = scrs c := by
  rw [scopedRest0_eq]
  unfold scrs anyAt
  exact (congrArg₂ _ (any_whole c cc0_scratch0) (congrArg₂ _ (any_whole c cc0_scratch1) (congrArg₂ _ (any_whole c cc0_scratch2) (congrArg₂ _ (any_whole c cc0_scratch3)
    (congrArg₂ _ (any_whole c cc0_scratch4) (congrArg₂ _ (any_whole c cc0_scratch5) (congrArg₂ _ (any_whole c cc0_scratch6)
    (congrArg₂ _ (any_whole c cc0_scratch7) (any_whole c cc0_scratch8))))))))).symm

/-! ## What a device starts with -/

/-- The tokens of the payments a device makes, and its places on its own send cells. -/
abbrev payT (c : Dev nD) : sProp 𝕄 := iprop((bigSep Finset.univ fun j : Fin 7 => stok (F := F) j c) ∗ (bigSep Finset.univ fun j : Fin 7 => tok (F := F) 0 j c) ∗ (bigSep Finset.univ fun j : Fin 7 => tok (F := F) 1 j c) ∗ (bigSep Finset.univ fun j : Fin 7 => tok (F := F) 2 j c))
/-- Its places on the cells it waits on before anything of its own is sent there. -/
abbrev posT (c : Dev nD) : sProp 𝕄 := iprop(atPos ER (gc c none) 0 ∅ 0 ∗ (bigSep Finset.univ fun j : Fin 7 => (atPos ER (gc c (some (0, true, j))) 0 ∅ 0 : sProp 𝕄)) ∗ (bigSep Finset.univ fun j : Fin 7 => (atPos ER (gc c (some (1, true, j))) 0 ∅ 0 : sProp 𝕄)) ∗ (bigSep Finset.univ fun j : Fin 7 => (atPos ER (gc c (some (2, true, j))) 0 ∅ 0 : sProp 𝕄)))
/-- Those cells with their credit. -/
abbrev pends (c : Dev nD) : sProp 𝕄 := iprop(pend (F := F) c none ∗ (bigSep Finset.univ fun j : Fin 7 => pend (F := F) c (some (0, true, j))) ∗ (bigSep Finset.univ fun j : Fin 7 => pend (F := F) c (some (1, true, j))) ∗ (bigSep Finset.univ fun j : Fin 7 => pend (F := F) c (some (2, true, j))))

def G' (c : Dev nD) : sProp 𝕄 := iprop(∃ K : Dev nD × CI → ℕ, (bigSep Finset.univ fun p => cellRec m K p) ∗ payT (F := F) c ∗ posT (F := F) c)

def start (c : Dev nD) : sProp 𝕄 := iprop(∃ K : Dev nD × CI → ℕ, ctx m K ∗ payT (F := F) c ∗ pends (F := F) c)

def Φ₀ (c : Dev nD) : sProp 𝕄 := iprop(start m c ∗ scrs (F := F) c)
def Φ₁ (c : Dev nD) : sProp 𝕄 := iprop(allClosed (F := F) c ∗ scrs (F := F) c)

/-- What a device owes at the start. -/
abbrev O₀ (c : Dev nD) : CellTallies nD τ sig Unit := Ofrom c (dl 0)

abbrev s₀ : MemSt nD τ sig (Elt F) := ⟨m, fun _ => 0, ρ⟩

def dats (_ : Fin 1) (c : Dev nD) : Dat τ (Elt F) Unit ℕ UU ℕ cfg0 c where
  A w := m ((cfg0.win w).arr.view.loc (c : Thread nD τ))
  after w _ := match w with
    | ⟨0, _⟩ => xstg m c
    | ⟨1, _⟩ => rstg m c
    | ⟨2, _⟩ => wstg m c
    | ⟨3, _⟩ => outAt m c
  Φ t := match t with
    | ⟨0, _⟩ => Φ₀ m c
    | ⟨_ + 1, _⟩ => Φ₁ (F := F) c
  q _ := fullShare
  owed t := match t with
    | ⟨0, _⟩ => O₀ c
    | ⟨_ + 1, _⟩ => 0

abbrev t₀ : Fin cfg0.N := t0_0

def bodyPre (c : Dev nD) : sProp 𝕄 :=
  iprop(Φ₀ m c ∗ (dats m 0 c).owesAt () t₀.castSucc
    ∗ (∃ d, owns (c : Thread nD τ) (Memref.whole cc0_stg0_0 : Memref sig .tc .vmem S2048x512 .bf16) fullShare ((dats m 0 c).before (0 : Fin 4) t₀ d))
    ∗ (∃ d, owns (c : Thread nD τ) (Memref.whole cc0_stg1_0 : Memref sig .tc .vmem S2048x1 .i32) fullShare ((dats m 0 c).before (1 : Fin 4) t₀ d))
    ∗ (∃ d, owns (c : Thread nD τ) (Memref.whole cc0_stg2_0 : Memref sig .tc .vmem S8x512x1024 .bf16) fullShare ((dats m 0 c).before (2 : Fin 4) t₀ d))
    ∗ (∃ d, owns (c : Thread nD τ) (Memref.whole cc0_stg3_0 : Memref sig .tc .vmem S2048x1024 .bf16) fullShare ((dats m 0 c).before (3 : Fin 4) t₀ d)))
def bodyPost (c : Dev nD) : sProp 𝕄 :=
  iprop(Φ₁ (F := F) c ∗ (dats m 0 c).owesAt () t₀.succ ∗ stX m c ∗ stR m c ∗ stW m c ∗ stO c (outAt m c))

theorem before0 (c : Dev nD) (d) : (dats m 0 c).before (0 : Fin 4) t₀ d = xstg m c := by
  unfold Dat.before; rw [if_pos (fetch0_0 t₀)]; rfl
theorem before1 (c : Dev nD) (d) : (dats m 0 c).before (1 : Fin 4) t₀ d = rstg m c := by
  unfold Dat.before; rw [if_pos (fetch0_1 t₀)]; rfl
theorem before2 (c : Dev nD) (d) : (dats m 0 c).before (2 : Fin 4) t₀ d = wstg m c := by
  unfold Dat.before; rw [if_pos (fetch0_2 t₀)]; rfl

theorem sound_body (c : Dev nD) : bodyPre m c ⊢ WP c (fun _ => bodyPost m c) (atBufs (cc0_body (F := F))) := by
  unfold bodyPre Φ₀ start
  simp only [before0, before1, before2]
  iintro ⟨⟨⟨%K, #Hc, Ht, Hp⟩, Hs⟩, ⟨%W, -, Ho⟩, ⟨%d0, Hx⟩, ⟨%d1, Hr⟩, ⟨%d2, Hw⟩, ⟨%d3, Hout⟩⟩
  iapply (whole_body m K c fun _ => bodyPost m c) $$ [Ht Hp Hs Ho Hx Hr Hw Hout]
  · iframe Hc
    unfold bodyIn owe
    isplitl [Ho]; · iexists W; iexact Ho
    isplitl [Ht]; · iexact Ht
    isplitl [Hp]; · iexact Hp
    isplitr [Hs]
    · iframe Hx Hr Hw
      ihave Hout := (any_intro c _ _) $$ Hout
      iexact Hout
    iexact Hs
  unfold bodyOut bodyPost Φ₁ owe
  iintro ⟨⟨%W', Ho⟩, Hcl, ⟨Hx, Hr, Hw, Hout⟩, Hs⟩
  isplitl [Hcl Hs]
  · iframe Hcl
    iexact Hs
  isplitl [Ho]
  · iexists W'
    isplitr; · (ipureintro; exact fun _ _ => Or.inl trivial)
    iexact Ho
  iframe Hx Hr Hw Hout

set_option maxRecDepth 20000 in
/-- The body, as the launch asks for it. -/
theorem body_obligation (c : Dev nD) : BodyObligation (dats (F := F) m 0 c) (defs₀ (F := F)) 𝒱₀ () Set.univ := fun t => by
  rw [fin_N0 t]
  rw [bigSep_W0, bigSep_W0]
  show bodyPre m c ⊢ wp frame (wpE (defs₀ (F := F)) 𝒱₀ (c : Thread nD τ) none) Set.univ (atBufs (cc0_body (F := F))) (fun _ => bodyPost m c)
  exact sound_body m c

end Cert.MoE

end
-- ==== Proof.Launch2.lean ====
/-
# Cells and tokens at the launch

The cells of every device opened at zero, and each token given to the device that pays with it.
-/
module

public import proofs.«01_k».proof.Proof.Launch1
@[expose] public section

noncomputable section

namespace Cert.MoE

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

variable (ρ : Dev nD → PrngReg)

/-! ## Cells and tokens at the start -/

abbrev XI : Type := Fin 3 × Bool × Fin 7
abbrev osem : XI → SemLoc sig := fun x => csem (some x)

theorem ownSemFacts : Pipeline.OwnSemFacts cfg0.spec osem := by decide

abbrev kcell (p : Dev nD × CI) : GSem nD τ sig := gc p.1 p.2
theorem kcell_inj : Function.Injective kcell := by
  rintro ⟨c, i⟩ ⟨c', i'⟩ h
  have h1 : c = c' := congrArg (fun g : GSem nD τ sig => g.1.1) h
  have h2 : i = i' := csem_inj (congrArg Prod.snd h)
  rw [h1, h2]
abbrev ktok (p : Dev nD × CI × Fin 7) : GSem nD τ sig × ℕ × Fin 7 := (gc p.1 p.2.1, 0, p.2.2)
theorem ktok_inj : Function.Injective ktok := by
  rintro ⟨c, i, j⟩ ⟨c', i', j'⟩ h
  have h1 : c = c' := congrArg (fun g : GSem nD τ sig × ℕ × Fin 7 => g.1.1.1) h
  have h2 : i = i' := csem_inj (congrArg (fun g : GSem nD τ sig × ℕ × Fin 7 => g.1.2) h)
  have h3 : j = j' := congrArg (fun g : GSem nD τ sig × ℕ × Fin 7 => g.2.2) h
  rw [h1, h2, h3]
def kcells : Finset (GSem nD τ sig) := Finset.univ.map ⟨kcell, kcell_inj⟩
def ktoks : Finset (GSem nD τ sig × ℕ × Fin 7) := Finset.univ.map ⟨ktok, ktok_inj⟩

def u₀ : UU := (initOf (Pipeline.cells cfgs cellOf_inj) (Pipeline.launchToks cfgs cellOf_inj), initOf kcells ktoks)

def toks (c : Dev nD) : sProp 𝕄 := bigSep Finset.univ fun i : CI => bigSep Finset.univ fun j : Fin 7 => dutyTok ER (gc c i) 0 j

def G (c : Dev nD) : sProp 𝕄 :=
  iprop((bigSep Finset.univ fun i : CI => roundState ER (Rd m) (gc c i) 0)
    ∗ (bigSep Finset.univ fun i : CI => iprop(atPos ER (gc c i) 0 ∅ 0 ∗ reached ER (gc c i) 0)) ∗ toks c)

theorem fund : BI.own (ER (initOf kcells ktoks)) ⊢ (|==> bigSep Finset.univ (G m) : sProp 𝕄) := by
  have hX (Φ : GSem nD τ sig → sProp 𝕄) : bigSep kcells Φ = bigSep Finset.univ fun c : Dev nD => bigSep Finset.univ fun i : CI => Φ (gc c i) := by
    unfold kcells; rw [bigSep_map, bigSep_univ_prod]; rfl
  have hT : bigSep ktoks (fun x => (dutyTok ER x.1 x.2.1 x.2.2 : sProp 𝕄)) = bigSep Finset.univ fun c : Dev nD => toks c := by
    unfold ktoks; rw [bigSep_map, bigSep_univ_prod]
    exact bigSep_congr fun c _ => by unfold toks; rw [bigSep_univ_prod]; rfl
  iintro HX
  imod (Rounds.fund ER (Rd m) kcells ktoks) $$ HX with ⟨Hst, Hr, Hat, Htok⟩
  imodintro
  ihave Hst := (Entails.of_eq (hX fun g => roundState ER (Rd m) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G; simp only [bigSep_sep']
  iframe Hst Hat Hr Htok

theorem comm' (P R : sProp 𝕄) : iprop(P ∗ R) = iprop(R ∗ P) := by
  have h1 : ∀ P R : sProp 𝕄, iprop(P ∗ R) ⊢ iprop(R ∗ P) := fun P R => by
    iintro ⟨H1, H2⟩; iframe H1 H2
  exact BI.Entails.antisymm (h1 P R) (h1 R P)

/-- A family over all cells of a device: the barrier's, and those of the three exchanges. -/
theorem ci_split (Φ : CI → sProp 𝕄) : bigSep Finset.univ Φ = iprop(Φ none ∗ bigSep Finset.univ fun x : XI => Φ (some x)) := by
  rw [bigSep_univ_equiv (Equiv.optionEquivSumPUnit.{0, 0} XI).symm Φ, bigSep_univ_sum,
    show (bigSep (Finset.univ : Finset PUnit.{1}) fun b => Φ ((Equiv.optionEquivSumPUnit.{0, 0} XI).symm (.inr b))) = Φ none from bigSep_singleton]
  exact comm' _ _

theorem xi_split (Φ : XI → sProp 𝕄) : bigSep Finset.univ Φ
    = iprop(((bigSep Finset.univ fun j : Fin 7 => Φ (0, false, j)) ∗ (bigSep Finset.univ fun j : Fin 7 => Φ (0, true, j)))
      ∗ ((bigSep Finset.univ fun j : Fin 7 => Φ (1, false, j)) ∗ (bigSep Finset.univ fun j : Fin 7 => Φ (1, true, j)))
      ∗ ((bigSep Finset.univ fun j : Fin 7 => Φ (2, false, j)) ∗ (bigSep Finset.univ fun j : Fin 7 => Φ (2, true, j)))) := by
  rw [bigSep_univ_prod]
  have h : ∀ f : Fin 3, (bigSep Finset.univ fun p : Bool × Fin 7 => Φ (f, p)) = iprop((bigSep Finset.univ fun j : Fin 7 => Φ (f, false, j)) ∗ (bigSep Finset.univ fun j : Fin 7 => Φ (f, true, j))) := fun f => by
    rw [bigSep_univ_prod]
    exact bigSep_univ_eq_bigSepL [false, true] (by decide) (by decide) _
  rw [bigSep_congr (s := Finset.univ) (fun (f : Fin 3) _ => h f)]
  exact bigSep_univ_eq_bigSepL [(0 : Fin 3), 1, 2] (by decide) (by decide) _

theorem sems_eq (c : Dev nD) :
    iprop(Pipeline.ownSems0 (Ix := Unit) (Name := ℕ) (U := UU) (Lvl := ℕ) (Val := Elt F) (τ := τ) osem c ∗ unscopedSems0 c)
      ⊢ (bigSep Finset.univ fun i : CI => semVal (gc c i) 0 : sProp 𝕄) := by
  rw [ci_split]
  unfold unscopedSems0 Pipeline.ownSems0
  rw [bigSep_eq_bigSepL_of_eq [SemLoc.reg barS] (by decide) (by decide), bigSepL_singleton]
  iintro ⟨H, Hb⟩
  isplitl [Hb]; · iexact Hb
  iexact H

theorem sems_back (c : Dev nD) : (allClosed (F := F) c : sProp 𝕄)
    ⊢ iprop(unscopedSems0 c ∗ Pipeline.ownSems0 (Ix := Unit) (Name := ℕ) (U := UU) (Lvl := ℕ) (Val := Elt F) (τ := τ) osem c) := by
  unfold unscopedSems0 Pipeline.ownSems0 allClosed
  rw [bigSep_eq_bigSepL_of_eq [SemLoc.reg barS] (by decide) (by decide), bigSepL_singleton, xi_split]
  iintro ⟨Hb, H1, H2, H3, H4, H5, H6⟩
  isplitl [Hb]; · iexact Hb
  iframe H1 H2 H3 H4 H5 H6

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun i : CI => iprop(∃ κ : ℕ, cellInv ER (Rd m) κ (gc c i)))
          ∗ (bigSep Finset.univ fun i : CI => iprop(atPos ER (gc c i) 0 ∅ 0 ∗ reached ER (gc c i) 0)) ∗ toks c) := by
  unfold G
  iintro ⟨Hos, Hus, Hst, Hat, Htok⟩
  ihave Hv := (sems_eq (F := F) c) $$ [Hos Hus]
  · iframe Hos Hus
  imod (show iprop((bigSep Finset.univ fun i : CI => semVal (gc c i) 0) ∗ bigSep Finset.univ fun i : CI => roundState ER (Rd m) (gc c i) 0)
      ⊢ (|={Set.univ}=> bigSep Finset.univ fun i : CI => iprop(∃ κ : ℕ, cellInv ER (Rd m) κ (gc c i)) : sProp 𝕄) from by
        rw [← bigSep_sep']
        exact (bigSep_mono fun i _ => (Rounds.body_intro ER (Rd m) (gc c i)).trans inv_alloc).trans (bigSep_fupd _ _)) $$ [Hv Hst] with Hinv
  · iframe Hv Hst
  imodintro
  iframe Hinv Hat Htok

/-! ## The tokens, each to the device that pays with it -/

def rotE (j : Fin 7) : Dev nD ≃ Dev nD := ⟨rot j, back j, back_rot j, rot_back j⟩

/-- A device's positions. -/
abbrev poss (c : Dev nD) : sProp 𝕄 := bigSep Finset.univ fun i : CI => (atPos ER (gc c i) 0 ∅ 0 : sProp 𝕄)

abbrev sTok (f : Fin 3) (c : Dev nD) : sProp 𝕄 := bigSep Finset.univ fun j : Fin 7 => (dutyTok ER (gc c (some (f, false, j))) 0 0 : sProp 𝕄)
abbrev rTok (f : Fin 3) (c : Dev nD) : sProp 𝕄 := bigSep Finset.univ fun j : Fin 7 => (dutyTok ER (gc (rot j c) (some (f, true, j))) 0 0 : sProp 𝕄)
abbrev sPos (f : Fin 3) (s : Bool) (c : Dev nD) : sProp 𝕄 := bigSep Finset.univ fun j : Fin 7 => (atPos ER (gc c (some (f, s, j))) 0 ∅ 0 : sProp 𝕄)

theorem ring_move (Φ : Dev nD → Fin 7 → sProp 𝕄) :
    (bigSep Finset.univ fun c : Dev nD => bigSep Finset.univ fun j : Fin 7 => Φ c j) = bigSep Finset.univ fun c : Dev nD => bigSep Finset.univ fun j : Fin 7 => Φ (rot j c) j := by
  rw [Pipeline.bigSep_univ_comm, bigSep_congr (s := Finset.univ) (fun (j : Fin 7) _ => bigSep_univ_equiv (rotE j) (fun c => Φ c j)), Pipeline.bigSep_univ_comm]
  rfl

theorem bar_move : (bigSep Finset.univ fun c : Dev nD => bigSep Finset.univ fun j : Fin 7 => (dutyTok ER (gc c none) 0 j : sProp 𝕄))
    = bigSep Finset.univ fun c : Dev nD => bigSep Finset.univ fun j : Fin 7 => stok (F := F) j c := by
  rw [bigSep_congr (s := Finset.univ) (fun (c : Dev nD) _ => bigSep_univ_equiv Fin.revPerm (fun j : Fin 7 => (dutyTok ER (gc c none) 0 j : sProp 𝕄)))]
  exact ring_move (F := F) (fun c j => dutyTok ER (gc c none) 0 j.rev)

theorem one_tok (c : Dev nD) (x : XI) : (bigSep Finset.univ fun j : Fin 7 => (dutyTok ER (gc c (some x)) 0 j : sProp 𝕄)) ⊢ dutyTok ER (gc c (some x)) 0 0 :=
  bigSep_elim (Finset.mem_univ 0)

theorem toks_split (c : Dev nD) : (toks c : sProp 𝕄)
    ⊢ iprop((bigSep Finset.univ fun j : Fin 7 => (dutyTok ER (gc c none) 0 j : sProp 𝕄))
      ∗ (sTok 0 c ∗ bigSep Finset.univ fun j : Fin 7 => (dutyTok ER (gc c (some (0, true, j))) 0 0 : sProp 𝕄))
      ∗ (sTok 1 c ∗ bigSep Finset.univ fun j : Fin 7 => (dutyTok ER (gc c (some (1, true, j))) 0 0 : sProp 𝕄))
      ∗ (sTok 2 c ∗ bigSep Finset.univ fun j : Fin 7 => (dutyTok ER (gc c (some (2, true, j))) 0 0 : sProp 𝕄))) := by
  unfold toks
  rw [ci_split]
  have h : (bigSep Finset.univ fun x : XI => bigSep Finset.univ fun j : Fin 7 => (dutyTok ER (gc c (some x)) 0 j : sProp 𝕄)) ⊢ bigSep Finset.univ fun x : XI => (dutyTok ER (gc c (some x)) 0 0 : sProp 𝕄) :=
    bigSep_mono fun x _ => one_tok c x
  rw [xi_split (fun x : XI => (dutyTok ER (gc c (some x)) 0 0 : sProp 𝕄))] at h
  iintro ⟨H1, H2⟩
  ihave H2 := h $$ H2
  icases H2 with ⟨⟨Ha0, Hb0⟩, ⟨Ha1, Hb1⟩, ⟨Ha2, Hb2⟩⟩
  iframe H1 Ha0 Hb0 Ha1 Hb1 Ha2 Hb2

theorem toks_around : (bigSep Finset.univ fun c : Dev nD => (toks c : sProp 𝕄))
    ⊢ bigSep Finset.univ fun c : Dev nD => iprop((bigSep Finset.univ fun j : Fin 7 => stok (F := F) j c)
      ∗ (sTok 0 c ∗ rTok 0 c) ∗ (sTok 1 c ∗ rTok 1 c) ∗ (sTok 2 c ∗ rTok 2 c)) := by
  have h : (bigSep Finset.univ fun c : Dev nD => (toks c : sProp 𝕄)) ⊢ _ := bigSep_mono fun c _ => toks_split c
  simp only [bigSep_sep'] at h ⊢
  rw [bar_move, ring_move (F := F) (fun c j => dutyTok ER (gc c (some (0, true, j))) 0 0), ring_move (F := F) (fun c j => dutyTok ER (gc c (some (1, true, j))) 0 0),
    ring_move (F := F) (fun c j => dutyTok ER (gc c (some (2, true, j))) 0 0)] at h
  exact h

/-- A device's own share of the ghost state. -/
def linear (c : Dev nD) : sProp 𝕄 := iprop(poss (F := F) c ∗ (bigSep Finset.univ fun j : Fin 7 => stok (F := F) j c)
      ∗ (sTok (F := F) 0 c ∗ rTok (F := F) 0 c) ∗ (sTok (F := F) 1 c ∗ rTok (F := F) 1 c) ∗ (sTok (F := F) 2 c ∗ rTok (F := F) 2 c))

theorem tok_join (f : Fin 3) (c : Dev nD) : iprop(sTok (F := F) f c ∗ rTok (F := F) f c ∗ sPos (F := F) f false c) ⊢ bigSep Finset.univ fun j : Fin 7 => tok (F := F) f j c := by
  unfold tok
  simp only [bigSep_sep']
  iintro ⟨H1, H2, H3⟩
  iframe H1 H2 H3

theorem ghost_intro (K : Dev nD × CI → ℕ) (c : Dev nD) : iprop((bigSep Finset.univ fun p => cellRec m K p) ∗ linear (F := F) c) ⊢ G' m c := by
  unfold linear G' poss
  rw [ci_split, xi_split]
  iintro ⟨HR, ⟨Hn, ⟨Ha0, Hb0⟩, ⟨Ha1, Hb1⟩, ⟨Ha2, Hb2⟩⟩, Hs, ⟨Hs0, Hr0⟩, ⟨Hs1, Hr1⟩, ⟨Hs2, Hr2⟩⟩
  iexists K
  isplitl [HR]; · iexact HR
  isplitl [Hs Hs0 Hr0 Ha0 Hs1 Hr1 Ha1 Hs2 Hr2 Ha2]
  · isplitl [Hs]; · iexact Hs
    isplitl [Hs0 Hr0 Ha0]
    · iapply (tok_join (F := F) 0 c); iframe Hs0 Hr0 Ha0
    isplitl [Hs1 Hr1 Ha1]
    · iapply (tok_join (F := F) 1 c); iframe Hs1 Hr1 Ha1
    iapply (tok_join (F := F) 2 c); iframe Hs2 Hr2 Ha2
  iframe Hn Hb0 Hb1 Hb2

theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun i : CI => iprop(∃ κ : ℕ, cellInv ER (Rd m) κ (gc c i)))
          ∗ (bigSep Finset.univ fun i : CI => iprop(atPos ER (gc c i) 0 ∅ 0 ∗ reached ER (gc c i) 0)) ∗ toks c) : sProp 𝕄)
      ⊢ bigSep Finset.univ (G' m) := by
  rw [bigSep_sep', bigSep_sep', ← bigSep_univ_prod (fun p : Dev nD × CI => iprop(∃ κ : ℕ, cellInv ER (Rd m) κ (kcell p))),
    bigSep_congr (s := Finset.univ) (fun (c : Dev nD) _ => bigSep_sep' Finset.univ (fun i : CI => (atPos ER (gc c i) 0 ∅ 0 : sProp 𝕄)) (fun i => reached ER (gc c i) 0)),
    bigSep_sep', ← bigSep_univ_prod (fun p : Dev nD × CI => (reached ER (kcell p) 0 : sProp 𝕄))]
  iintro ⟨HI, ⟨Hat, #HR⟩, Htok⟩
  ihave HK := (BI.bigSep_exists_pi Finset.univ (fun (p : Dev nD × CI) (κ : ℕ) => (cellInv ER (Rd m) κ (kcell p) : sProp 𝕄))) $$ HI
  icases HK with ⟨%K, #HI⟩
  ihave Htk := (toks_around (F := F)) $$ Htok
  iapply (with_persistent (R := bigSep Finset.univ fun p => cellRec m K p) fun c _ => ghost_intro m K c)
  isplitr
  · iapply (Entails.of_eq (show iprop((bigSep Finset.univ fun p : Dev nD × CI => (cellInv ER (Rd m) (K p) (kcell p) : sProp 𝕄)) ∗ bigSep Finset.univ fun p : Dev nD × CI => (reached ER (kcell p) 0 : sProp 𝕄))
        = bigSep Finset.univ fun p => cellRec m K p from (bigSep_sep' _ _ _).symm))
    isplitl; · iexact HI
    iexact HR
  · iapply (Entails.of_eq (show iprop((bigSep Finset.univ fun c : Dev nD => poss (F := F) c) ∗ bigSep Finset.univ fun c : Dev nD => iprop((bigSep Finset.univ fun j : Fin 7 => stok (F := F) j c)
      ∗ (sTok (F := F) 0 c ∗ rTok (F := F) 0 c) ∗ (sTok (F := F) 1 c ∗ rTok (F := F) 1 c) ∗ (sTok (F := F) 2 c ∗ rTok (F := F) 2 c))) = bigSep Finset.univ fun c : Dev nD => linear (F := F) c from (bigSep_sep' _ _ _).symm))
    isplitl [Hat]; · iexact Hat
    iexact Htk

/-- All devices' semaphores become the protocol's cells. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

end Cert.MoE

end
-- ==== Proof.Launch3.lean ====
/-
# The run of the eight devices

The credit of every payment to come, the side conditions of the launch, and the run from any memory.
-/
module

public import proofs.«01_k».proof.Proof.Launch2
public import Idealize.ShloMosaic.Lib.Pipeline.CollectiveSegs
@[expose] public section

noncomputable section

namespace Cert.MoE

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

variable (ρ : Dev nD → PrngReg)

/-! ## Credit -/

/-- The cell of device `c` that a payment of kind `x` reaches. -/
abbrev inCell (c : Dev nD) (x : Due) : GSem nD τ sig := gc c (match x.1 with | none => none | some f => some (f, true, x.2))

theorem cred_one (x : Due) (c : Dev nD) :
    (Pipeline.launchCred (fun d : Dev nD => (tallyAt (dueCell d x) () (dueAmt x) : CellTallies nD τ sig Unit)) c : sProp 𝕄) ⊢ cred (tallyAt (inCell c x) () (dueAmt x)) := by
  obtain ⟨o, k⟩ := x
  match o with
  | none => exact Pipeline.launchCred_tallyAt (csem none) (rot k) (back k) (rot_back k) (back_rot k) () 1 c
  | some f => exact Pipeline.launchCred_tallyAt (csem (some (f, true, k))) (rot k) (back k) (rot_back k) (back_rot k) () (amt f) c

theorem consL {I : Type} (i : I) (l : List I) (Φ : I → sProp 𝕄) : bigSepL (i :: l) Φ = iprop(Φ i ∗ bigSepL l Φ) := bigSepL_cons i l Φ

theorem cred_list (c : Dev nD) : ∀ l : List Due,
    (Pipeline.launchCred (fun d : Dev nD => Ofrom d l) c : sProp 𝕄) ⊢ bigSepL l fun x => cred (tallyAt (inCell c x) () (dueAmt x))
  | [] => by rw [bigSepL_nil]; exact Entails.of_eq (Pipeline.launchCred_zero c)
  | x :: l => by
    rw [consL, show (fun d : Dev nD => Ofrom d (x :: l)) = fun d => Ofrom d l + tallyAt (dueCell d x) () (dueAmt x) from rfl, Pipeline.launchCred_add]
    have h := cred_list c l
    have h1 := cred_one (F := F) x c
    iintro ⟨H1, H2⟩
    ihave H1 := h $$ H1
    ihave H2 := h1 $$ H2
    iframe H1 H2

theorem bar_seven (c : Dev nD) : (bigSep Finset.univ fun j : Fin 7 => (cred (tallyAt (gc c none) () 1) : sProp 𝕄)) ⊢ cred (tallyAt (gc c none) () 7) := by
  have h2 : ∀ a b : ℕ, iprop((cred (tallyAt (gc c none) () a) : sProp 𝕄) ∗ cred (tallyAt (gc c none) () b)) ⊢ cred (tallyAt (gc c none) () (a + b)) := fun a b => by
    rw [← tallyAt_add]; exact (cred_add _ _).2
  rw [seven]
  iintro ⟨H0, H1, H2, H3, H4, H5, H6⟩
  ihave H := (h2 1 1) $$ [H0 H1]
  · iframe H0 H1
  ihave H := (h2 2 1) $$ [H H2]
  · iframe H H2
  ihave H := (h2 3 1) $$ [H H3]
  · iframe H H3
  ihave H := (h2 4 1) $$ [H H4]
  · iframe H H4
  ihave H := (h2 5 1) $$ [H H5]
  · iframe H H5
  ihave H := (h2 6 1) $$ [H H6]
  · iframe H H6
  iexact H

abbrev xCred (f : Fin 3) (c : Dev nD) : sProp 𝕄 := bigSep Finset.univ fun j : Fin 7 => (cred (tallyAt (gc c (some (f, true, j))) () (amt f)) : sProp 𝕄)

theorem append_split {I : Type} (Φ : I → sProp 𝕄) : ∀ l l' : List I, bigSepL (l ++ l') Φ ⊢ iprop(bigSepL l Φ ∗ bigSepL l' Φ)
  | [], l' => by
    rw [bigSepL_nil, List.nil_append]
    iintro H
    isplitr; · iempintro
    iexact H
  | x :: l, l' => by
    rw [List.cons_append, consL, consL]
    have h := append_split Φ l l'
    iintro ⟨H1, H2⟩
    ihave H2 := h $$ H2
    icases H2 with ⟨H2, H3⟩
    iframe H1 H2 H3

theorem dues_seven (Φ : Fin 7 → sProp 𝕄) (Ψ : Due → sProp 𝕄) (o : Option (Fin 3)) (h : ∀ k, Ψ (o, k) = Φ k) :
    bigSepL ((List.finRange 7).map fun k => (o, k)) Ψ = bigSep Finset.univ Φ := by
  rw [bigSep_univ_eq_bigSepL [(0 : Fin 7), 1, 2, 3, 4, 5, 6] (by decide) (by decide), show Φ = fun k => Ψ (o, k) from funext fun k => (h k).symm]
  rfl

theorem creds (c : Dev nD) : (Pipeline.launchCred O₀ c : sProp 𝕄) ⊢ iprop(cred (tallyAt (gc c none) () 7) ∗ xCred 0 c ∗ xCred 1 c ∗ xCred 2 c) := by
  have h := cred_list (F := F) c allDues
  have e : allDues = ((List.finRange 7).map fun k => (none, k)) ++ (((List.finRange 7).map fun k => (some 2, k)) ++ (((List.finRange 7).map fun k => (some 0, k)) ++ ((List.finRange 7).map fun k => (some 1, k)))) := by decide
  iintro H
  ihave H := (show (Pipeline.launchCred O₀ c : sProp 𝕄) ⊢ _ from h) $$ H
  ihave H := (Entails.of_eq (congrArg (fun l => bigSepL l fun x => (cred (tallyAt (inCell c x) () (dueAmt x)) : sProp 𝕄)) e)) $$ H
  ihave H := (append_split _ _ _) $$ H
  icases H with ⟨Hb, H⟩
  ihave H := (append_split _ _ _) $$ H
  icases H with ⟨H2, H⟩
  ihave H := (append_split _ _ _) $$ H
  icases H with ⟨H0, H1⟩
  ihave Hb := (Entails.of_eq (dues_seven (F := F) (fun _ => cred (tallyAt (gc c none) () 1)) _ none (fun _ => rfl))) $$ Hb
  ihave Hb := (bar_seven (F := F) c) $$ Hb
  ihave H2 := (Entails.of_eq (dues_seven (F := F) (fun k => cred (tallyAt (gc c (some (2, true, k))) () (amt 2))) _ (some 2) (fun _ => rfl))) $$ H2
  ihave H0 := (Entails.of_eq (dues_seven (F := F) (fun k => cred (tallyAt (gc c (some (0, true, k))) () (amt 0))) _ (some 0) (fun _ => rfl))) $$ H0
  ihave H1 := (Entails.of_eq (dues_seven (F := F) (fun k => cred (tallyAt (gc c (some (1, true, k))) () (amt 1))) _ (some 1) (fun _ => rfl))) $$ H1
  iframe Hb H0 H1 H2

theorem pend_join (f : Fin 3) (c : Dev nD) : iprop(sPos (F := F) f true c ∗ xCred (F := F) f c) ⊢ bigSep Finset.univ fun j : Fin 7 => pend (F := F) c (some (f, true, j)) := by
  unfold pend
  simp only [bigSep_sep']
  iintro ⟨H1, H2⟩
  isplitl [H1]; · iexact H1
  iexact H2

/-! ## The theorem's side conditions -/

/-- The capacity argument, which the kernel does not touch. -/
abbrev held (c : Dev nD) : sProp 𝕄 := iprop(((c : Thread nD τ).loc main_arg1) ↦{fullShare} m ((c : Thread nD τ).loc main_arg1))

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ held m c) := by
  rw [Pipeline.unscopedRestP_none, unscopedRest0_eq]
  unfold G' start ctx
  iintro ⟨Ha, Hlev, Hcr, -, ⟨%K, HR, Hpay, ⟨Hn, Hp0, Hp1, Hp2⟩⟩⟩
  ihave Hc := (creds (F := F) c) $$ Hcr
  icases Hc with ⟨Hb, H0, H1, H2⟩
  imodintro
  isplitr [Ha]
  · iexists K
    isplitl [HR Hlev]; · iframe HR Hlev
    isplitl [Hpay]; · iexact Hpay
    isplitl [Hn Hb]
    · unfold pend; isplitl [Hn]; · iexact Hn
      iexact Hb
    isplitl [Hp0 H0]
    · iapply (pend_join (F := F) 0 c); iframe Hp0 H0
    isplitl [Hp1 H1]
    · iapply (pend_join (F := F) 1 c); iframe Hp1 H1
    iapply (pend_join (F := F) 2 c); iframe Hp2 H2
  iexact Ha

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scoped_eq]
  unfold Φ₀
  iintro ⟨Hs, -, Hr⟩
  isplitl [Hs]; · iexact Hs
  iexact Hr

theorem phi1_exit (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = Φ₁ c from rfl, scoped_eq]
  unfold Φ₁
  iintro ⟨Hz, Hr⟩
  ihave Hz := (sems_back (F := F) c) $$ Hz
  icases Hz with ⟨Hu, Ho⟩
  isplitl [Hu]; · iexact Hu
  isplitl [Ho]; · iexact Ho
  iexact Hr

theorem lvD_pos : ∀ x : Due, 0 < lvD x := fun ⟨o, k⟩ => match o with
  | none => Nat.one_pos
  | some 0 => Nat.succ_pos _
  | some 1 => Nat.succ_pos _
  | some 2 => Nat.succ_pos _

theorem wait_stage (c : Dev nD) (q : DmaSem sig) (hq : dec (.dma q) = none) (O : CellTallies nD τ sig Unit) (hO : O = O₀ c ∨ O = 0) :
    (levAts L lv : sProp 𝕄) ⊢ MayWait (c : Thread nD τ) (.dma q) () O := by
  rcases hO with rfl | rfl
  · exact mayWait c (.dma q) (dl 0) (fun x _ => by rw [hq]; exact lvD_pos x)
  · rw [MayWait_zero]; iintro -; iempintro

theorem waits (c : Dev nD) : (levAts L lv : sProp 𝕄) ⊢ Pipeline.cellsWaits cfgs (dats m) () 0 c :=
  Pipeline.cellsWaits_intro cfgs (dats m) () 0 c fun w s t =>
    wait_stage c _ (by fin_cases w <;> fin_cases s <;> decide) _ (by
      rcases t with ⟨_ | _, ht⟩
      · exact Or.inl rfl
      · exact Or.inr rfl)

theorem share_eq (c : Dev nD) (w : Fin cfg0.W) : (dats m 0 c).share w = fullShare := by unfold Dat.share; split <;> rfl

/-! ## The run -/

def finalA (c : Dev nD) (w : Fin cfg0.W) : Buf (Elt F) ((cfg0.win w).arr.view.loc (c : Thread nD τ)) := (dats m 0 c).arrAt w cfg0.N

/-- The end of a run: every window's array, the argument left alone, and the counters. -/
def Ends (r : PUnit × MemSt nD τ sig (Elt F)) : Prop :=
  (∀ c : Dev nD, (∀ w : Fin cfg0.W, r.2.mem ((cfg0.win w).arr.view.loc (c : Thread nD τ)) = finalA m c w)
    ∧ r.2.mem ((c : Thread nD τ).loc main_arg1) = m ((c : Thread nD τ).loc main_arg1)) ∧ r.2.sem = fun _ => 0

set_option maxRecDepth 20000 in
/-- Every run of the kernel on the eight devices ends, and how. -/
theorem run_main : θ_run defs (onTc (τ := τ) (main (F := F))) (s₀ m ρ) (Ends m) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := block_pos0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund m) $$ HX with HG
      imodintro
      isplitl [HP] <;> iassumption)
    (hglob := glob m)
    (hA := fun _ _ => rfl) (hpf := fun _ k => k.elim0)
    (X := start m) (Y := fun c => unscopedSems0 c) (Z := held m)
    (hX := start_intro m ρ) (hin := phi0_intro m) (hout := phi1_exit m)
    (QY := fun c s => s.mem ((c : Thread nD τ).loc main_arg1) = m ((c : Thread nD τ).loc main_arg1)
      ∧ ∀ sm : SemLoc sig, sm.isScoped .tc = false → s.sem ((c.tc : Thread nD τ), sm) = 0)
    (hY := fun c s' => by
      iintro ⟨Hu, H0, HSI⟩
      icombine HSI H0 gives %h0
      imod (Pipeline.unscopedSems0_read (X := unscopedSems0 c) (c := c) fupd_intro s') $$ [Hu HSI] with ⟨%h1, HSI⟩
      · iframe Hu HSI
      imodintro
      isplitr; · ipureintro; exact ⟨Buf.eq_of_forall_mem_univ h0, h1⟩
      iexact HSI)
    (hQ := fun _ h hs => ⟨fun c => ⟨(h c).1, (h c).2.2.1⟩, sem_eq_zero hs fun c => (h c).2.2.2⟩)

end Cert.MoE

end
-- ==== Proof.Frames.lean ====
/-
# What the run leaves

The arguments as they were and the result buffer, and the frames of the three programs.
-/
module

public import proofs.«01_k».proof.Defs
public import proofs.«01_k».proof.Proof.Launch3
public import proofs.«01_k».proof.Proof.Gen.Kernel
public import proofs.«01_k».proof.Proof.Gen.ReferenceIdeal.Run
@[expose] public section

noncomputable section

namespace Cert.MoE

open Cert.KernelIdeal Cert.KernelIdeal.Gen
open Idealize.ShloMosaic
open Idealize.ShloMosaic.TcCoe
open Idealize.SL Idealize.SL.Sem
open Idealize.ShloMosaic.Pipeline (Dat Cfg Window)

variable {F : FTy → Type} [FloatOps F]

variable (m : (ℓ : Loc nD τ sig) → Buf (Elt F) ℓ)

/-- A whole array read through the one block of a window is the array. -/
theorem xstg_eq (c : Dev nD) : xstg m c = m ((c : Thread nD τ).loc main_arg0) :=
  Memref.read_access_unit_zero (Elt F) main_arg0 (funext fun a => by fin_cases a <;> decide) (fun a => by fin_cases a <;> decide) _
theorem rstg_eq (c : Dev nD) : rstg m c = m ((c : Thread nD τ).loc main_arg2) :=
  Memref.read_access_unit_zero (Elt F) main_arg2 (funext fun a => by fin_cases a <;> decide) (fun a => by fin_cases a <;> decide) _
theorem wstg_eq (c : Dev nD) : wstg m c = m ((c : Thread nD τ).loc main_arg3) :=
  Memref.read_access_unit_zero (Elt F) main_arg3 (funext fun a => by fin_cases a <;> decide) (fun a => by fin_cases a <;> decide) _

/-- The result buffer's one block, read back, is what the body left. -/
theorem final_block (c : Dev nD) : (win0_3.blk (0 : Fin 1)).view.read (Elt F) (finalA m c (3 : Fin 4)) = outAt m c := by
  unfold finalA
  rw [show cfg0.N = ((0 : Fin 1) : Fin cfg0.N).val + 1 from rfl, (dats m 0 c).arrAt_succ (3 : Fin 4) (0 : Fin 1)]
  rw [show (cfg0.win (3 : Fin 4)).flush (0 : Fin 1) = true from flush0_3 _, if_pos rfl]
  exact View.read_write_univ _ _

theorem final_out (c : Dev nD) : finalA m c (3 : Fin 4) = outAt m c := by
  have hz : (fun a => (win0_3.index (0 : Fin 1)) a * main_v1.ty.shape.size a) = fun _ => 0 := funext fun a => by fin_cases a <;> decide
  have hr := fun f => Memref.read_access_unit_zero (Elt F) main_v1 hz (fun a => by fin_cases a <;> decide) f
  have ho := final_block m c
  rw [hr] at ho
  exact ho

/-- How a run of the kernel ends, by its arrays. -/
def Done (r : PUnit × MemSt nD τ sig (Elt F)) : Prop :=
  (∀ c : Dev nD, r.2.mem ((c : Thread nD τ).loc main_v1) = outAt m c
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)) ∧ r.2.sem = fun _ => 0

theorem run_done (ρ : Dev nD → PrngReg) : θ_run defs (onTc (τ := τ) (main (F := F))) ⟨m, fun _ => 0, ρ⟩ (Done m) :=
  (θ_run defs _ _).mono (fun _ h => ⟨fun c =>
    ⟨((h.1 c).1 (3 : Fin 4)).trans (final_out m c), ((h.1 c).1 (0 : Fin 4)).trans ((dats m 0 c).arrAt_in (0 : Fin 4) rfl _), (h.1 c).2,
      ((h.1 c).1 (1 : Fin 4)).trans ((dats m 0 c).arrAt_in (1 : Fin 4) rfl _), ((h.1 c).1 (2 : Fin 4)).trans ((dats m 0 c).arrAt_in (2 : Fin 4) rfl _)⟩, h.2⟩)
    (run_main m ρ)

theorem run_frame (ρ : Dev nD → PrngReg) : θ_run defs (onTc (τ := τ) (main (F := F))) ⟨m, fun _ => 0, ρ⟩ (fun r =>
    (∀ c : Dev nD, r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)) ∧ r.2.sem = fun _ => 0) :=
  (θ_run defs _ _).mono (fun _ h => ⟨fun c => (h.1 c).2, h.2⟩) (run_done m ρ)

theorem frame_kernelIdeal : Cert.quiescent_KernelIdeal := fun m ρ _ => run_frame (F := Ideal) m ρ

/-- The two printed programs have the same text. -/
theorem same_bodies : @Cert.Kernel.defs₀ Bits _ _ = @Cert.KernelIdeal.defs₀ Bits _ _ := by
  unfold Cert.Kernel.defs₀ Cert.KernelIdeal.defs₀
  congr 1
  funext x s
  match x, s with
  | 0, (t, s) => rfl

theorem same_defs : @Cert.Kernel.defs Bits _ _ = @Cert.KernelIdeal.defs Bits _ _ :=
  congrArg (Pipeline.defs (Cert.KernelIdeal.pcfgs (F := Bits))) same_bodies

theorem frame_kernel : Cert.quiescent_Kernel := fun m ρ _ => by
  have h := run_frame (F := Bits) m ρ
  rw [← same_defs] at h
  exact h

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.MoE

end
-- ==== Proof.Words.lean ====
module

public import proofs.«01_k».proof.Proof.Vals
public import Idealize.ShloMosaic.Lib.Pointwise
public import Idealize.ShloMosaic.Lib.ValueIdx
public import Idealize.ShloMosaic.Lib.Routing.OpsOne
@[expose] public section

noncomputable section

namespace Cert.MoE

open Cert.KernelIdeal Cert.KernelIdeal.Gen
open Idealize.ShloMosaic
open Idealize.ShloMosaic.TcCoe
open Idealize.SL Idealize.SL.Sem

/-! ## Words that hold numbers -/

theorem fold_addi {n : ℕ} (f : Fin n → BitVec 32) : Finset.fold IntOp.addi 0#32 f Finset.univ = ∑ i, f i := rfl

theorem sum_word {ι : Type*} (s : Finset ι) (f : ι → ℕ) : (∑ i ∈ s, BitVec.ofNat 32 (f i)) = BitVec.ofNat 32 (∑ i ∈ s, f i) := by
  induction s using Finset.cons_induction with
  | empty => rfl
  | cons a s ha ih => rw [Finset.sum_cons, Finset.sum_cons, ih, BitVec.ofNat_add]

theorem word_inj {a b : ℕ} (ha : a < 2 ^ 32) (hb : b < 2 ^ 32) : BitVec.ofNat 32 a = BitVec.ofNat 32 b ↔ a = b := by
  refine ⟨fun h => ?_, fun h => by rw [h]⟩
  have := congrArg BitVec.toNat h
  rwa [BitVec.toNat_ofNat, BitVec.toNat_ofNat, Nat.mod_eq_of_lt ha, Nat.mod_eq_of_lt hb] at this

theorem word_sub (a b : ℕ) : BitVec.ofNat 32 (a + b) - BitVec.ofNat 32 b = BitVec.ofNat 32 a := by
  rw [BitVec.ofNat_add, BitVec.add_sub_cancel]

theorem word_toInt {a : ℕ} (ha : a < 2 ^ 31) : (BitVec.ofNat 32 a).toInt = a := by
  rw [BitVec.toInt_eq_toNat_of_lt (by rw [BitVec.toNat_ofNat, Nat.mod_eq_of_lt (by omega)]; omega), BitVec.toNat_ofNat, Nat.mod_eq_of_lt (by omega)]

theorem select_ite {α : Type} (p : Prop) [Decidable p] (x y : α) : Scalar.select (BitVec.ofBool (decide p)) x y = if p then x else y := by
  by_cases h : p <;> simp [Scalar.select, h]

theorem cmpi_eq_word (a b : BitVec 32) : IntOp.cmpi CmpIPredicate.eq a b = BitVec.ofBool (decide (a = b)) := by
  show BitVec.ofBool (a == b) = _
  rw [Bool.beq_eq_decide_eq]

theorem cmpi_slt_word {a b : ℕ} (ha : a < 2 ^ 31) (hb : b < 2 ^ 31) :
    IntOp.cmpi CmpIPredicate.slt (BitVec.ofNat 32 a) (BitVec.ofNat 32 b) = BitVec.ofBool (decide (a < b)) := by
  show BitVec.ofBool ((BitVec.ofNat 32 a).slt (BitVec.ofNat 32 b)) = _
  rw [BitVec.slt_eq_decide, word_toInt ha, word_toInt hb]
  simp only [Nat.cast_lt]

theorem cmpi_sle_word {a b : ℕ} (ha : a < 2 ^ 31) (hb : b < 2 ^ 31) :
    IntOp.cmpi CmpIPredicate.sle (BitVec.ofNat 32 a) (BitVec.ofNat 32 b) = BitVec.ofBool (decide (a ≤ b)) := by
  show BitVec.ofBool ((BitVec.ofNat 32 a).sle (BitVec.ofNat 32 b)) = _
  rw [BitVec.sle_eq_decide, word_toInt ha, word_toInt hb]
  simp only [Nat.cast_le]

theorem andi_bool (p q : Prop) [Decidable p] [Decidable q] :
    IntOp.andi (BitVec.ofBool (decide p)) (BitVec.ofBool (decide q)) = BitVec.ofBool (decide (p ∧ q)) := by
  by_cases hp : p <;> by_cases hq : q <;> simp [hp, hq, IntOp.andi]

theorem minsi_word {a b : ℕ} (ha : a < 2 ^ 31) (hb : b < 2 ^ 31) : IntOp.minsi (BitVec.ofNat 32 a) (BitVec.ofNat 32 b) = BitVec.ofNat 32 (min a b) := by
  unfold IntOp.minsi
  simp only [BitVec.slt_eq_decide, BitVec.sle_eq_decide, word_toInt ha, word_toInt hb, Nat.cast_lt, Nat.cast_le, decide_eq_true_eq]
  split <;> congr 1 <;> omega

/-- The part of 204 that `p` leaves, as the program takes it. -/
theorem left_word {p : ℕ} (hp : p < 2 ^ 30) : IntOp.maxsi (IntOp.subi 204#32 (BitVec.ofNat 32 p)) 0#32 = BitVec.ofNat 32 (204 - p) := by
  show (if _ then _ else _) = _
  have hs : (204#32 - BitVec.ofNat 32 p).toInt = 204 - (p : Int) := by
    rw [BitVec.toInt_sub, word_toInt (a := p) (by omega), show (204#32 : BitVec 32).toInt = 204 from by decide]
    exact Int.bmod_eq_of_le (by omega) (by omega)
  by_cases h : p ≤ 204
  · have e : 204#32 - BitVec.ofNat 32 p = BitVec.ofNat 32 (204 - p) := by
      rw [← word_sub (204 - p) p, Nat.sub_add_cancel h]
    simp only [IntOp.subi, BitVec.slt_eq_decide, BitVec.sle_eq_decide, hs, show (0#32 : BitVec 32).toInt = 0 from rfl, decide_eq_true_eq]
    split
    · exact e
    · rw [show p = 204 from by omega]
  · simp only [IntOp.subi, BitVec.slt_eq_decide, BitVec.sle_eq_decide, hs, show (0#32 : BitVec 32).toInt = 0 from rfl, decide_eq_true_eq]
    rw [show 204 - p = 0 from by omega]
    split
    · omega
    · rfl

end Cert.MoE

end
-- ==== Proof.Scan.lean ====
module

public import proofs.«01_k».proof.Proof.Words
public import Idealize.ShloMosaic.Lib.Pointwise
public import Idealize.ShloMosaic.Lib.ValueIdx
public import Idealize.ShloMosaic.Lib.Routing.OpsOne
@[expose] public section

noncomputable section

namespace Cert.MoE

open Cert.KernelIdeal Cert.KernelIdeal.Gen
open Idealize.ShloMosaic
open Idealize.ShloMosaic.TcCoe
open Idealize.SL Idealize.SL.Sem

/-! ## Prefix counts by doubling -/

/-- The sum of the last `s` numbers of `f` up to place `n`. -/
def win (f : ℕ → ℕ) (s n : ℕ) : ℕ := ∑ j ∈ Finset.range s, if j ≤ n then f (n - j) else 0

theorem win_one (f : ℕ → ℕ) (n : ℕ) : win f 1 n = f n := by simp [win]

theorem win_double (f : ℕ → ℕ) (s n : ℕ) : win f (s + s) n = win f s n + if n < s then 0 else win f s (n - s) := by
  unfold win
  rw [Finset.sum_range_add]
  congr 1
  by_cases h : n < s
  · rw [if_pos h]
    exact Finset.sum_eq_zero fun j _ => if_neg (by omega)
  · rw [if_neg h]
    refine Finset.sum_congr rfl fun j _ => ?_
    by_cases hj : s + j ≤ n
    · rw [if_pos hj, if_pos (by omega), Nat.sub_sub]
    · rw [if_neg hj, if_neg (by omega)]

/-- A window as long as the place reaches back sums the whole prefix. -/
theorem win_full (f : ℕ → ℕ) {s n : ℕ} (h : n < s) : win f s n = (∑ j ∈ Finset.range n, f j) + f n := by
  unfold win
  rw [← Finset.sum_range_succ, ← Finset.sum_filter, ← Finset.sum_range_reflect]
  refine Finset.sum_congr ?_ fun j hj => ?_
  · ext j; simp only [Finset.mem_filter, Finset.mem_range]; omega
  · congr 1

/-- A matrix whose column `e` holds, at each place, the sum of the last `s` numbers of `f e`. -/
def Holds {n : ℕ} (f : Fin 64 → ℕ → ℕ) (s : ℕ) (v : IVec ⟨2, ![n, 64]⟩ 32) : Prop :=
  ∀ (i : Fin n) (e : Fin 64), v (ix2 i e) = BitVec.ofNat 32 (win (f e) s i.val)

/-- One doubling step: a matrix plus itself moved down by `s` rows. -/
theorem Holds.double {n s t : ℕ} {f : Fin 64 → ℕ → ℕ} {v : IVec ⟨2, ![n, 64]⟩ 32} (hv : Holds f s v)
    (h₁ : Shape.Slices ⟨2, ![n, 64]⟩ ![0, 0] ⟨2, ![t, 64]⟩)
    (h₂ : Shape.Concatenates [⟨2, ![s, 64]⟩, ⟨2, ![t, 64]⟩] ⟨2, ![n, 64]⟩ (0 : Fin 2)) :
    Holds f (s + s) (addi v (concatenate ⟨2, ![n, 64]⟩ (0 : Fin 2) [⟨⟨2, ![s, 64]⟩, broadcast ⟨2, ![s, 64]⟩ 0#32⟩,
      ⟨⟨2, ![t, 64]⟩, extractStridedSlice ⟨2, ![t, 64]⟩ ![0, 0] v h₁⟩] h₂)) := by
  have hst : s + t = n := by have := h₂.2.2; simpa using this
  intro i e
  show v (ix2 i e) + _ = _
  rw [win_double, hv i e, BitVec.ofNat_add]
  congr 1
  by_cases h : i.val < s
  · rw [if_pos h]
    exact concatenate_pair_apply_left (s₁ := ⟨2, ![s, 64]⟩) (0 : Fin 2) (broadcast ⟨2, ![s, 64]⟩ 0#32) _ h₂ (ix2 i e) rfl (ix2 (⟨i.val, h⟩ : Fin s) e)
      (fun b => by fin_cases b <;> rfl)
  · rw [if_neg h]
    have hi := i.isLt
    refine (concatenate_pair_apply_right (s₁ := ⟨2, ![s, 64]⟩) (s₂ := ⟨2, ![t, 64]⟩) (0 : Fin 2) (broadcast ⟨2, ![s, 64]⟩ 0#32) _ h₂ (ix2 i e) rfl rfl
      (ix2 (⟨i.val - s, by omega⟩ : Fin t) e) (fun b hb => ?_) ?_).trans ?_
    · fin_cases b
      · exact absurd rfl hb
      · rfl
    · show i.val - s + s = i.val
      omega
    · refine (extractStridedSlice_apply (s := ⟨2, ![n, 64]⟩) (t := ⟨2, ![t, 64]⟩) ![0, 0] v h₁ _ (ix2 (⟨i.val - s, by omega⟩ : Fin n) e) (fun b => ?_)).trans (hv _ e)
      fin_cases b
      · show i.val - s = 0 + (i.val - s)
        omega
      · show e.val = 0 + e.val
        omega

/-- Numbers at the places of a finite range, zero past its end. -/
def seq {n : ℕ} (g : Fin n → ℕ) (k : ℕ) : ℕ := if h : k < n then g ⟨k, h⟩ else 0

theorem seq_val {n : ℕ} (g : Fin n → ℕ) (i : Fin n) : seq g i.val = g i := dif_pos i.isLt

theorem seq_prefix {n : ℕ} (g : Fin n → ℕ) (i : Fin n) : (∑ j ∈ Finset.range i.val, seq g j) = ∑ j : Fin n, if j < i then g j else 0 := by
  have h : ∀ j : Fin n, (if j < i then g j else 0) = (fun k => if k < i.val then seq g k else 0) j.val := fun j => by
    show _ = if j.val < i.val then seq g j.val else 0
    rw [seq_val]; rfl
  rw [Finset.sum_congr rfl fun j _ => h j, Fin.sum_univ_eq_sum_range (fun k => if k < i.val then seq g k else 0) n, ← Finset.sum_filter]
  refine Finset.sum_congr ?_ fun _ _ => rfl
  ext j; have := i.isLt; simp only [Finset.mem_filter, Finset.mem_range]; omega

theorem holds_one {n : ℕ} (g : Fin 64 → Fin n → ℕ) (v : IVec ⟨2, ![n, 64]⟩ 32) (h : ∀ i e, v (ix2 i e) = BitVec.ofNat 32 (g e i)) :
    Holds (fun e => seq (g e)) 1 v := fun i e => by
  rw [h i e, win_one]
  exact congrArg _ (seq_val (g e) i).symm

theorem holds_full {n s : ℕ} (hs : n ≤ s) (g : Fin 64 → Fin n → ℕ) (v : IVec ⟨2, ![n, 64]⟩ 32) (h : Holds (fun e => seq (g e)) s v) (i : Fin n) (e : Fin 64) :
    v (ix2 i e) = BitVec.ofNat 32 ((∑ j : Fin n, if j < i then g e j else 0) + g e i) := by
  rw [h i e, win_full _ (lt_of_lt_of_le i.isLt hs), ← seq_prefix]
  exact congrArg (fun k => BitVec.ofNat 32 (_ + k)) (seq_val (g e) i)

end Cert.MoE

end
-- ==== Proof.Route.lean ====
module

public import proofs.«01_k».proof.Proof.Scan
@[expose] public section

noncomputable section

namespace Cert.MoE

open Cert.KernelIdeal Cert.KernelIdeal.Gen
open Idealize.ShloMosaic
open Idealize.ShloMosaic.TcCoe
open Idealize.SL Idealize.SL.Sem

/-! ## The routing numbers: counts, ranks, shares and places -/

section Numbers
variable (R : Fin 8 → Fin 2048 → BitVec 32)

/-- One if token `i` of device `b` chose expert `e`, else zero. -/
def hot (b : Fin 8) (i : Fin 2048) (e : Fin 64) : ℕ := if R b i = BitVec.ofNat 32 e.val then 1 else 0
/-- How many tokens of device `b` chose expert `e`. -/
def num (b : Fin 8) (e : Fin 64) : ℕ := ∑ i, hot R b i e
/-- How many of the tokens before `i` on its device chose expert `e`. -/
def rnk (b : Fin 8) (i : Fin 2048) (e : Fin 64) : ℕ := ∑ j : Fin 2048, if j < i then hot R b j e else 0
/-- How many tokens of the devices before `b` chose expert `e`. -/
def prv (b : Fin 8) (e : Fin 64) : ℕ := ∑ a : Fin 8, if a < b then num R a e else 0
/-- How many of device `b`'s tokens expert `e` serves. -/
def share (b : Fin 8) (e : Fin 64) : ℕ := min (min (204 - prv R b e) (num R b e)) 80
/-- Expert `k` of device `q`. -/
def ex (q k : Fin 8) : Fin 64 := ⟨8 * q.val + k.val, by omega⟩
/-- Where the rows of device `q`'s expert `k` begin among the rows device `b` packs for `q`. -/
def place (b q k : Fin 8) : ℕ := ∑ j : Fin 8, if j < k then share R b (ex q j) else 0

theorem hot_le (b i e) : hot R b i e ≤ 1 := by unfold hot; split <;> omega

theorem num_le (b e) : num R b e ≤ 2048 := by
  unfold num
  refine (Finset.sum_le_sum fun i _ => hot_le R b i e).trans ?_
  simp

theorem rnk_le (b i e) : rnk R b i e ≤ num R b e := by
  unfold rnk num
  refine Finset.sum_le_sum fun j _ => ?_
  split <;> omega

theorem prv_le (b e) : prv R b e ≤ 8 * 2048 := by
  unfold prv
  refine (Finset.sum_le_sum (g := fun _ => 2048) fun a _ => ?_).trans ?_
  · split
    · exact num_le R a e
    · omega
  · simp

theorem share_le (b e) : share R b e ≤ 80 := min_le_right _ _

theorem place_le (b q k) : place R b q k ≤ 640 := by
  unfold place
  refine (Finset.sum_le_sum (g := fun _ => 80) fun a _ => ?_).trans ?_
  · split
    · exact share_le R b _
    · omega
  · simp

end Numbers

variable {F : FTy → Type} [FloatOps F]
variable (m : (ℓ : Loc nD τ sig) → Buf (Elt F) ℓ)

/-- The experts that device `b`'s tokens chose. -/
def picks (b : Fin 8) (i : Fin 2048) : BitVec 32 := rstg m b (ix2 i 0)

theorem v37_at (c : Dev nD) (i : Fin 2048) (e : Fin 64) : v37 m c (ix2 i e) = BitVec.ofNat 32 (hot (picks m) c i e) := by
  have h : v37 m c (ix2 i e) = BitVec.setWidth 32 (IntOp.cmpi .eq (rstg m c (ix2 i 0)) (BitVec.ofNat 32 e)) := by
    unfold v37; pointwise [k0_pay25, k0_pay24]
  rw [h, cmpi_eq_word]
  unfold hot picks
  by_cases h : rstg m c (ix2 i 0) = BitVec.ofNat 32 e.val <;> simp [h]

theorem cntv_at (b : Dev nD) (e : Fin 64) : cntv m b (ix2 0 e) = BitVec.ofNat 32 (num (picks m) b e) := by
  have h : cntv m b (ix2 0 e) = Finset.fold IntOp.addi 0#32 (fun x => v37 m b (ix2 x e)) Finset.univ := by
    unfold cntv v37; pointwise [k0_pay26]
  rw [h, fold_addi, Finset.sum_congr rfl fun i _ => v37_at m b i e, sum_word]
  rfl

theorem cntF_at (b : Fin 8) (e : Fin 64) : cntF m (ix2 b e) = BitVec.ofNat 32 (num (picks m) b e) := cntv_at m b e

theorem v37_holds (c : Dev nD) : Holds (fun e => seq fun i => hot (picks m) c i e) 1 (v37 m c) :=
  holds_one (fun e i => hot (picks m) c i e) _ fun i e => v37_at m c i e

theorem v161_at (c : Dev nD) (i : Fin 2048) :
    v161 m c (ix2 i 0) = BitVec.ofNat 32 (∑ e, hot (picks m) c i e * rnk (picks m) c i e) := by
  have h2 := ((v37_holds m c).double slices_S2048x64_o0_0_S2047x64 concatenates_S1x64_S2047x64_S2048x64_d0).double slices_S2048x64_o0_0_S2046x64
    concatenates_S2x64_S2046x64_S2048x64_d0
  have h11 := ((((((((h2.double slices_S2048x64_o0_0_S2044x64 concatenates_S4x64_S2044x64_S2048x64_d0).double slices_S2048x64_o0_0_S2040x64
    concatenates_S8x64_S2040x64_S2048x64_d0).double slices_S2048x64_o0_0_S2032x64 concatenates_S16x64_S2032x64_S2048x64_d0).double
    slices_S2048x64_o0_0_S2016x64 concatenates_S32x64_S2016x64_S2048x64_d0).double slices_S2048x64_o0_0_S1984x64
    concatenates_S64x64_S1984x64_S2048x64_d0).double slices_S2048x64_o0_0_S1920x64 concatenates_S128x64_S1920x64_S2048x64_d0).double
    slices_S2048x64_o0_0_S1792x64 concatenates_S256x64_S1792x64_S2048x64_d0).double slices_S2048x64_o0_0_S1536x64
    concatenates_S512x64_S1536x64_S2048x64_d0).double slices_S2048x64_o0_0_S1024x64 concatenates_S1024x64_S1024x64_S2048x64_d0
  obtain ⟨w, hw, e⟩ : ∃ w : IVec S2048x64 32, Holds (fun e => seq fun i => hot (picks m) c i e) 2048 w ∧
      v161 m c = shapeCast S2048x1 (multiReductionI .add [1] S2048 (muli (v37 m c) (subi w (v37 m c))) 0#32 reduces_S2048x64_S2048 rfl)
        shapeCasts_S2048_S2048x1 := ⟨_, h11, rfl⟩
  have h : v161 m c (ix2 i 0) = Finset.fold IntOp.addi 0#32 (fun x => IntOp.muli (v37 m c (ix2 i x)) (IntOp.subi (w (ix2 i x)) (v37 m c (ix2 i x)))) Finset.univ := by
    rw [e]; pointwise
  rw [h, fold_addi, ← sum_word]
  refine Finset.sum_congr rfl fun e _ => ?_
  rw [holds_full le_rfl (fun e i => hot (picks m) c i e) w hw i e, v37_at]
  show _ * (BitVec.ofNat 32 _ - BitVec.ofNat 32 _) = _
  rw [word_sub, ← BitVec.ofNat_mul]
  rfl

theorem v252_at (b : Fin 8) (e : Fin 64) : v252 m (ix2 b e) = BitVec.ofNat 32 (204 - prv (picks m) b e) := by
  have h1 : Holds (fun e => seq fun b => num (picks m) b e) 1 (cntF m) :=
    holds_one (fun e b => num (picks m) b e) _ fun b e => cntF_at m b e
  have h3 := ((h1.double slices_S8x64_o0_0_S7x64 concatenates_S1x64_S7x64_S8x64_d0).double slices_S8x64_o0_0_S6x64
    concatenates_S2x64_S6x64_S8x64_d0).double slices_S8x64_o0_0_S4x64 concatenates_S4x64_S4x64_S8x64_d0
  obtain ⟨w, hw, e'⟩ : ∃ w : IVec S8x64 32, Holds (fun e => seq fun b => num (picks m) b e) 8 w ∧
      v252 m = maxsi (subi (broadcast S8x64 204#32) (subi w (cntF m))) (broadcast S8x64 0#32) := ⟨_, h3, rfl⟩
  rw [e']
  show IntOp.maxsi (IntOp.subi 204#32 (IntOp.subi (w (ix2 b e)) (cntF m (ix2 b e)))) 0#32 = _
  have hs : IntOp.subi (w (ix2 b e)) (cntF m (ix2 b e)) = BitVec.ofNat 32 (prv (picks m) b e) := by
    rw [holds_full le_rfl (fun e b => num (picks m) b e) w hw b e, cntF_at]
    exact word_sub _ _
  rw [hs, left_word]
  have := prv_le (picks m) b e
  omega

theorem v255_at (b : Fin 8) (e : Fin 64) : v255 m (ix2 b e) = BitVec.ofNat 32 (share (picks m) b e) := by
  show IntOp.minsi (IntOp.minsi (v252 m (ix2 b e)) (cntF m (ix2 b e))) 80#32 = _
  have h1 := prv_le (picks m) b e
  have h2 := num_le (picks m) b e
  rw [v252_at, cntF_at, minsi_word (by omega) (by omega), minsi_word (by omega) (by omega)]
  rfl

end Cert.MoE

end
-- ==== Proof.Places.lean ====
module

public import proofs.«01_k».proof.Proof.Route
public import Idealize.ShloMosaic.Lib.Pointwise
public import Idealize.ShloMosaic.Lib.ValueIdx
public import Idealize.ShloMosaic.Lib.Routing.OpsOne
@[expose] public section

noncomputable section

namespace Cert.MoE

open Cert.KernelIdeal Cert.KernelIdeal.Gen
open Idealize.ShloMosaic
open Idealize.ShloMosaic.TcCoe
open Idealize.SL Idealize.SL.Sem

/-! ## Where an expert's rows begin, and the words of a device -/

variable {F : FTy → Type} [FloatOps F]
variable (m : (ℓ : Loc nD τ sig) → Buf (Elt F) ℓ)

/-- The device that holds an expert. -/
def dev (e : Fin 64) : Fin 8 := ⟨e.val / 8, by omega⟩
/-- An expert's number among those of its device. -/
def seat (e : Fin 64) : Fin 8 := ⟨e.val % 8, by omega⟩

theorem ex_dev_seat (e : Fin 64) : ex (dev e) (seat e) = e := Fin.ext (show 8 * (e.val / 8) + e.val % 8 = e.val by omega)

theorem seat_word : ∀ q k : Fin 8, IntOp.remsi .vector (BitVec.ofNat 32 (ex q k).val) 8#32 = BitVec.ofNat 32 k.val := by decide +kernel

/-- The `t`-th term of the sum that makes an expert's first row: the share of the expert `t` before it on its device. -/
def shift (b q k : Fin 8) (t : ℕ) : ℕ := if h : t ≤ k.val then share (picks m) b (ex q ⟨k.val - t, by omega⟩) else 0

theorem shift_word (b q k : Fin 8) (t : ℕ) (h1 : 1 ≤ t) (h7 : t ≤ 7) :
    Scalar.select (IntOp.cmpi CmpIPredicate.sge (IntOp.remsi ArithUnit.vector (BitVec.ofNat 32 (ex q k).val) 8#32) (BitVec.ofNat 32 t))
      (if h : (ex q k).val < t then 0#32 else v255 m (ix2 b ⟨(ex q k).val - t, by have := (ex q k).isLt; omega⟩)) 0#32 = BitVec.ofNat 32 (shift m b q k t) := by
  have hk := k.isLt
  have hc : IntOp.cmpi CmpIPredicate.sge (BitVec.ofNat 32 k.val) (BitVec.ofNat 32 t) = IntOp.cmpi CmpIPredicate.sle (BitVec.ofNat 32 t) (BitVec.ofNat 32 k.val) := rfl
  rw [seat_word, hc, cmpi_sle_word (by omega) (by omega), select_ite]
  unfold shift
  by_cases h : t ≤ k.val
  · have he : ¬(ex q k).val < t := by show ¬(8 * q.val + k.val < t); omega
    rw [if_pos h, dif_neg he, dif_pos h, v255_at]
    have hx : (⟨(ex q k).val - t, by have := (ex q k).isLt; omega⟩ : Fin 64) = ex q ⟨k.val - t, by omega⟩ :=
      Fin.ext (show 8 * q.val + k.val - t = 8 * q.val + (k.val - t) by omega)
    rw [hx]
  · rw [if_neg h, dif_neg h]

theorem shift_sum (b q k : Fin 8) : 0 + shift m b q k 1 + shift m b q k 2 + shift m b q k 3 + shift m b q k 4 + shift m b q k 5 + shift m b q k 6 +
    shift m b q k 7 = place (picks m) b q k := by
  unfold place shift
  rw [Fin.sum_univ_eight]
  fin_cases k <;> simp <;> ring_nf <;> rfl

theorem v341_at (b q k : Fin 8) : v341 m (ix2 b (ex q k)) = BitVec.ofNat 32 (place (picks m) b q k) := by
  unfold v341 v293 v296 v256
  pointwise [k0_pay34, k0_pay33, k0_pay32]
  rw [← shift_sum]
  simp only [BitVec.ofNat_add, ← shift_word m b q k _ (le_refl 1) (by decide), ← shift_word m b q k 2 (by decide) (by decide), ← shift_word m b q k 3 (by decide) (by decide),
    ← shift_word m b q k 4 (by decide) (by decide), ← shift_word m b q k 5 (by decide) (by decide), ← shift_word m b q k 6 (by decide) (by decide), ← shift_word m b q k 7 (by decide) (by decide)]
  rfl

theorem v2_word : ∀ c : Fin 8, v2 c = BitVec.ofNat 32 c.val := by decide +kernel

theorem trip_word : ∀ s : Fin 8, Scf.iv 0#32 1#32 s.val = BitVec.ofNat 32 s.val := by decide +kernel

theorem word_eq_fin {n : ℕ} (hn : n ≤ 2 ^ 32) (a b : Fin n) : BitVec.ofNat 32 a.val = BitVec.ofNat 32 b.val ↔ a = b :=
  (word_inj (by omega) (by omega)).trans Fin.ext_iff.symm

theorem pick_sum {n : ℕ} (f : Fin n → BitVec 32) (b : Fin n) : (∑ x, if x = b then f x else 0#32) = f b :=
  (Finset.sum_ite_eq' Finset.univ b f).trans (if_pos (Finset.mem_univ b))

/-- The one row of a stack of eight that a word names. -/
theorem fold_row (f : Fin 8 → BitVec 32) (b : Fin 8) :
    Finset.fold IntOp.addi 0#32 (fun x : Fin 8 => Scalar.select (IntOp.cmpi .eq (BitVec.ofNat 32 x.val) (BitVec.ofNat 32 b.val)) (f x) 0#32) Finset.univ = f b := by
  rw [fold_addi]
  simp only [cmpi_eq_word, select_ite, word_eq_fin (n := 8) (by decide)]
  exact pick_sum f b

theorem ex_word : ∀ q k : Fin 8, Scalar.addi (Scalar.muli (BitVec.ofNat 32 q.val) 8#32) (BitVec.ofNat 32 k.val) = BitVec.ofNat 32 (ex q k).val := by decide +kernel

/-- The one entry of a row of sixty-four that a word names. -/
theorem fold_entry (f : Fin 64 → BitVec 32) (q k : Fin 8) :
    Finset.fold IntOp.addi 0#32 (fun x : Fin 1 × Fin 64 => Scalar.select (IntOp.cmpi .eq (BitVec.ofNat 32 x.2.val)
      (Scalar.addi (Scalar.muli (BitVec.ofNat 32 q.val) 8#32) (BitVec.ofNat 32 k.val))) (f x.2) 0#32) Finset.univ = f (ex q k) := by
  show (∑ x : Fin 1 × Fin 64, _) = _
  rw [Fintype.sum_prod_type, Fin.sum_univ_one]
  simp only [ex_word, cmpi_eq_word, select_ite, word_eq_fin (n := 64) (by decide)]
  exact pick_sum f (ex q k)

theorem v1005_at (s : Fin 8) (e : Fin 64) : v1005 m (Fin.cast trips1.symm s) (ix2 0 e) = BitVec.ofNat 32 (share (picks m) s e) := by
  unfold v1005 v233
  pointwise [k0_pay2]
  rw [trip_word, fold_row (fun x => v255 m (ix2 x e)), v255_at]

theorem v1011_at (s q k : Fin 8) : v1011 m (Fin.cast trips1.symm s) (ix2 0 (ex q k)) = BitVec.ofNat 32 (place (picks m) s q k) := by
  unfold v1011 v233
  pointwise [k0_pay3]
  rw [trip_word, fold_row (fun x => v341 m (ix2 x (ex q k))), v341_at]

end Cert.MoE

end
-- ==== Proof.Masks.lean ====
module

public import proofs.«01_k».proof.Proof.Places
public import Idealize.ShloMosaic.Lib.Pointwise
public import Idealize.ShloMosaic.Lib.ValueIdx
public import Idealize.ShloMosaic.Lib.Routing.OpsOne
@[expose] public section

noncomputable section

namespace Cert.MoE

open Cert.KernelIdeal Cert.KernelIdeal.Gen
open Idealize.ShloMosaic
open Idealize.ShloMosaic.TcCoe
open Idealize.SL Idealize.SL.Sem

/-! ## The packing and unpacking masks -/

section Sums
variable {R : Fin 8 → Fin 2048 → BitVec 32} {c : Fin 8} {i : Fin 2048}

/-- A sum over experts of a token that chose one. -/
theorem hot_sum {e : Fin 64} (h : R c i = BitVec.ofNat 32 e.val) (g : Fin 64 → ℕ) : (∑ x, hot R c i x * g x) = g e := by
  have h' : ∀ x, hot R c i x * g x = if x = e then g x else 0 := fun x => by
    unfold hot
    rw [h]
    by_cases hx : x = e
    · rw [hx, if_pos rfl, if_pos rfl, one_mul]
    · rw [if_neg (fun hw => hx ((word_eq_fin (by decide) e x).mp hw).symm), if_neg hx, zero_mul]
  rw [Finset.sum_congr rfl fun x _ => h' x]
  simp

/-- A sum over experts of a token that chose none. -/
theorem hot_none (h : ∀ e : Fin 64, R c i ≠ BitVec.ofNat 32 e.val) (g : Fin 64 → ℕ) : (∑ x, hot R c i x * g x) = 0 :=
  Finset.sum_eq_zero fun x _ => by unfold hot; rw [if_neg (h x), zero_mul]

theorem hot_bound (g : Fin 64 → ℕ) (n : ℕ) (hg : ∀ x, g x ≤ n) : (∑ x, hot R c i x * g x) ≤ n := by
  by_cases h : ∃ e : Fin 64, R c i = BitVec.ofNat 32 e.val
  · obtain ⟨e, he⟩ := h
    rw [hot_sum he]
    exact hg e
  · rw [hot_none fun e he => h ⟨e, he⟩]
    omega

end Sums

section Words
variable {F : FTy → Type} [FloatOps F]
variable (m : (ℓ : Loc nD τ sig) → Buf (Elt F) ℓ)

theorem fold_hot (c : Fin 8) (i : Fin 2048) (f : Fin 64 → BitVec 32) (g : Fin 64 → ℕ) (hf : ∀ x, f x = BitVec.ofNat 32 (g x)) :
    Finset.fold IntOp.addi 0#32 (fun x => IntOp.muli (v37 m c (ix2 i x)) (f x)) Finset.univ = BitVec.ofNat 32 (∑ x, hot (picks m) c i x * g x) := by
  rw [fold_addi, ← sum_word]
  refine Finset.sum_congr rfl fun x _ => ?_
  rw [v37_at, hf, BitVec.ofNat_mul]
  rfl

theorem v342_at (c : Fin 8) (x : Fin 8) (e : Fin 64) : v342 c (ix2 x e) = BitVec.ofNat 32 c.val := v2_word c

end Words

variable (m : (ℓ : Loc nD τ sig) → Buf (Elt Ideal) ℓ)

/-- Token `i` of device `c` has a row, and it is row `r` of its group. -/
def sits (R : Fin 8 → Fin 2048 → BitVec 32) (c : Fin 8) (i : Fin 2048) (r : ℕ) : Prop :=
  (∑ e, hot R c i e * rnk R c i e) < (∑ e, hot R c i e * share R c e) ∧
    (∑ e, hot R c i e * rnk R c i e) + (∑ e, hot R c i e * place R c (dev e) (seat e)) = r

instance (R c i r) : Decidable (sits R c i r) := by unfold sits; infer_instance

theorem base_at (c : Fin 8) (i : Fin 2048) (r : Fin 384) : base m c (ix2 i r) = if sits (picks m) c i r.val then (1 : EReal) else 0 := by
  have h1 := hot_bound (R := picks m) (c := c) (i := i) (rnk (picks m) c i) 2048 fun x => (rnk_le _ c i x).trans (num_le _ c x)
  have h2 := hot_bound (R := picks m) (c := c) (i := i) (share (picks m) c) 80 (share_le _ c)
  have h3 := hot_bound (R := picks m) (c := c) (i := i) (fun e => place (picks m) c (dev e) (seat e)) 640 fun e => place_le _ c _ _
  unfold base v233
  pointwise [k0_pay36]
  simp only [v342_at, v2_word]
  simp only [fold_row (fun y => v255 m (ix2 y _)), fold_row (fun y => v341 m (ix2 y _))]
  rw [fold_hot m c i (fun x => v255 m (ix2 c x)) (share (picks m) c) fun x => v255_at m c x,
    fold_hot m c i (fun x => v341 m (ix2 c x)) (fun e => place (picks m) c (dev e) (seat e)) fun x => by
      have := v341_at m c (dev x) (seat x)
      rwa [ex_dev_seat] at this,
    v161_at, cmpi_slt_word (by omega) (by omega)]
  have ha : ∀ a b : ℕ, IntOp.addi (BitVec.ofNat 32 a) (BitVec.ofNat 32 b) = BitVec.ofNat 32 (a + b) := fun a b => (BitVec.ofNat_add a b).symm
  have hr := r.isLt
  rw [ha, cmpi_eq_word, andi_bool, select_ite]
  unfold sits
  simp only [word_inj (show (∑ e, hot (picks m) c i e * rnk (picks m) c i e) + (∑ e, hot (picks m) c i e * place (picks m) c (dev e) (seat e)) < 2 ^ 32 by omega)
    (show r.val < 2 ^ 32 by omega)]

/-- The stripe, of eighty columns each, that a column lies in. -/
def stripe (r : Fin 640) : Fin 8 := ⟨r.val / 80, by omega⟩

theorem v400_at (r : Fin 640) : v400 (ix2 0 r) = BitVec.ofNat 32 (stripe r).val := by
  unfold v400 v376 v387
  pointwise [k0_pay39, k0_pay38, k0_pay37]
  revert r
  decide +kernel

theorem v417_at (r : Fin 640) : v417 (ix2 0 r) = BitVec.ofNat 32 (r.val % 80) := by
  unfold v417
  pointwise [k0_pay40]
  revert r
  decide +kernel

/-- The entry of a row of sixty-four that belongs to device `c`'s expert number `w`. -/
def entry (f : Fin 64 → BitVec 32) (c : Fin 8) (w : BitVec 32) : BitVec 32 :=
  Finset.fold IntOp.addi 0#32 (fun x : Fin 1 × Fin 64 => Scalar.select (IntOp.cmpi .eq (BitVec.ofNat 32 x.2.val)
    (Scalar.addi (Scalar.muli (BitVec.ofNat 32 c.val) 8#32) w)) (f x.2) 0#32) Finset.univ

/-- The same entry, chosen by comparing the word with each number in turn. -/
def entries (f : Fin 64 → BitVec 32) (c : Fin 8) (w : BitVec 32) : BitVec 32 :=
  Scalar.select (IntOp.cmpi .eq w 7#32) (entry f c 7#32) <| Scalar.select (IntOp.cmpi .eq w 6#32) (entry f c 6#32) <|
    Scalar.select (IntOp.cmpi .eq w 5#32) (entry f c 5#32) <| Scalar.select (IntOp.cmpi .eq w 4#32) (entry f c 4#32) <|
    Scalar.select (IntOp.cmpi .eq w 3#32) (entry f c 3#32) <| Scalar.select (IntOp.cmpi .eq w 2#32) (entry f c 2#32) <|
    Scalar.select (IntOp.cmpi .eq w 1#32) (entry f c 1#32) <| Scalar.select (IntOp.cmpi .eq w 0#32) (entry f c 0#32) 0#32

theorem entries_at (f : Fin 64 → BitVec 32) (c k : Fin 8) : entries f c (BitVec.ofNat 32 k.val) = f (ex c k) := by
  have h : entries f c (BitVec.ofNat 32 k.val) = entry f c (BitVec.ofNat 32 k.val) := by
    fin_cases k <;> rfl
  rw [h]
  exact fold_entry f c k

theorem csq_at (c s : Fin 8) (j : Fin 384) (r : Fin 640) :
    csq m c (Fin.cast trips1.symm s) (ix2 j r) =
      if r.val % 80 < share (picks m) s (ex c (stripe r)) ∧ j.val = place (picks m) s c (stripe r) + r.val % 80 then (1 : EReal) else 0 := by
  unfold csq v1157 v1173 v1177 v1109 v1129 v1131 v1132 v1081 v1085 v1086 v1033 v1037 v1041 v256 v418
  pointwise [k0_pay22, k0_pay18, k0_pay20, k0_pay21, k0_pay12, k0_pay14, k0_pay15, k0_pay16, k0_pay9, k0_pay10, k0_pay5, k0_pay6, k0_pay7, k0_pay4, k0_pay8, k0_pay11, k0_pay13, k0_pay17, k0_pay19]
  simp only [v400_at, v417_at, v2_word]
  change Scalar.select (IntOp.andi (IntOp.cmpi .slt (BitVec.ofNat 32 (r.val % 80)) (entries (fun x => v1005 m (Fin.cast trips1.symm s) (ix2 0 x)) c (BitVec.ofNat 32 (stripe r).val)))
    (IntOp.cmpi .eq (BitVec.ofNat 32 j.val) (IntOp.addi (entries (fun x => v1011 m (Fin.cast trips1.symm s) (ix2 0 x)) c (BitVec.ofNat 32 (stripe r).val))
      (BitVec.ofNat 32 (r.val % 80))))) (1 : EReal) 0 = _
  have h1 := share_le (picks m) s (ex c (stripe r))
  have h2 := place_le (picks m) s c (stripe r)
  have hj := j.isLt
  have ha : ∀ a b : ℕ, IntOp.addi (BitVec.ofNat 32 a) (BitVec.ofNat 32 b) = BitVec.ofNat 32 (a + b) := fun a b => (BitVec.ofNat_add a b).symm
  rw [entries_at, entries_at, v1005_at, v1011_at, ha, cmpi_slt_word (by omega) (by omega), cmpi_eq_word, andi_bool, select_ite]
  simp only [word_inj (show j.val < 2 ^ 32 by omega) (show place (picks m) s c (stripe r) + r.val % 80 < 2 ^ 32 by omega)]

end Cert.MoE

end
-- ==== Proof.Sums.lean ====
module

public import proofs.«01_k».proof.Proof.Masks
public import Idealize.ShloMosaic.Lib.Pointwise
public import Idealize.ShloMosaic.Lib.ValueIdx
public import Idealize.ShloMosaic.Lib.Routing.OpsOne
@[expose] public section

noncomputable section

namespace Cert.MoE

open Cert.KernelIdeal Cert.KernelIdeal.Gen
open Idealize.ShloMosaic
open Idealize.ShloMosaic.TcCoe
open Idealize.SL Idealize.SL.Sem

/-! ## What a device packs, and what it sums -/

variable (m : (ℓ : Loc nD τ sig) → Buf (Elt Ideal) ℓ)

theorem ring_word : ∀ (k : Fin 7) (c : Fin 8), Scalar.remsi (Scalar.addi (v2 c) (BitVec.ofNat 32 (k.val + 1))) 8#32 = BitVec.ofNat 32 (rot k c).val := by
  decide +kernel

theorem ring_back_word : ∀ (k : Fin 7) (c : Fin 8),
    Scalar.remsi (Scalar.addi (Scalar.subi (v2 c) (BitVec.ofNat 32 (k.val + 1))) 8#32) 8#32 = BitVec.ofNat 32 (back k c).val := by
  decide +kernel

theorem tgt_who : ∀ b c : Fin 8, tgt b (who b c) = c := by decide +kernel

/-- What device `b` packs for device `d`: row `i` of the group sums the tokens that sit there. -/
def packed (b d : Fin 8) (i : Fin 384) (r : Fin 512) : EReal :=
  ∑ x, Scalar.select (IntOp.cmpi CmpIPredicate.eq (v235 m b (ix2 x 0)) (BitVec.ofNat 32 d.val)) (base m b (ix2 x i) * xstg m b (ix2 x r) : EReal) 0

theorem xdv_at (b : Fin 8) (o : Option (Fin 7)) (i : Fin 384) (r : Fin 512) : xdv m b o (ix3 0 i r) = packed m b (tgt b o) i r := by
  unfold packed tgt
  match o with
  | none =>
    show _ = ∑ x, Scalar.select (IntOp.cmpi CmpIPredicate.eq (v235 m b (ix2 x 0)) (BitVec.ofNat 32 b.val)) _ _
    rw [← v2_word]
    unfold xdv
    pointwise [k0_pay51]
  | some k =>
    show _ = ∑ x, Scalar.select (IntOp.cmpi CmpIPredicate.eq (v235 m b (ix2 x 0)) (BitVec.ofNat 32 (rot k b).val)) _ _
    rw [← ring_word]
    match k with
    | 0 => unfold xdv; pointwise [k0_pay42, k0_pay41]
    | 1 => unfold xdv; pointwise [k0_pay43]
    | 2 => unfold xdv; pointwise [k0_pay44]
    | 3 => unfold xdv; pointwise [k0_pay45]
    | 4 => unfold xdv pm; pointwise [k0_pay46]
    | 5 => unfold xdv; pointwise [k0_pay48, k0_pay47]
    | 6 => unfold xdv; pointwise [k0_pay50, k0_pay49]

theorem inv_at (c b : Fin 8) (i : Fin 384) (r : Fin 512) : inv m c b (ix3 0 i r) = packed m b c i r := by
  unfold inv
  rw [xdv_at, tgt_who]

/-- What device `c`'s token `i` gets of the rows that device `b` returned. -/
def taken (c b : Fin 8) (i : Fin 2048) (r : Fin 1024) : EReal :=
  ∑ x, Scalar.select (IntOp.cmpi CmpIPredicate.eq (v235 m c (ix2 i 0)) (BitVec.ofNat 32 b.val)) (base m c (ix2 i x) * retv m c b (ix3 0 x r) : EReal) 0

theorem o0_at (c : Fin 8) (i : Fin 2048) (r : Fin 1024) : o0 m c (ix2 i r) = taken m c c i r := by
  unfold taken
  rw [← v2_word]
  unfold o0
  pointwise [k0_pay56]

theorem o1_at (c : Fin 8) (i : Fin 2048) (r : Fin 1024) : o1 m c (ix2 i r) = (o0 m c (ix2 i r) + taken m c (back 0 c) i r : EReal) := by
  unfold taken
  rw [← ring_back_word]
  unfold o1
  pointwise [k0_pay57]

theorem o2_at (c : Fin 8) (i : Fin 2048) (r : Fin 1024) : o2 m c (ix2 i r) = (o1 m c (ix2 i r) + taken m c (back 1 c) i r : EReal) := by
  unfold taken
  rw [← ring_back_word]
  unfold o2
  pointwise [k0_pay58]

theorem o3_at (c : Fin 8) (i : Fin 2048) (r : Fin 1024) : o3 m c (ix2 i r) = (o2 m c (ix2 i r) + taken m c (back 2 c) i r : EReal) := by
  unfold taken
  rw [← ring_back_word]
  unfold o3
  pointwise [k0_pay59]

theorem o4_at (c : Fin 8) (i : Fin 2048) (r : Fin 1024) : o4 m c (ix2 i r) = (o3 m c (ix2 i r) + taken m c (back 3 c) i r : EReal) := by
  unfold taken
  rw [← ring_back_word]
  unfold o4
  pointwise [k0_pay60]

theorem o5_at (c : Fin 8) (i : Fin 2048) (r : Fin 1024) : o5 m c (ix2 i r) = (o4 m c (ix2 i r) + taken m c (back 4 c) i r : EReal) := by
  unfold taken
  rw [← ring_back_word]
  unfold o5
  pointwise [k0_pay61]

theorem o6_at (c : Fin 8) (i : Fin 2048) (r : Fin 1024) : o6 m c (ix2 i r) = (o5 m c (ix2 i r) + taken m c (back 5 c) i r : EReal) := by
  unfold taken
  rw [← ring_back_word]
  unfold o6
  pointwise [k0_pay62]

/-- The devices from `c` backwards. -/
def backwards (c : Fin 8) : Fin 8 → Fin 8 := ![c, back 0 c, back 1 c, back 2 c, back 3 c, back 4 c, back 5 c, back 6 c]

theorem ring_sum (c : Fin 8) (f : Fin 8 → EReal) :
    f c + f (back 0 c) + f (back 1 c) + f (back 2 c) + f (back 3 c) + f (back 4 c) + f (back 5 c) + f (back 6 c) = ∑ b, f b := by
  have h : ∀ c : Fin 8, Function.Bijective (backwards c) := by decide +kernel
  rw [← (h c).sum_comp f, Fin.sum_univ_eight]
  rfl

/-- The kernel's result, row by row: the sum over all devices of what each returned. -/
theorem outAt_at (c : Fin 8) (i : Fin 2048) (r : Fin 1024) : outAt m c (ix2 i r) = ∑ b, taken m c b i r := by
  rw [← ring_sum c fun b => taken m c b i r, ← o0_at, ← o1_at, ← o2_at, ← o3_at, ← o4_at, ← o5_at, ← o6_at]
  unfold taken
  rw [← ring_back_word]
  unfold outAt
  pointwise [k0_pay1]

theorem retv_at (c b : Fin 8) (x : Fin 384) (r : Fin 1024) : retv m c b (ix3 0 x r) = yv m b c (ix3 0 x r) := by
  unfold retv
  by_cases h : b = c
  · rw [if_pos h, h]
    pointwise [k0_pay55]
  · rw [if_neg h]

theorem csv_at (c s : Fin 8) (i : Fin 384) (r : Fin 640) : csv m c s (ix3 0 i r) = csq m c (Fin.cast trips1.symm s) (ix2 i r) := by
  unfold csv cst csq
  pointwise [k0_pay23]

theorem yv_at (c s : Fin 8) (x : Fin 384) (r : Fin 1024) :
    yv m c s (ix3 0 x r) = ∑ col : Fin 640, (csq m c (Fin.cast trips1.symm s) (ix2 x col) * outF m c (ix3 s col r) : EReal) := by
  have h : yv m c s (ix3 0 x r) = ∑ col : Fin 640, (csv m c s (ix3 0 x col) * rowOf (outF m c) s (ix3 0 col r) : EReal) := by
    unfold yv
    pointwise [k0_pay54]
  rw [h]
  refine Finset.sum_congr rfl fun col _ => ?_
  rw [csv_at]
  refine congrArg (fun z => (_ * z : EReal)) (congrArg (outF m c) (funext fun a => ?_))
  match a with
  | 0 => rfl
  | 1 => rfl
  | 2 => rfl

theorem strv_at (c s : Fin 8) (col : Fin 640) (d : Fin 512) :
    strv m c s (ix3 0 col d) = ∑ j : Fin 384, (csq m c (Fin.cast trips1.symm s) (ix2 j col) * packed m s c j d : EReal) := by
  have h : strv m c s (ix3 0 col d) = ∑ j : Fin 384, (csq m c (Fin.cast trips1.symm s) (ix2 j col) * inv m c s (ix3 0 j d) : EReal) := by
    unfold strv
    pointwise [k0_pay52]
  rw [h]
  exact Finset.sum_congr rfl fun j _ => by rw [inv_at]

/-- The place of expert `k`'s row `p` among a device's stripes. -/
def spot (k : Fin 8) (p : Fin 80) : Fin 640 := ⟨80 * k.val + p.val, by omega⟩

theorem outF_at (c s k : Fin 8) (p : Fin 80) (r : Fin 1024) :
    outF m c (ix3 s (spot k p) r) = ∑ d : Fin 512, (strv m c s (ix3 0 (spot k p) d) * wstg m c (ix3 k d r) : EReal) := by
  have h0 : outF m c (ix3 s (spot k p) r) = outv m c k (ix3 s p r) := by
    have hk : (80 * k.val + p.val) / 80 = k.val := by omega
    have hp : (80 * k.val + p.val) % 80 = p.val := by omega
    unfold outF unslab
    refine (congrArg (outv m c · _) (Fin.ext hk)).trans (congrArg (outv m c k) (funext fun a => ?_))
    match a with
    | 0 => rfl
    | 1 => exact Fin.ext hp
    | 2 => rfl
  have h : outv m c k (ix3 s p r) = ∑ d : Fin 512, (slab (strF m c) k (ix3 s p d) * rowOf (wstg m c) k (ix3 0 d r) : EReal) := by
    unfold outv
    pointwise [k0_pay53]
  rw [h0, h]
  refine Finset.sum_congr rfl fun d _ => ?_
  have e1 : slab (strF m c) k (ix3 s p d) = strv m c s (ix3 0 (spot k p) d) := by
    refine congrArg (strv m c s) (funext fun a => ?_)
    match a with
    | 0 => rfl
    | 1 => rfl
    | 2 => rfl
  have e2 : rowOf (wstg m c) k (ix3 0 d r) = wstg m c (ix3 k d r) := by
    refine congrArg (wstg m c) (funext fun a => ?_)
    match a with
    | 0 => rfl
    | 1 => rfl
    | 2 => rfl
  rw [e1, e2]

end Cert.MoE

end
-- ==== Proof.Unique.lean ====
module

public import proofs.«01_k».proof.Proof.Masks
public import Idealize.ShloMosaic.Lib.Pointwise
public import Idealize.ShloMosaic.Lib.ValueIdx
public import Idealize.ShloMosaic.Lib.Routing.OpsOne
@[expose] public section

noncomputable section

namespace Cert.MoE

open Cert.KernelIdeal Cert.KernelIdeal.Gen
open Idealize.ShloMosaic
open Idealize.ShloMosaic.TcCoe
open Idealize.SL Idealize.SL.Sem

/-! ## No two tokens share a row -/

theorem prefix_step {n : ℕ} (g : Fin n → ℕ) {a b : Fin n} (h : a < b) :
    (∑ j : Fin n, if j < a then g j else 0) + g a ≤ ∑ j : Fin n, if j < b then g j else 0 := by
  have e : g a = ∑ j : Fin n, if j = a then g j else 0 := by simp
  calc (∑ j : Fin n, if j < a then g j else 0) + g a
      = ∑ j : Fin n, ((if j < a then g j else 0) + if j = a then g j else 0) := by rw [Finset.sum_add_distrib, ← e]
    _ ≤ _ := Finset.sum_le_sum fun j _ => by
        by_cases h1 : j < a
        · rw [if_pos h1, if_neg (ne_of_lt h1), if_pos (h1.trans h), Nat.add_zero]
        · by_cases h2 : j = a
          · rw [if_neg h1, if_pos h2, if_pos (h2 ▸ h), Nat.zero_add]
          · rw [if_neg h1, if_neg h2]; omega

theorem prefix_all {n : ℕ} (g : Fin n → ℕ) (a : Fin n) : (∑ j : Fin n, if j < a then g j else 0) + g a ≤ ∑ j : Fin n, g j := by
  have e : g a = ∑ j : Fin n, if j = a then g j else 0 := by simp
  calc (∑ j : Fin n, if j < a then g j else 0) + g a
      = ∑ j : Fin n, ((if j < a then g j else 0) + if j = a then g j else 0) := by rw [Finset.sum_add_distrib, ← e]
    _ ≤ _ := Finset.sum_le_sum fun j _ => by
        by_cases h1 : j < a
        · rw [if_pos h1, if_neg (ne_of_lt h1), Nat.add_zero]
        · by_cases h2 : j = a
          · rw [if_neg h1, if_pos h2, Nat.zero_add]
          · rw [if_neg h1, if_neg h2]; omega

section
variable {R : Fin 8 → Fin 2048 → BitVec 32}

theorem hot_of {c i} {e : Fin 64} (h : R c i = BitVec.ofNat 32 e.val) : hot R c i e = 1 := if_pos h

theorem rnk_lt {c i} {e : Fin 64} (h : R c i = BitVec.ofNat 32 e.val) : rnk R c i e < num R c e := by
  have := prefix_all (fun j => hot R c j e) i
  have h1 := hot_of h
  unfold rnk num
  omega

/-- Two tokens of one device that chose the same expert have different ranks. -/
theorem rnk_inj {c i j} {e : Fin 64} (hi : R c i = BitVec.ofNat 32 e.val) (hj : R c j = BitVec.ofNat 32 e.val) (h : rnk R c i e = rnk R c j e) : i = j := by
  have h1 := hot_of hi
  have h2 := hot_of hj
  unfold rnk at h
  rcases lt_trichotomy i j with hl | he | hl
  · have := prefix_step (fun j => hot R c j e) hl
    omega
  · exact he
  · have := prefix_step (fun j => hot R c j e) hl
    omega

/-- The rows of two experts of one device do not overlap. -/
theorem place_inj {c q k l : Fin 8} {a b : ℕ} (ha : a < share R c (ex q k)) (hb : b < share R c (ex q l)) (h : place R c q k + a = place R c q l + b) :
    k = l ∧ a = b := by
  unfold place at h
  rcases lt_trichotomy k l with hl | he | hl
  · have := prefix_step (fun j => share R c (ex q j)) hl
    omega
  · subst he
    exact ⟨rfl, by omega⟩
  · have := prefix_step (fun j => share R c (ex q j)) hl
    omega

theorem share_num (c e) : share R c e ≤ num R c e := (min_le_left _ _).trans (min_le_right _ _)

/-- What the packed exchange has room for, as numbers. -/
def Fits (R : Fin 8 → Fin 2048 → BitVec 32) : Prop :=
  (∀ c e, num R c e ≤ 80) ∧ ∀ c q, (∑ k, num R c (ex q k)) ≤ 384

theorem place_lt (hf : Fits R) {c q k : Fin 8} {a : ℕ} (ha : a < share R c (ex q k)) : place R c q k + a < 384 := by
  have h1 := prefix_all (fun j => share R c (ex q j)) k
  have h2 : (∑ j, share R c (ex q j)) ≤ ∑ j, num R c (ex q j) := Finset.sum_le_sum fun j _ => share_num c _
  have h3 := hf.2 c q
  unfold place
  omega

theorem sits_hit {c i r} {e : Fin 64} (h : R c i = BitVec.ofNat 32 e.val) :
    sits R c i r ↔ rnk R c i e < share R c e ∧ place R c (dev e) (seat e) + rnk R c i e = r := by
  unfold sits
  rw [hot_sum h, hot_sum h, hot_sum h fun e => place R c (dev e) (seat e), Nat.add_comm (rnk R c i e)]

theorem sits_miss {c i r} (h : ∀ e : Fin 64, R c i ≠ BitVec.ofNat 32 e.val) : ¬sits R c i r := by
  unfold sits
  rw [hot_none h, hot_none h]
  omega

/-- Two tokens of one device bound for the same device sit in different rows. -/
theorem sits_inj {c i j r} {e f : Fin 64} (hi : R c i = BitVec.ofNat 32 e.val) (hj : R c j = BitVec.ofNat 32 f.val) (hd : dev e = dev f)
    (h1 : sits R c i r) (h2 : sits R c j r) : i = j := by
  rw [sits_hit hi] at h1
  rw [sits_hit hj] at h2
  have a1 : rnk R c i e < share R c (ex (dev e) (seat e)) := by rw [ex_dev_seat]; exact h1.1
  have a2 : rnk R c j f < share R c (ex (dev e) (seat f)) := by rw [hd, ex_dev_seat]; exact h2.1
  have a3 : place R c (dev e) (seat e) + rnk R c i e = place R c (dev e) (seat f) + rnk R c j f := by rw [h1.2, hd, h2.2]
  obtain ⟨b1, b2⟩ := place_inj a1 a2 a3
  have b3 : e = f := by rw [← ex_dev_seat e, ← ex_dev_seat f, hd, b1]
  subst b3
  exact rnk_inj hi hj b2

end

end Cert.MoE

end
-- ==== Proof.Result.lean ====
module

public import proofs.«01_k».proof.Proof.Sums
public import proofs.«01_k».proof.Proof.Unique
public import Idealize.ShloMosaic.Lib.Pointwise
public import Idealize.ShloMosaic.Lib.ValueIdx
public import Idealize.ShloMosaic.Lib.Routing.OpsOne
@[expose] public section

noncomputable section

namespace Cert.MoE

open Cert.KernelIdeal Cert.KernelIdeal.Gen
open Idealize.ShloMosaic
open Idealize.ShloMosaic.TcCoe
open Idealize.SL Idealize.SL.Sem

/-! ## The kernel's result, token by token -/

variable (m : (ℓ : Loc nD τ sig) → Buf (Elt Ideal) ℓ)

/-- Entry `d` of token `i` of device `c`. -/
def entryOf (c : Fin 8) (i : Fin 2048) (d : Fin 512) : EReal := xstg m c (ix2 i d)
/-- An entry of an expert's weights. -/
def wgt (e : Fin 64) (d : Fin 512) (r : Fin 1024) : EReal := wstg m (dev e) (ix3 (seat e) d r)

theorem select_zero {α : Type} (w : BitVec 1) (x : α) : Scalar.select w x x = x := by
  unfold Scalar.select
  split <;> rfl

theorem dev_word : ∀ e : Fin 64, IntOp.divsi .vector (BitVec.ofNat 32 e.val) 8#32 = BitVec.ofNat 32 (dev e).val := by decide +kernel

theorem v235_at {c : Fin 8} {i : Fin 2048} {e : Fin 64} (h : picks m c i = BitVec.ofNat 32 e.val) : v235 m c (ix2 i 0) = BitVec.ofNat 32 (dev e).val := by
  have h1 : v235 m c (ix2 i 0) = IntOp.divsi .vector (picks m c i) 8#32 := by
    unfold v235 v33 picks
    pointwise [k0_pay29, k0_pay24]
  rw [h1, h, dev_word]

theorem dev_eq (a b : Fin 8) : IntOp.cmpi CmpIPredicate.eq (BitVec.ofNat 32 a.val) (BitVec.ofNat 32 b.val) = BitVec.ofBool (decide (a = b)) := by
  rw [cmpi_eq_word]
  simp only [word_eq_fin (n := 8) (by decide)]

theorem packed_hit {c : Fin 8} {i : Fin 2048} {e : Fin 64} (h : picks m c i = BitVec.ofNat 32 e.val) (x : Fin 384) (hx : sits (picks m) c i x.val) (d : Fin 512) :
    packed m c (dev e) x d = xstg m c (ix2 i d) := by
  unfold packed
  rw [Finset.sum_eq_single i]
  · rw [v235_at m h, dev_eq, select_ite, if_pos rfl, base_at, if_pos hx]
    exact one_mul _
  · intro j _ hj
    rw [base_at]
    by_cases hs : sits (picks m) c j x.val
    · by_cases hm : ∃ f : Fin 64, picks m c j = BitVec.ofNat 32 f.val
      · obtain ⟨f, hf⟩ := hm
        rw [v235_at m hf, dev_eq, select_ite]
        exact if_neg fun hd => hj (sits_inj hf h hd hs hx)
      · exact absurd hs (sits_miss fun f hf => hm ⟨f, hf⟩)
    · rw [if_neg hs]
      exact (congrArg (Scalar.select _ · (0 : EReal)) (zero_mul _)).trans (select_zero _ _)
  · exact fun hn => absurd (Finset.mem_univ i) hn

theorem csq_spot (c s k : Fin 8) (p : Fin 80) (j : Fin 384) : csq m c (Fin.cast trips1.symm s) (ix2 j (spot k p)) =
    if p.val < share (picks m) s (ex c k) ∧ j.val = place (picks m) s c k + p.val then (1 : EReal) else 0 := by
  have h1 : stripe (spot k p) = k := Fin.ext (show (80 * k.val + p.val) / 80 = k.val by omega)
  have h2 : (spot k p).val % 80 = p.val := show (80 * k.val + p.val) % 80 = p.val by omega
  rw [csq_at, h1, h2]

theorem spot_of (r : Fin 640) : ∃ k p, r = spot k p :=
  ⟨⟨r.val / 80, by omega⟩, ⟨r.val % 80, by omega⟩, Fin.ext (show r.val = 80 * (r.val / 80) + r.val % 80 by omega)⟩

theorem strv_hit (c s k : Fin 8) (p : Fin 80) (hp : p.val < share (picks m) s (ex c k)) (x : Fin 384) (hx : place (picks m) s c k + p.val = x.val) (d : Fin 512) :
    strv m c s (ix3 0 (spot k p) d) = packed m s c x d := by
  rw [strv_at, Finset.sum_eq_single x]
  · rw [csq_spot, if_pos ⟨hp, hx.symm⟩]
    exact one_mul _
  · intro j _ hj
    rw [csq_spot, if_neg fun hc => hj (Fin.ext (hc.2.trans hx))]
    exact zero_mul _
  · exact fun hn => absurd (Finset.mem_univ x) hn

theorem yv_hit (c s k : Fin 8) (p : Fin 80) (hp : p.val < share (picks m) s (ex c k)) (x : Fin 384) (hx : place (picks m) s c k + p.val = x.val) (r : Fin 1024) :
    yv m c s (ix3 0 x r) = outF m c (ix3 s (spot k p) r) := by
  rw [yv_at, Finset.sum_eq_single (spot k p)]
  · rw [csq_spot, if_pos ⟨hp, hx.symm⟩]
    exact one_mul _
  · intro col _ hc
    obtain ⟨l, q, rfl⟩ := spot_of col
    rw [csq_spot, if_neg]
    · exact zero_mul _
    · rintro ⟨h1, h2⟩
      obtain ⟨h3, h4⟩ := place_inj h1 hp (h2.symm.trans hx.symm)
      exact hc (by rw [h3, Fin.ext h4])
  · exact fun hn => absurd (Finset.mem_univ _) hn

/-- A token that no row takes gets nothing. -/
theorem out_none {c : Fin 8} {i : Fin 2048} (h : ∀ x, ¬sits (picks m) c i x) (r : Fin 1024) : outAt m c (ix2 i r) = (0 : EReal) := by
  refine (outAt_at m c i r).trans ?_
  refine Finset.sum_eq_zero (M := EReal) fun b _ => Finset.sum_eq_zero fun x _ => ?_
  rw [base_at, if_neg (h _)]
  exact (congrArg (Scalar.select _ · (0 : EReal)) (zero_mul _)).trans (select_zero _ _)

/-- A token whose expert has a row for it gets that expert's product. -/
theorem out_hit (hf : Fits (picks m)) {c : Fin 8} {i : Fin 2048} {e : Fin 64} (h : picks m c i = BitVec.ofNat 32 e.val)
    (hk : rnk (picks m) c i e < share (picks m) c e) (r : Fin 1024) : outAt m c (ix2 i r) = ∑ d : Fin 512, entryOf m c i d * wgt m e d r := by
  have hp : rnk (picks m) c i e < share (picks m) c (ex (dev e) (seat e)) := by rw [ex_dev_seat]; exact hk
  obtain ⟨x, hx⟩ : ∃ x : Fin 384, place (picks m) c (dev e) (seat e) + rnk (picks m) c i e = x.val := ⟨⟨_, place_lt hf hp⟩, rfl⟩
  obtain ⟨p, h80⟩ : ∃ p : Fin 80, rnk (picks m) c i e = p.val := ⟨⟨_, lt_of_lt_of_le hk (share_le _ _ _)⟩, rfl⟩
  have hs : ∀ y, sits (picks m) c i y ↔ x.val = y := fun y => by
    rw [sits_hit h, hx]
    exact ⟨fun h => h.2, fun h => ⟨hk, h⟩⟩
  rw [h80] at hx hp
  refine (outAt_at m c i r).trans ?_
  rw [Finset.sum_eq_single (dev e)]
  · unfold taken
    rw [Finset.sum_eq_single x]
    · rw [v235_at m h, dev_eq, select_ite, if_pos rfl, base_at, if_pos ((hs _).mpr rfl), retv_at,
        yv_hit m (dev e) c (seat e) p hp x hx, outF_at]
      refine (one_mul (M := EReal) _).trans (Finset.sum_congr rfl fun d _ => ?_)
      rw [strv_hit m (dev e) c (seat e) p hp x hx, packed_hit m h _ ((hs _).mpr rfl)]
      rfl
    · intro y _ hy
      rw [base_at, if_neg fun hc => hy (Fin.ext ((hs _).mp hc).symm)]
      exact (congrArg (Scalar.select _ · (0 : EReal)) (zero_mul _)).trans (select_zero _ _)
    · exact fun hn => absurd (Finset.mem_univ _) hn
  · intro b _ hb
    refine Finset.sum_eq_zero fun x _ => ?_
    rw [v235_at m h, dev_eq, select_ite, if_neg (Ne.symm hb)]
  · exact fun hn => absurd (Finset.mem_univ _) hn

end Cert.MoE

end
-- ==== Proof.Refer.lean ====
module

public import proofs.«01_k».proof.Defs
public import proofs.«01_k».proof.Proof.Unique
public import proofs.«01_k».proof.Proof.Gen.ReferenceIdeal.Run
@[expose] public section

noncomputable section

namespace Cert.MoE

open Cert.ReferenceIdeal Cert.ReferenceIdeal.Gen
open Idealize.ShloMosaic
open Idealize.ShloMosaic.TcCoe
open Idealize.SL Idealize.SL.Sem

/-! ## The reference's result, token by token -/

variable (X : FVec Ideal S16384x512 .bf16) (Q : IVec S16384x1 32) (E : FVec Ideal S64x512x1024 .bf16)

/-- Which expert each of all tokens chose, one-hot. -/
def chose : IVec S16384x64 1 := cmpi .eq (broadcastInDim S16384x64 ![0, 1] bcast_S16384x1_S16384x64_0_1 Q)
  (broadcastInDim S16384x64 ![0, 1] bcast_S1x64_S16384x64_0_1 (broadcastInDim S1x64 ![1] bcast_S64_S1x64_1 (iotaInDim S64 32 0)))

def seen : IVec S16384x64 32 := Host.reduceWindow IntOp.addi ![16384, 1] ![1, 1] ![16383, 0] ![0, 0] (extui 32 (chose Q) natLt_1_32)
  (broadcastInDim S_ ![] bcast_S_S_ (constantI S_ 32 0#32)) reduceWindows_S16384x64_S16384x64_w16384s1p16383_0_w1s1p0_0 h_S_

/-- The reference's one result. -/
def answer : FVec Ideal S16384x1024 .bf16 :=
  truncf .bf16 (Host.reduceAdd (select (broadcastInDim S16384x64x1024 ![0, 1, 2] bcast_S16384x64x1_S16384x64x1024_0_1_2
    (broadcastInDim S16384x64x1 ![0, 1] bcast_S16384x64_S16384x64x1_0_1 (andi (chose Q) (cmpi .slt (subi (seen Q) (extui 32 (chose Q) natLt_1_32))
      (broadcastInDim S16384x64 ![] bcast_S_S16384x64 (constantI S_ 32 204#32))))))
    (Host.dotGeneral dot_S16384x512_S64x512x1024_S16384x64x1024_1_1_0_02_n_n none (extf .f32 X bitsLt_bf16_f32) (extf .f32 E bitsLt_bf16_f32))
    (broadcastInDim S16384x64x1024 ![] bcast_S_S16384x64x1024 (id (constant S_ .f32 0x00000000#32)))) (constant S_ .f32 0x00000000#32)
    reducesTo_S16384x64x1024_S16384x1024_d1 h_S_) bitsLt_bf16_f32

/-- Token `i` of device `c` among all tokens. -/
def all (c : Fin 8) (i : Fin 2048) : Fin 16384 := ⟨i.val + 2048 * c.val, by omega⟩

theorem all_of (I : Fin 16384) : ∃ c i, I = all c i :=
  ⟨⟨I.val / 2048, by omega⟩, ⟨I.val % 2048, by omega⟩, Fin.ext (show I.val = I.val % 2048 + 2048 * (I.val / 2048) by omega)⟩

theorem sum_all (f : Fin 16384 → ℕ) : (∑ I, f I) = ∑ c, ∑ i, f (all c i) := by
  rw [← Fintype.sum_prod_type' fun c i => f (all c i)]
  exact (Equiv.sum_comp (finProdFinEquiv (m := 8) (n := 2048)) f).symm

/-- The choices of all tokens, device by device. -/
def parts (c : Fin 8) (i : Fin 2048) : BitVec 32 := Q (ix2 (all c i) 0)

theorem chose_at (I : Fin 16384) (e : Fin 64) : chose Q (ix2 I e) = BitVec.ofBool (decide (Q (ix2 I 0) = BitVec.ofNat 32 e.val)) := by
  rw [← cmpi_eq_word]
  unfold chose
  pointwise

theorem chose_word (c : Fin 8) (i : Fin 2048) (e : Fin 64) : BitVec.setWidth 32 (chose Q (ix2 (all c i) e)) = BitVec.ofNat 32 (hot (parts Q) c i e) := by
  rw [chose_at]
  unfold hot parts
  by_cases h : Q (ix2 (all c i) 0) = BitVec.ofNat 32 e.val <;> simp [h]

theorem all_lt (c b : Fin 8) (i j : Fin 2048) : all b j < all c i ↔ b < c ∨ (b = c ∧ j < i) := by
  show j.val + 2048 * b.val < i.val + 2048 * c.val ↔ b.val < c.val ∨ (b = c ∧ j.val < i.val)
  rw [Fin.ext_iff]
  omega

/-- How many tokens before one of all tokens chose an expert. -/
theorem before (c : Fin 8) (i : Fin 2048) (e : Fin 64) :
    seen Q (ix2 (all c i) e) - BitVec.setWidth 32 (chose Q (ix2 (all c i) e)) = BitVec.ofNat 32 (prv (parts Q) c e + rnk (parts Q) c i e) := by
  have h0 : ∀ I, BitVec.setWidth 32 (chose Q (ix2 I e)) = BitVec.ofNat 32 (if Q (ix2 I 0) = BitVec.ofNat 32 e.val then 1 else 0) := fun I => by
    obtain ⟨c, i, rfl⟩ := all_of I
    exact chose_word Q c i e
  have h1 : seen Q (ix2 (all c i) e) = ∑ I : Fin 16384, if I ≤ all c i then BitVec.setWidth 32 (chose Q (ix2 I e)) else 0 := by
    unfold seen
    rw [ix2_eq_valueIdx]
    refine (Routing.cumsum_rows_sum (A := 16384) (Am1 := 16383) (N := 64) rfl _ _ rfl _ _ _ _).trans ?_
    refine Finset.sum_congr rfl fun I _ => ?_
    rw [← ix2_eq_valueIdx]
    rfl
  rw [h1, Routing.prefix_sub_last fun I => BitVec.setWidth 32 (chose Q (ix2 I e))]
  have h2 : ∀ I : Fin 16384, (if I < all c i then BitVec.setWidth 32 (chose Q (ix2 I e)) else 0) =
      BitVec.ofNat 32 (if I < all c i then (if Q (ix2 I 0) = BitVec.ofNat 32 e.val then 1 else 0) else 0) := fun I => by
    rw [h0]
    split <;> rfl
  rw [Finset.sum_congr rfl fun I _ => h2 I, sum_word, sum_all]
  refine congrArg (BitVec.ofNat 32) ?_
  have h3 : ∀ b : Fin 8, (∑ j : Fin 2048, if all b j < all c i then (if Q (ix2 (all b j) 0) = BitVec.ofNat 32 e.val then 1 else 0) else 0) =
      (if b < c then num (parts Q) b e else 0) + if b = c then rnk (parts Q) c i e else 0 := fun b => by
    by_cases hb : b < c
    · rw [if_pos hb, if_neg (ne_of_lt hb), Nat.add_zero]
      exact Finset.sum_congr rfl fun j _ => if_pos ((all_lt c b i j).mpr (Or.inl hb))
    · by_cases he : b = c
      · subst he
        rw [if_neg hb, if_pos rfl, Nat.zero_add]
        refine Finset.sum_congr rfl fun j _ => ?_
        have hj : all b j < all b i ↔ j < i := by
          rw [all_lt]
          exact ⟨fun h => h.elim (fun h => absurd h (lt_irrefl b)) fun h => h.2, fun h => Or.inr ⟨rfl, h⟩⟩
        simp only [hj]
        rfl
      · rw [if_neg hb, if_neg he, Nat.add_zero]
        exact Finset.sum_eq_zero fun j _ => if_neg fun h => ((all_lt c b i j).mp h).elim hb fun h => he h.1
  rw [Finset.sum_congr rfl fun b _ => h3 b, Finset.sum_add_distrib]
  unfold prv
  simp

/-- The product of a token with an expert's weights. -/
def prod (I : Fin 16384) (e : Fin 64) (r : Fin 1024) : EReal := ∑ d : Fin 512, (X (ix2 I d) * E (ix3 e d r) : EReal)

theorem answer_at (c : Fin 8) (i : Fin 2048) (r : Fin 1024) : answer X Q E (ix2 (all c i) r) =
    ∑ e : Fin 64, if parts Q c i = BitVec.ofNat 32 e.val ∧ prv (parts Q) c e + rnk (parts Q) c i e < 204 then prod X E (all c i) e r else 0 := by
  unfold answer
  pointwise [id]
  refine Finset.sum_congr rfl fun e _ => ?_
  have h1 := prv_le (parts Q) c e
  have h2 := rnk_le (parts Q) c i e
  have h3 := num_le (parts Q) c e
  have hb : IntOp.subi (seen Q (ix2 (all c i) e)) (BitVec.setWidth 32 (chose Q (ix2 (all c i) e))) = _ := before Q c i e
  rw [hb, chose_at, cmpi_slt_word (by omega) (by omega), andi_bool, select_ite]
  rfl

theorem answer_hit {c : Fin 8} {i : Fin 2048} {e : Fin 64} (h : parts Q c i = BitVec.ofNat 32 e.val) (r : Fin 1024) :
    answer X Q E (ix2 (all c i) r) = if prv (parts Q) c e + rnk (parts Q) c i e < 204 then prod X E (all c i) e r else 0 := by
  refine (answer_at X Q E c i r).trans ?_
  rw [Finset.sum_eq_single e]
  · simp only [h, true_and]
  · intro f _ hf
    exact if_neg fun hc => hf ((word_eq_fin (by decide) e f).mp (h.symm.trans hc.1)).symm
  · exact fun hn => absurd (Finset.mem_univ _) hn

theorem answer_miss {c : Fin 8} {i : Fin 2048} (h : ∀ e : Fin 64, parts Q c i ≠ BitVec.ofNat 32 e.val) (r : Fin 1024) :
    answer X Q E (ix2 (all c i) r) = (0 : EReal) :=
  (answer_at X Q E c i r).trans (Finset.sum_eq_zero fun e _ => if_neg fun hc => h e hc.1)

end Cert.MoE

end
-- ==== Proof.Room.lean ====
module

public import proofs.«01_k».proof.Defs
public import proofs.«01_k».proof.Proof.Unique
@[expose] public section

noncomputable section

namespace Cert.MoE

open Idealize.ShloMosaic

/-! ## The precondition, as numbers -/

instance room_kernel : Cert.Pre_fits_KernelIdeal.Facts := by constructor <;> decide +kernel
instance room_reference : Cert.Pre_fits_ReferenceIdeal.Facts := by constructor <;> decide +kernel

open Cert.Pre_fits_KernelIdeal

variable (X : FVec Ideal S2048x512 .bf16) (W : FVec Ideal S512x64 .bf16) (Q : IVec S2048x1 32) (E : FVec Ideal S8x512x1024 .bf16)

theorem fold_andi {n : ℕ} (f : Fin n → BitVec 1) (h : Finset.fold IntOp.andi 1#1 f Finset.univ = 1#1) (x : Fin n) : f x = 1#1 := by
  have hb : ∀ a b : BitVec 1, IntOp.andi a b = 1#1 → a = 1#1 ∧ b = 1#1 := by decide
  have hs : ∀ s : Finset (Fin n), Finset.fold IntOp.andi 1#1 f s = 1#1 → ∀ x ∈ s, f x = 1#1 := fun s => by
    induction s using Finset.cons_induction with
    | empty => exact fun _ x hx => absurd hx (Finset.notMem_empty x)
    | cons a s ha ih =>
      intro h x hx
      rw [Finset.fold_cons] at h
      rcases Finset.mem_cons.mp hx with he | hx
      · rw [he]; exact (hb _ _ h).1
      · exact ih (hb _ _ h).2 x hx
  exact hs _ h x (Finset.mem_univ x)

/-- How many of one device's tokens hold the word of `n`. -/
def tally (n : ℕ) : ℕ := ∑ i : Fin 2048, if Q (ix2 i 0) = BitVec.ofNat 32 n then 1 else 0

theorem tally_le (n : ℕ) : tally Q n ≤ 2048 := by
  unfold tally
  refine (Finset.sum_le_sum (g := fun _ => 1) fun i _ => ?_).trans (by simp)
  split <;> omega

theorem tally_word (n : ℕ) : Finset.fold IntOp.addi 0#32 (fun i : Fin 2048 => BitVec.setWidth 32 (IntOp.cmpi CmpIPredicate.eq (Q (ix2 i 0)) (BitVec.ofNat 32 n)))
    Finset.univ = BitVec.ofNat 32 (tally Q n) := by
  rw [fold_addi]
  unfold tally
  rw [← sum_word]
  refine Finset.sum_congr rfl fun i _ => ?_
  rw [cmpi_eq_word]
  by_cases h : Q (ix2 i 0) = BitVec.ofNat 32 n <;> simp [h]

theorem bool_one (p : Prop) [Decidable p] (h : BitVec.ofBool (decide p) = 1#1) : p := by
  by_contra hn
  rw [decide_eq_false hn] at h
  exact absurd h (by decide)

theorem room (h : fn X W Q E = fun _ => 1#1) : (∀ e : Fin 64, tally Q e.val ≤ 80) ∧ ∀ q : Fin 8, (∑ k : Fin 8, tally Q (q.val * 8 + k.val)) ≤ 384 := by
  have hv : fn X W Q E ix0 = IntOp.andi
      (Finset.fold IntOp.andi 1#1 (fun e : Fin 64 => IntOp.cmpi CmpIPredicate.sle (BitVec.ofNat 32 (tally Q e.val)) 80#32) Finset.univ)
      (Finset.fold IntOp.andi 1#1 (fun q : Fin 8 => IntOp.cmpi CmpIPredicate.sle (BitVec.ofNat 32 (∑ k : Fin 8, tally Q (q.val * 8 + k.val))) 384#32) Finset.univ) := by
    simp only [← sum_word, ← tally_word]
    unfold fn
    pointwise
    rfl
  rw [h] at hv
  have hb : ∀ a b : BitVec 1, 1#1 = IntOp.andi a b → a = 1#1 ∧ b = 1#1 := by decide
  obtain ⟨h1, h2⟩ := hb _ _ hv
  refine ⟨fun e => ?_, fun q => ?_⟩
  · have := fold_andi _ h1 e
    have ht := tally_le Q e.val
    rw [cmpi_sle_word (by omega) (by decide)] at this
    exact bool_one _ this
  · have := fold_andi _ h2 q
    have ht : (∑ k : Fin 8, tally Q (q.val * 8 + k.val)) ≤ 8 * 2048 :=
      (Finset.sum_le_sum (g := fun _ => 2048) fun k _ => tally_le Q _).trans (by simp)
    rw [cmpi_sle_word (by omega) (by decide)] at this
    exact bool_one _ this

end Cert.MoE

end
-- ==== Proof.Value.lean ====
module

public import proofs.«01_k».proof.Proof.Result
public import proofs.«01_k».proof.Proof.Refer
public import proofs.«01_k».proof.Proof.Room
public import proofs.«01_k».proof.Proof.Frames
public import Idealize.ShloMosaic.Lib.Layout
@[expose] public section

noncomputable section

namespace Cert.MoE

open Idealize.ShloMosaic
open Idealize.ShloMosaic.TcCoe
open Idealize.SL Idealize.SL.Sem

/-! ## The kernel computes what the reference computes -/

section
variable (m : (ℓ : Loc Cert.KernelIdeal.nD Cert.KernelIdeal.τ Cert.KernelIdeal.sig) → Buf (Elt Ideal) ℓ)
variable (X : FVec Ideal ⟨2, ![16384, 512]⟩ .bf16) (Q : IVec ⟨2, ![16384, 1]⟩ 32) (E : FVec Ideal ⟨3, ![64, 512, 1024]⟩ .bf16)

theorem picks_eq (h : ∀ c : Fin 8, rstg m c = Layout.block ⟨2, ![2048, 1]⟩ ⟨2, ![16384, 1]⟩ 0 8 c Q) : picks m = parts Q := by
  funext c i
  unfold picks parts
  rw [h c, Layout.block_apply]
  refine congrArg Q (funext fun a => ?_)
  match a with
  | 0 => exact Fin.ext (show c.val * 2048 + i.val = i.val + 2048 * c.val by omega)
  | 1 => exact Fin.ext rfl

theorem entryOf_eq (h : ∀ c : Fin 8, xstg m c = Layout.block ⟨2, ![2048, 512]⟩ ⟨2, ![16384, 512]⟩ 0 8 c X) (c : Fin 8) (i : Fin 2048) (d : Fin 512) :
    entryOf m c i d = X (ix2 (all c i) d) := by
  unfold entryOf
  rw [h c, Layout.block_apply]
  refine congrArg X (funext fun a => ?_)
  match a with
  | 0 => exact Fin.ext (show c.val * 2048 + i.val = i.val + 2048 * c.val by omega)
  | 1 => exact Fin.ext rfl

theorem wgt_eq (h : ∀ c : Fin 8, wstg m c = Layout.block ⟨3, ![8, 512, 1024]⟩ ⟨3, ![64, 512, 1024]⟩ 0 8 c E) (e : Fin 64) (d : Fin 512) (r : Fin 1024) :
    wgt m e d r = E (ix3 e d r) := by
  unfold wgt
  rw [h (dev e), Layout.block_apply]
  refine congrArg E (funext fun a => ?_)
  match a with
  | 0 => exact Fin.ext (show e.val / 8 * 8 + e.val % 8 = e.val by omega)
  | 1 => exact Fin.ext rfl
  | 2 => exact Fin.ext rfl

/-- A token keeps its place in the kernel exactly if it does in the reference. -/
theorem kept_iff {R : Fin 8 → Fin 2048 → BitVec 32} (hf : Fits R) {c : Fin 8} {i : Fin 2048} {e : Fin 64} (h : R c i = BitVec.ofNat 32 e.val) :
    rnk R c i e < share R c e ↔ prv R c e + rnk R c i e < 204 := by
  have h1 := rnk_lt h
  have h2 := hf.1 c e
  unfold share
  omega

theorem out_eq (hX : ∀ c : Fin 8, xstg m c = Layout.block ⟨2, ![2048, 512]⟩ ⟨2, ![16384, 512]⟩ 0 8 c X)
    (hQ : ∀ c : Fin 8, rstg m c = Layout.block ⟨2, ![2048, 1]⟩ ⟨2, ![16384, 1]⟩ 0 8 c Q)
    (hE : ∀ c : Fin 8, wstg m c = Layout.block ⟨3, ![8, 512, 1024]⟩ ⟨3, ![64, 512, 1024]⟩ 0 8 c E)
    (hf : Fits (picks m)) (c : Fin 8) (i : Fin 2048) (r : Fin 1024) : outAt m c (ix2 i r) = answer X Q E (ix2 (all c i) r) := by
  have hp := picks_eq m Q hQ
  by_cases h : ∃ e : Fin 64, picks m c i = BitVec.ofNat 32 e.val
  · obtain ⟨e, he⟩ := h
    have he' : parts Q c i = BitVec.ofNat 32 e.val := by rw [← hp]; exact he
    have hk := kept_iff hf he
    refine Eq.trans ?_ (answer_hit X Q E he' r).symm
    rw [← hp]
    by_cases hs : rnk (picks m) c i e < share (picks m) c e
    · rw [if_pos (hk.mp hs)]
      have e1 : (∑ d : Fin 512, entryOf m c i d * wgt m e d r) = prod X E (all c i) e r := Finset.sum_congr rfl fun d _ => by
        rw [entryOf_eq m X hX, wgt_eq m E hE]
      exact (out_hit m hf he hs r).trans e1
    · rw [if_neg fun hc => hs (hk.mpr hc)]
      exact out_none m (fun x hx => hs ((sits_hit he).mp hx).1) r
  · have hn : ∀ e : Fin 64, picks m c i ≠ BitVec.ofNat 32 e.val := fun e he => h ⟨e, he⟩
    exact (out_none m (fun x => sits_miss hn) r).trans (answer_miss X Q E (by rw [← hp]; exact hn) r).symm

/-- A device's result is its block of the reference's. -/
theorem out_block (hX : ∀ c : Fin 8, xstg m c = Layout.block ⟨2, ![2048, 512]⟩ ⟨2, ![16384, 512]⟩ 0 8 c X)
    (hQ : ∀ c : Fin 8, rstg m c = Layout.block ⟨2, ![2048, 1]⟩ ⟨2, ![16384, 1]⟩ 0 8 c Q)
    (hE : ∀ c : Fin 8, wstg m c = Layout.block ⟨3, ![8, 512, 1024]⟩ ⟨3, ![64, 512, 1024]⟩ 0 8 c E)
    (hf : Fits (picks m)) (c : Fin 8) : outAt m c = Layout.block ⟨2, ![2048, 1024]⟩ ⟨2, ![16384, 1024]⟩ 0 8 c (answer X Q E) :=
  funext fun (j : (⟨2, ![2048, 1024]⟩ : Shape).Idx) => by
    obtain ⟨i, r, rfl⟩ : ∃ (i : Fin 2048) (r : Fin 1024), j = ix2 i r := ⟨j 0, j 1, funext fun a => match a with | 0 => rfl | 1 => rfl⟩
    refine (out_eq m X Q E hX hQ hE hf c i r).trans (congrArg (answer X Q E) (funext fun a => ?_))
    match a with
    | 0 => exact Fin.ext (show i.val + 2048 * c.val = c.val * 2048 + i.val by omega)
    | 1 => exact Fin.ext rfl

end

/-- The precondition, as numbers of the routing. -/
theorem fits_of (m : (ℓ : Loc Cert.KernelIdeal.nD Cert.KernelIdeal.τ Cert.KernelIdeal.sig) → Buf (Elt Ideal) ℓ)
    (h : Cert.Pre_KernelIdeal_fits_KernelIdeal m) : Fits (picks m) := by
  have hn : ∀ (c : Dev Cert.KernelIdeal.nD) (e : Fin 64), num (picks m) c e =
      tally (m (((c : Dev Cert.KernelIdeal.nD) : Thread Cert.KernelIdeal.nD Cert.KernelIdeal.τ).loc Cert.KernelIdeal.main_arg2)) e.val := fun c e => by
    unfold num hot picks tally
    rw [rstg_eq]
  refine ⟨fun c e => ?_, fun c q => ?_⟩
  · rw [hn]
    exact (room _ _ _ _ (h c)).1 e
  · have h2 := (room _ _ _ _ (h c)).2 q
    refine le_trans (le_of_eq (Finset.sum_congr rfl fun k _ => ?_)) h2
    rw [hn, show (ex q k).val = q.val * 8 + k.val from by show 8 * q.val + k.val = _; omega]

/-- With exact arithmetic, and where the exchange has room, the kernel's result is the reference's. -/
theorem algebraic : Cert.algebraic_KernelIdeal_ReferenceIdeal_pre_fits_KernelIdeal := by
  intro m g m' g' hpre hargs
  have hf := fits_of m hpre
  refine ⟨answer (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg2))
    (m' (((0 : Dev Cert.ReferenceIdeal.nD).tc : Thread Cert.ReferenceIdeal.nD Cert.ReferenceIdeal.τ).loc Cert.ReferenceIdeal.main_arg3)), ?_, ?_⟩
  · refine (θ_run _ _ _).mono (fun r h c => ?_) (run_done m g)
    obtain ⟨h0, h1⟩ := h.1 c
    exact ⟨h0.trans (out_block m _ _ _ (fun c => (xstg_eq m c).trans (hargs c).1) (fun c => (rstg_eq m c).trans (hargs c).2.2.1)
      (fun c => (wstg_eq m c).trans (hargs c).2.2.2) hf c), h1⟩
  · exact (θ_run _ _ _).mono (fun r h => h 0) (Cert.ReferenceIdeal.Value.run m' g')

end Cert.MoE

end
-- ==== Proof.lean ====
/- The certificate of the packed mixture-of-experts exchange: every run of the kernel and of the reference ends, with its
   arguments unchanged and every counter at zero; the kernel and the ideal kernel are one program; and where the packed
   exchange has room, the ideal kernel's result is the reference's. The parts are proved under Proof/. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Value
public import Idealize.ShloMosaic.Adequacy
public import Idealize.ShloMosaic.Init

@[expose] public section

noncomputable section

namespace Cert.Proof

open Idealize.ShloMosaic Idealize.SL.Sem Cert.Kernel

/-- Everything the certificate claims. -/
theorem claim : Cert.Claim :=
  ⟨Cert.Kernel.Gen.facts, Cert.KernelIdeal.Gen.facts, Cert.ReferenceIdeal.Gen.facts, Cert.MoE.room_kernel, Cert.MoE.room_reference,
    Cert.MoE.frame_kernel, Cert.MoE.frame_kernelIdeal, fun m ρ _ => Cert.MoE.frame_kernelIdeal m ρ trivial,
    Cert.MoE.frame_reference, fun m ρ _ => Cert.MoE.frame_reference m ρ trivial, trivial, Cert.MoE.algebraic⟩

end Cert.Proof

end
